-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens [hPre_finite_tokens : Cert.Pre_finite_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens [hPre_finite_tokens : Cert.Pre_finite_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_sample [hPre_finite_sample : Cert.Pre_finite_sample.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_sample.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite_sample.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite_sample.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_sample [hPre_finite_sample : Cert.Pre_finite_sample.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_sample.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite_sample.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite_sample.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_tokens [hKernelIdeal : Cert.KernelIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_tokens [hReferenceIdeal : Cert.ReferenceIdeal.Facts] [hPre_finite_tokens : Cert.Pre_finite_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_sample [hKernel8Ideal : Cert.Kernel8Ideal.Facts] [hPre_finite_sample : Cert.Pre_finite_sample.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_sample m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_sample [hReference8Ideal : Cert.Reference8Ideal.Facts] [hPre_finite_sample : Cert.Pre_finite_sample.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_sample m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite_tokens [hKernelIdeal : Cert.KernelIdeal.Facts] [hReferenceIdeal : Cert.ReferenceIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v26_2)) (v1 : (c : Dev Cert.Kernel4Ideal.nD) → Buf (Elt Ideal) ((c.tc : Thread Cert.Kernel4Ideal.nD Cert.Kernel4Ideal.τ).loc Cert.Kernel4Ideal.main_v26_3)) (v2 : (c : Dev Cert.Kernel4Ideal.nD) → Buf (Elt Ideal) ((c.tc : Thread Cert.Kernel4Ideal.nD Cert.Kernel4Ideal.τ).loc Cert.Kernel4Ideal.main_v26_7)) (v3 : (c : Dev Cert.Kernel4Ideal.nD) → Buf (Elt Ideal) ((c.tc : Thread Cert.Kernel4Ideal.nD Cert.Kernel4Ideal.τ).loc Cert.Kernel4Ideal.main_v26_8)) (v4 : (c : Dev Cert.Kernel4Ideal.nD) → Buf (Elt Ideal) ((c.tc : Thread Cert.Kernel4Ideal.nD Cert.Kernel4Ideal.τ).loc Cert.Kernel4Ideal.main_v26_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_2) = v0 c
          ∧ r.2.mem ((c.tc : Thread Cert.Kernel4Ideal.nD Cert.Kernel4Ideal.τ).loc Cert.Kernel4Ideal.main_v26_3) = v1 c
          ∧ r.2.mem ((c.tc : Thread Cert.Kernel4Ideal.nD Cert.Kernel4Ideal.τ).loc Cert.Kernel4Ideal.main_v26_7) = v2 c
          ∧ r.2.mem ((c.tc : Thread Cert.Kernel4Ideal.nD Cert.Kernel4Ideal.τ).loc Cert.Kernel4Ideal.main_v26_8) = v3 c
          ∧ r.2.mem ((c.tc : Thread Cert.Kernel4Ideal.nD Cert.Kernel4Ideal.τ).loc Cert.Kernel4Ideal.main_v26_9) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_v49) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v25_2)) (v1 : (c : Dev Cert.Kernel6Ideal.nD) → Buf (Elt Ideal) ((c.tc : Thread Cert.Kernel6Ideal.nD Cert.Kernel6Ideal.τ).loc Cert.Kernel6Ideal.main_v25_3)) (v2 : (c : Dev Cert.Kernel6Ideal.nD) → Buf (Elt Ideal) ((c.tc : Thread Cert.Kernel6Ideal.nD Cert.Kernel6Ideal.τ).loc Cert.Kernel6Ideal.main_v25_7)) (v3 : (c : Dev Cert.Kernel6Ideal.nD) → Buf (Elt Ideal) ((c.tc : Thread Cert.Kernel6Ideal.nD Cert.Kernel6Ideal.τ).loc Cert.Kernel6Ideal.main_v25_8)) (v4 : (c : Dev Cert.Kernel6Ideal.nD) → Buf (Elt Ideal) ((c.tc : Thread Cert.Kernel6Ideal.nD Cert.Kernel6Ideal.τ).loc Cert.Kernel6Ideal.main_v25_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_2) = v0 c
          ∧ r.2.mem ((c.tc : Thread Cert.Kernel6Ideal.nD Cert.Kernel6Ideal.τ).loc Cert.Kernel6Ideal.main_v25_3) = v1 c
          ∧ r.2.mem ((c.tc : Thread Cert.Kernel6Ideal.nD Cert.Kernel6Ideal.τ).loc Cert.Kernel6Ideal.main_v25_7) = v2 c
          ∧ r.2.mem ((c.tc : Thread Cert.Kernel6Ideal.nD Cert.Kernel6Ideal.τ).loc Cert.Kernel6Ideal.main_v25_8) = v3 c
          ∧ r.2.mem ((c.tc : Thread Cert.Kernel6Ideal.nD Cert.Kernel6Ideal.τ).loc Cert.Kernel6Ideal.main_v25_9) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v46) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_v49) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite_sample [hKernel8Ideal : Cert.Kernel8Ideal.Facts] [hReference8Ideal : Cert.Reference8Ideal.Facts] [hPre_finite_sample : Cert.Pre_finite_sample.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_sample m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v170) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_tokens : Cert.Pre_finite_tokens.Facts) (hPre_finite_sample : Cert.Pre_finite_sample.Facts),
    quiescent_Kernel (hKernel := hKernel)
    ∧ quiescent_KernelIdeal (hKernelIdeal := hKernelIdeal)
    ∧ quiescent_KernelIdeal_pre_finite_tokens (hKernelIdeal := hKernelIdeal) (hPre_finite_tokens := hPre_finite_tokens)
    ∧ quiescent_ReferenceIdeal (hReferenceIdeal := hReferenceIdeal)
    ∧ quiescent_ReferenceIdeal_pre_finite_tokens (hReferenceIdeal := hReferenceIdeal) (hPre_finite_tokens := hPre_finite_tokens)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_sample (hKernel8Ideal := hKernel8Ideal) (hPre_finite_sample := hPre_finite_sample)
    ∧ quiescent_Reference8Ideal (hReference8Ideal := hReference8Ideal)
    ∧ quiescent_Reference8Ideal_pre_finite_sample (hReference8Ideal := hReference8Ideal) (hPre_finite_sample := hPre_finite_sample)
    ∧ preserves_Kernel_KernelIdeal
    ∧ algebraic_KernelIdeal_ReferenceIdeal_pre_finite_tokens (hKernelIdeal := hKernelIdeal) (hReferenceIdeal := hReferenceIdeal) (hPre_finite_tokens := hPre_finite_tokens)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_sample (hKernel8Ideal := hKernel8Ideal) (hReference8Ideal := hReference8Ideal) (hPre_finite_sample := hPre_finite_sample)
-- ==== Pre_finite_sample.lean ====
abbrev S128x1024 : Shape := ⟨2, ![128, 1024]⟩
abbrev S2x1024 : Shape := ⟨2, ![2, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S_ : Shape := ⟨0, ![]⟩

class Facts : Prop where
  bcast_S_S128x1024 : S_.BroadcastsInDim S128x1024 (![] : Fin 0 → Fin S128x1024.rank)
  bcast_S_S2x1024 : S_.BroadcastsInDim S2x1024 (![] : Fin 0 → Fin S2x1024.rank)
  bcast_S_S1x1024x8 : S_.BroadcastsInDim S1x1024x8 (![] : Fin 0 → Fin S1x1024x8.rank)

variable [Facts]

def fn {F : FTy → Type} [FloatOps F] (main_arg0 : FVec F S128x1024 .f32) (main_arg1 : FVec F S2x1024 .f32) (main_arg2 : FVec F S1x1024x8 .f32) (main_arg3 : FVec F S1x8x1024x3584 .f32) (main_arg4 : FVec F S1x8x1024x3584 .f32) (main_arg5 : FVec F S1x8x3584x1024 .f32) (main_arg6 : FVec F S1024 .f32) : IVec S128x1024 1 × IVec S2x1024 1 × IVec S1x1024x8 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x8 .f32 := Host.absf main_arg2
  let main_cst_1 : FVec F S_ .f32 := constant S_ .f32 0x7F800000#32
  let main_v7 : FVec F S1x1024x8 .f32 := broadcastInDim S1x1024x8 ![] bcast_S_S1x1024x8 main_cst_1
  let main_v8 : IVec S1x1024x8 1 := cmpf .olt main_v6 main_v7
  (main_v2, main_v5, main_v8)
-- ==== Pre_finite_tokens.lean ====
abbrev S65536x1024 : Shape := ⟨2, ![65536, 1024]⟩
abbrev S2x1024 : Shape := ⟨2, ![2, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  bcast_S_S2x1024 : S_.BroadcastsInDim S2x1024 (![] : Fin 0 → Fin S2x1024.rank)
  bcast_S_S1x1024x8 : S_.BroadcastsInDim S1x1024x8 (![] : Fin 0 → Fin S1x1024x8.rank)

variable [Facts]

def fn {F : FTy → Type} [FloatOps F] (main_arg0 : FVec F S65536x1024 .f32) (main_arg1 : FVec F S2x1024 .f32) (main_arg2 : FVec F S1x1024x8 .f32) (main_arg3 : FVec F S1x8x1024x3584 .f32) (main_arg4 : FVec F S1x8x1024x3584 .f32) (main_arg5 : FVec F S1x8x3584x1024 .f32) (main_arg6 : FVec F S1024 .f32) : IVec S65536x1024 1 × IVec S2x1024 1 × IVec S1x1024x8 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x8 .f32 := Host.absf main_arg2
  let main_cst_1 : FVec F S_ .f32 := constant S_ .f32 0x7F800000#32
  let main_v7 : FVec F S1x1024x8 .f32 := broadcastInDim S1x1024x8 ![] bcast_S_S1x1024x8 main_cst_1
  let main_v8 : IVec S1x1024x8 1 := cmpf .olt main_v6 main_v7
  (main_v2, main_v5, main_v8)
-- ==== Kernel.lean ====
abbrev S65536x1024 : Shape := ⟨2, ![65536, 1024]⟩
abbrev S2x1024 : Shape := ⟨2, ![2, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 23
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x8, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S1024, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8x1024x3584, .f32⟩
  | .hbm, ⟨16, _⟩ => ⟨S8x1024x3584, .bf16⟩
  | .hbm, ⟨17, _⟩ => ⟨S8x1024x3584, .f32⟩
  | .hbm, ⟨18, _⟩ => ⟨S8x1024x3584, .bf16⟩
  | .hbm, ⟨19, _⟩ => ⟨S8x3584x1024, .f32⟩
  | .hbm, ⟨20, _⟩ => ⟨S8x3584x1024, .bf16⟩
  | .hbm, ⟨21, _⟩ => ⟨S1x1024, .f32⟩
  | .hbm, ⟨22, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![64, 8, 7], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S65536x1024 : Shape := ⟨2, ![65536, 1024]⟩
abbrev S2x1024 : Shape := ⟨2, ![2, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1024x8 : Shape := ⟨2, ![1024, 8]⟩
abbrev S8x1024x3584 : Shape := ⟨3, ![8, 1024, 3584]⟩
abbrev S8x3584x1024 : Shape := ⟨3, ![8, 3584, 1024]⟩
abbrev S65536x8 : Shape := ⟨2, ![65536, 8]⟩
abbrev S65536x2 : Shape := ⟨2, ![65536, 2]⟩
abbrev S65536x2x1 : Shape := ⟨3, ![65536, 2, 1]⟩
abbrev S1x1x8 : Shape := ⟨3, ![1, 1, 8]⟩
abbrev S65536x2x8 : Shape := ⟨3, ![65536, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S65536x3584 : Shape := ⟨2, ![65536, 3584]⟩

abbrev nBuf : Space → Nat
  | .hbm => 260
  | .vmem => 0
  | .smem => 0
  | _ => 0

abbrev hbmTy0_0 (i : Nat) : BufTy := match i % 128 with
  | 0 => ⟨S65536x1024, .f32⟩
  | 1 => ⟨S2x1024, .f32⟩
  | 2 => ⟨S1x1024x8, .f32⟩
  | 3 => ⟨S1x8x1024x3584, .f32⟩
  | 4 => ⟨S1x8x1024x3584, .f32⟩
  | 5 => ⟨S1x8x3584x1024, .f32⟩
  | 6 => ⟨S1024, .f32⟩
  | 7 => ⟨S1x1024, .f32⟩
  | 8 => ⟨S1024, .f32⟩
  | 9 => ⟨S65536x1024, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x1, .f32⟩
  | 20 => ⟨S65536x1024, .f32⟩
  | 21 => ⟨S65536x1024, .f32⟩
  | 22 => ⟨S1x1024, .f32⟩
  | 23 => ⟨S65536x1024, .f32⟩
  | 24 => ⟨S65536x1024, .f32⟩
  | 25 => ⟨S1024x8, .f32⟩
  | 26 => ⟨S8x1024x3584, .f32⟩
  | 27 => ⟨S8x1024x3584, .f32⟩
  | 28 => ⟨S8x3584x1024, .f32⟩
  | 29 => ⟨S65536x8, .f32⟩
  | 30 => ⟨S65536x2, .f32⟩
  | 31 => ⟨S65536x2, .i32⟩
  | 32 => ⟨S_, .f32⟩
  | 33 => ⟨S65536, .f32⟩
  | 34 => ⟨S_, .f32⟩
  | 35 => ⟨S65536, .f32⟩
  | 36 => ⟨S65536, .f32⟩
  | 37 => ⟨S65536x1, .f32⟩
  | 38 => ⟨S65536x2, .f32⟩
  | 39 => ⟨S65536x2, .f32⟩
  | 40 => ⟨S65536x2, .f32⟩
  | 41 => ⟨S_, .f32⟩
  | 42 => ⟨S65536, .f32⟩
  | 43 => ⟨S65536x1, .f32⟩
  | 44 => ⟨S65536x2, .f32⟩
  | 45 => ⟨S65536x2, .f32⟩
  | 46 => ⟨S65536x2x1, .i32⟩
  | 47 => ⟨S1x1x8, .i32⟩
  | 48 => ⟨S65536x2x8, .i32⟩
  | 49 => ⟨S65536x2x8, .i32⟩
  | 50 => ⟨S65536x2x8, .i1⟩
  | 51 => ⟨S65536x2x8, .f32⟩
  | 52 => ⟨S65536x2x1, .f32⟩
  | 53 => ⟨S65536x2x8, .f32⟩
  | 54 => ⟨S65536x2x8, .f32⟩
  | 55 => ⟨S_, .f32⟩
  | 56 => ⟨S65536x8, .f32⟩
  | 57 => ⟨S_, .f32⟩
  | 58 => ⟨S65536x1024, .f32⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S65536x3584, .f32⟩
  | 66 => ⟨S65536x3584, .f32⟩
  | 67 => ⟨S65536x3584, .f32⟩
  | 68 => ⟨S_, .f32⟩
  | 69 => ⟨S65536x3584, .f32⟩
  | 70 => ⟨S65536x3584, .f32⟩
  | 71 => ⟨S_, .f32⟩
  | 72 => ⟨S65536x3584, .f32⟩
  | 73 => ⟨S65536x3584, .f32⟩
  | 74 => ⟨S65536x3584, .f32⟩
  | 75 => ⟨S65536x3584, .f32⟩
  | 76 => ⟨S65536x3584, .f32⟩
  | 77 => ⟨S65536x1024, .f32⟩
  | 78 => ⟨S65536x1, .f32⟩
  | 79 => ⟨S65536x1024, .f32⟩
  | 80 => ⟨S65536x1024, .f32⟩
  | 81 => ⟨S65536x1024, .f32⟩
  | 82 => ⟨S1x1024x3584, .f32⟩
  | 83 => ⟨S1024x3584, .f32⟩
  | 84 => ⟨S1x1024x3584, .f32⟩
  | 85 => ⟨S1024x3584, .f32⟩
  | 86 => ⟨S1x3584x1024, .f32⟩
  | 87 => ⟨S3584x1024, .f32⟩
  | 88 => ⟨S65536x3584, .f32⟩
  | 89 => ⟨S65536x3584, .f32⟩
  | 90 => ⟨S65536x3584, .f32⟩
  | 91 => ⟨S_, .f32⟩
  | 92 => ⟨S65536x3584, .f32⟩
  | 93 => ⟨S65536x3584, .f32⟩
  | 94 => ⟨S_, .f32⟩
  | 95 => ⟨S65536x3584, .f32⟩
  | 96 => ⟨S65536x3584, .f32⟩
  | 97 => ⟨S65536x3584, .f32⟩
  | 98 => ⟨S65536x3584, .f32⟩
  | 99 => ⟨S65536x3584, .f32⟩
  | 100 => ⟨S65536x1024, .f32⟩
  | 101 => ⟨S65536x1, .f32⟩
  | 102 => ⟨S65536x1024, .f32⟩
  | 103 => ⟨S65536x1024, .f32⟩
  | 104 => ⟨S65536x1024, .f32⟩
  | 105 => ⟨S1x1024x3584, .f32⟩
  | 106 => ⟨S1024x3584, .f32⟩
  | 107 => ⟨S1x1024x3584, .f32⟩
  | 108 => ⟨S1024x3584, .f32⟩
  | 109 => ⟨S1x3584x1024, .f32⟩
  | 110 => ⟨S3584x1024, .f32⟩
  | 111 => ⟨S65536x3584, .f32⟩
  | 112 => ⟨S65536x3584, .f32⟩
  | 113 => ⟨S65536x3584, .f32⟩
  | 114 => ⟨S_, .f32⟩
  | 115 => ⟨S65536x3584, .f32⟩
  | 116 => ⟨S65536x3584, .f32⟩
  | 117 => ⟨S_, .f32⟩
  | 118 => ⟨S65536x3584, .f32⟩
  | 119 => ⟨S65536x3584, .f32⟩
  | 120 => ⟨S65536x3584, .f32⟩
  | 121 => ⟨S65536x3584, .f32⟩
  | 122 => ⟨S65536x3584, .f32⟩
  | 123 => ⟨S65536x1024, .f32⟩
  | 124 => ⟨S65536x1, .f32⟩
  | 125 => ⟨S65536x1024, .f32⟩
  | 126 => ⟨S65536x1024, .f32⟩
  | 127 => ⟨S65536x1024, .f32⟩
  | _ => ⟨S65536x1024, .f32⟩

abbrev hbmTy0_1 (i : Nat) : BufTy := match i % 128 with
  | 0 => ⟨S1x1024x3584, .f32⟩
  | 1 => ⟨S1024x3584, .f32⟩
  | 2 => ⟨S1x1024x3584, .f32⟩
  | 3 => ⟨S1024x3584, .f32⟩
  | 4 => ⟨S1x3584x1024, .f32⟩
  | 5 => ⟨S3584x1024, .f32⟩
  | 6 => ⟨S65536x3584, .f32⟩
  | 7 => ⟨S65536x3584, .f32⟩
  | 8 => ⟨S65536x3584, .f32⟩
  | 9 => ⟨S_, .f32⟩
  | 10 => ⟨S65536x3584, .f32⟩
  | 11 => ⟨S65536x3584, .f32⟩
  | 12 => ⟨S_, .f32⟩
  | 13 => ⟨S65536x3584, .f32⟩
  | 14 => ⟨S65536x3584, .f32⟩
  | 15 => ⟨S65536x3584, .f32⟩
  | 16 => ⟨S65536x3584, .f32⟩
  | 17 => ⟨S65536x3584, .f32⟩
  | 18 => ⟨S65536x1024, .f32⟩
  | 19 => ⟨S65536x1, .f32⟩
  | 20 => ⟨S65536x1024, .f32⟩
  | 21 => ⟨S65536x1024, .f32⟩
  | 22 => ⟨S65536x1024, .f32⟩
  | 23 => ⟨S1x1024x3584, .f32⟩
  | 24 => ⟨S1024x3584, .f32⟩
  | 25 => ⟨S1x1024x3584, .f32⟩
  | 26 => ⟨S1024x3584, .f32⟩
  | 27 => ⟨S1x3584x1024, .f32⟩
  | 28 => ⟨S3584x1024, .f32⟩
  | 29 => ⟨S65536x3584, .f32⟩
  | 30 => ⟨S65536x3584, .f32⟩
  | 31 => ⟨S65536x3584, .f32⟩
  | 32 => ⟨S_, .f32⟩
  | 33 => ⟨S65536x3584, .f32⟩
  | 34 => ⟨S65536x3584, .f32⟩
  | 35 => ⟨S_, .f32⟩
  | 36 => ⟨S65536x3584, .f32⟩
  | 37 => ⟨S65536x3584, .f32⟩
  | 38 => ⟨S65536x3584, .f32⟩
  | 39 => ⟨S65536x3584, .f32⟩
  | 40 => ⟨S65536x3584, .f32⟩
  | 41 => ⟨S65536x1024, .f32⟩
  | 42 => ⟨S65536x1, .f32⟩
  | 43 => ⟨S65536x1024, .f32⟩
  | 44 => ⟨S65536x1024, .f32⟩
  | 45 => ⟨S65536x1024, .f32⟩
  | 46 => ⟨S1x1024x3584, .f32⟩
  | 47 => ⟨S1024x3584, .f32⟩
  | 48 => ⟨S1x1024x3584, .f32⟩
  | 49 => ⟨S1024x3584, .f32⟩
  | 50 => ⟨S1x3584x1024, .f32⟩
  | 51 => ⟨S3584x1024, .f32⟩
  | 52 => ⟨S65536x3584, .f32⟩
  | 53 => ⟨S65536x3584, .f32⟩
  | 54 => ⟨S65536x3584, .f32⟩
  | 55 => ⟨S_, .f32⟩
  | 56 => ⟨S65536x3584, .f32⟩
  | 57 => ⟨S65536x3584, .f32⟩
  | 58 => ⟨S_, .f32⟩
  | 59 => ⟨S65536x3584, .f32⟩
  | 60 => ⟨S65536x3584, .f32⟩
  | 61 => ⟨S65536x3584, .f32⟩
  | 62 => ⟨S65536x3584, .f32⟩
  | 63 => ⟨S65536x3584, .f32⟩
  | 64 => ⟨S65536x1024, .f32⟩
  | 65 => ⟨S65536x1, .f32⟩
  | 66 => ⟨S65536x1024, .f32⟩
  | 67 => ⟨S65536x1024, .f32⟩
  | 68 => ⟨S65536x1024, .f32⟩
  | 69 => ⟨S1x1024x3584, .f32⟩
  | 70 => ⟨S1024x3584, .f32⟩
  | 71 => ⟨S1x1024x3584, .f32⟩
  | 72 => ⟨S1024x3584, .f32⟩
  | 73 => ⟨S1x3584x1024, .f32⟩
  | 74 => ⟨S3584x1024, .f32⟩
  | 75 => ⟨S65536x3584, .f32⟩
  | 76 => ⟨S65536x3584, .f32⟩
  | 77 => ⟨S65536x3584, .f32⟩
  | 78 => ⟨S_, .f32⟩
  | 79 => ⟨S65536x3584, .f32⟩
  | 80 => ⟨S65536x3584, .f32⟩
  | 81 => ⟨S_, .f32⟩
  | 82 => ⟨S65536x3584, .f32⟩
  | 83 => ⟨S65536x3584, .f32⟩
  | 84 => ⟨S65536x3584, .f32⟩
  | 85 => ⟨S65536x3584, .f32⟩
  | 86 => ⟨S65536x3584, .f32⟩
  | 87 => ⟨S65536x1024, .f32⟩
  | 88 => ⟨S65536x1, .f32⟩
  | 89 => ⟨S65536x1024, .f32⟩
  | 90 => ⟨S65536x1024, .f32⟩
  | 91 => ⟨S65536x1024, .f32⟩
  | 92 => ⟨S1x1024x3584, .f32⟩
  | 93 => ⟨S1024x3584, .f32⟩
  | 94 => ⟨S1x1024x3584, .f32⟩
  | 95 => ⟨S1024x3584, .f32⟩
  | 96 => ⟨S1x3584x1024, .f32⟩
  | 97 => ⟨S3584x1024, .f32⟩
  | 98 => ⟨S65536x3584, .f32⟩
  | 99 => ⟨S65536x3584, .f32⟩
  | 100 => ⟨S65536x3584, .f32⟩
  | 101 => ⟨S_, .f32⟩
  | 102 => ⟨S65536x3584, .f32⟩
  | 103 => ⟨S65536x3584, .f32⟩
  | 104 => ⟨S_, .f32⟩
  | 105 => ⟨S65536x3584, .f32⟩
  | 106 => ⟨S65536x3584, .f32⟩
  | 107 => ⟨S65536x3584, .f32⟩
  | 108 => ⟨S65536x3584, .f32⟩
  | 109 => ⟨S65536x3584, .f32⟩
  | 110 => ⟨S65536x1024, .f32⟩
  | 111 => ⟨S65536x1, .f32⟩
  | 112 => ⟨S65536x1024, .f32⟩
  | 113 => ⟨S65536x1024, .f32⟩
  | 114 => ⟨S65536x1024, .f32⟩
  | 115 => ⟨S65536x1024, .f32⟩
  | 116 => ⟨S65536x1024, .f32⟩
  | 117 => ⟨S_, .f32⟩
  | 118 => ⟨S65536, .f32⟩
  | 119 => ⟨S65536x1, .f32⟩
  | 120 => ⟨S_, .f32⟩
  | 121 => ⟨S65536x1, .f32⟩
  | 122 => ⟨S65536x1, .f32⟩
  | 123 => ⟨S_, .f32⟩
  | 124 => ⟨S65536x1, .f32⟩
  | 125 => ⟨S65536x1, .f32⟩
  | 126 => ⟨S65536x1, .f32⟩
  | 127 => ⟨S65536x1024, .f32⟩
  | _ => ⟨S65536x1024, .f32⟩

abbrev hbmTy0_2 (i : Nat) : BufTy := match i % 128 with
  | 0 => ⟨S65536x1024, .f32⟩
  | 1 => ⟨S1x1024, .f32⟩
  | 2 => ⟨S65536x1024, .f32⟩
  | 3 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_values : Ref sig .tc := ⟨.hbm, 30, rfl⟩
abbrev main_indices : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call5_v0 : Ref sig .tc := ⟨.hbm, 158, rfl⟩
abbrev main_call5_v1 : Ref sig .tc := ⟨.hbm, 159, rfl⟩
abbrev main_call5_cst : Ref sig .tc := ⟨.hbm, 160, rfl⟩
abbrev main_call5_v2 : Ref sig .tc := ⟨.hbm, 161, rfl⟩
abbrev main_call5_v3 : Ref sig .tc := ⟨.hbm, 162, rfl⟩
abbrev main_call5_cst_0 : Ref sig .tc := ⟨.hbm, 163, rfl⟩
abbrev main_call5_v4 : Ref sig .tc := ⟨.hbm, 164, rfl⟩
abbrev main_call5_v5 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_call6_v0 : Ref sig .tc := ⟨.hbm, 181, rfl⟩
abbrev main_call6_v1 : Ref sig .tc := ⟨.hbm, 182, rfl⟩
abbrev main_call6_cst : Ref sig .tc := ⟨.hbm, 183, rfl⟩
abbrev main_call6_v2 : Ref sig .tc := ⟨.hbm, 184, rfl⟩
abbrev main_call6_v3 : Ref sig .tc := ⟨.hbm, 185, rfl⟩
abbrev main_call6_cst_0 : Ref sig .tc := ⟨.hbm, 186, rfl⟩
abbrev main_call6_v4 : Ref sig .tc := ⟨.hbm, 187, rfl⟩
abbrev main_call6_v5 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_call7_v0 : Ref sig .tc := ⟨.hbm, 204, rfl⟩
abbrev main_call7_v1 : Ref sig .tc := ⟨.hbm, 205, rfl⟩
abbrev main_call7_cst : Ref sig .tc := ⟨.hbm, 206, rfl⟩
abbrev main_call7_v2 : Ref sig .tc := ⟨.hbm, 207, rfl⟩
abbrev main_call7_v3 : Ref sig .tc := ⟨.hbm, 208, rfl⟩
abbrev main_call7_cst_0 : Ref sig .tc := ⟨.hbm, 209, rfl⟩
abbrev main_call7_v4 : Ref sig .tc := ⟨.hbm, 210, rfl⟩
abbrev main_call7_v5 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_call8_v0 : Ref sig .tc := ⟨.hbm, 227, rfl⟩
abbrev main_call8_v1 : Ref sig .tc := ⟨.hbm, 228, rfl⟩
abbrev main_call8_cst : Ref sig .tc := ⟨.hbm, 229, rfl⟩
abbrev main_call8_v2 : Ref sig .tc := ⟨.hbm, 230, rfl⟩
abbrev main_call8_v3 : Ref sig .tc := ⟨.hbm, 231, rfl⟩
abbrev main_call8_cst_0 : Ref sig .tc := ⟨.hbm, 232, rfl⟩
abbrev main_call8_v4 : Ref sig .tc := ⟨.hbm, 233, rfl⟩
abbrev main_call8_v5 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_cst_7 : Ref sig .tc := ⟨.hbm, 245, rfl⟩
abbrev main_v159 : Ref sig .tc := ⟨.hbm, 246, rfl⟩
abbrev main_v160 : Ref sig .tc := ⟨.hbm, 247, rfl⟩
abbrev main_cst_8 : Ref sig .tc := ⟨.hbm, 248, rfl⟩
abbrev main_v161 : Ref sig .tc := ⟨.hbm, 249, rfl⟩
abbrev main_v162 : Ref sig .tc := ⟨.hbm, 250, rfl⟩
abbrev main_cst_9 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩

abbrev nD : Nat := 1
abbrev τ : Topo := Topo.v7x

variable {F : FTy → Type} [FloatOps F]
-- ==== Kernel2.lean ====
abbrev S65536x1024 : Shape := ⟨2, ![65536, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S1x1024 : Shape := ⟨2, ![1, 1024]⟩
abbrev S1024 : Shape := ⟨1, ![1024]⟩
abbrev S1024x3584 : Shape := ⟨2, ![1024, 3584]⟩
abbrev S3584x1024 : Shape := ⟨2, ![3584, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x3584, .f32⟩
  | .hbm, ⟨9, _⟩ => ⟨S1024x3584, .bf16⟩
  | .hbm, ⟨10, _⟩ => ⟨S1024x3584, .f32⟩
  | .hbm, ⟨11, _⟩ => ⟨S1024x3584, .bf16⟩
  | .hbm, ⟨12, _⟩ => ⟨S3584x1024, .f32⟩
  | .hbm, ⟨13, _⟩ => ⟨S3584x1024, .bf16⟩
  | .hbm, ⟨14, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S65536x1024 : Shape := ⟨2, ![65536, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x3584 : Shape := ⟨2, ![1024, 3584]⟩
abbrev S3584x1024 : Shape := ⟨2, ![3584, 1024]⟩
abbrev S65536x3584 : Shape := ⟨2, ![65536, 3584]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1024x3584, .f32⟩
  | .hbm, ⟨24, _⟩ => ⟨S1024x3584, .f32⟩
  | .hbm, ⟨25, _⟩ => ⟨S3584x1024, .f32⟩
  | .hbm, ⟨26, _⟩ => ⟨S65536x3584, .f32⟩
  | .hbm, ⟨27, _⟩ => ⟨S65536x3584, .f32⟩
  | .hbm, ⟨28, _⟩ => ⟨S65536x3584, .f32⟩
  | .hbm, ⟨29, _⟩ => ⟨S_, .f32⟩
  | .hbm, ⟨30, _⟩ => ⟨S65536x3584, .f32⟩
  | .hbm, ⟨31, _⟩ => ⟨S65536x3584, .f32⟩
  | .hbm, ⟨32, _⟩ => ⟨S_, .f32⟩
  | .hbm, ⟨33, _⟩ => ⟨S65536x3584, .f32⟩
  | .hbm, ⟨34, _⟩ => ⟨S65536x3584, .f32⟩
  | .hbm, ⟨35, _⟩ => ⟨S65536x3584, .f32⟩
  | .hbm, ⟨36, _⟩ => ⟨S65536x3584, .f32⟩
  | .hbm, ⟨37, _⟩ => ⟨S65536x3584, .f32⟩
  | .hbm, ⟨38, _⟩ => ⟨S65536x1024, .f32⟩
  | .hbm, ⟨39, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel3.lean ====
abbrev S16x256x1024 : Shape := ⟨3, ![16, 256, 1024]⟩
abbrev S2x1024 : Shape := ⟨2, ![2, 1024]⟩
abbrev S2x1024x512 : Shape := ⟨3, ![2, 1024, 512]⟩
abbrev S4096x1024 : Shape := ⟨2, ![4096, 1024]⟩
abbrev S2x1x1024 : Shape := ⟨3, ![2, 1, 1024]⟩
abbrev S2x4096x512 : Shape := ⟨3, ![2, 4096, 512]⟩
abbrev S512x1024 : Shape := ⟨2, ![512, 1024]⟩
abbrev S1x1x1024 : Shape := ⟨3, ![1, 1, 1024]⟩
abbrev S1x1024x512 : Shape := ⟨3, ![1, 1024, 512]⟩
abbrev S1x512x512 : Shape := ⟨3, ![1, 512, 512]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x512, .f32⟩
  | .hbm, ⟨3, _⟩ => ⟨S2x1024x512, .f32⟩
  | .hbm, ⟨4, _⟩ => ⟨S4096x1024, .f32⟩
  | .hbm, ⟨5, _⟩ => ⟨S2x1x1024, .f32⟩
  | .hbm, ⟨6, _⟩ => ⟨S2x1024x512, .bf16⟩
  | .hbm, ⟨7, _⟩ => ⟨S2x1024x512, .bf16⟩
  | .hbm, ⟨8, _⟩ => ⟨S2x4096x512, .f32⟩
  | .hbm, ⟨9, _⟩ => ⟨S2x4096x512, .f32⟩
  | .hbm, ⟨10, _⟩ => ⟨S2x4096x512, .bf16⟩
  | .hbm, ⟨11, _⟩ => ⟨S2x4096x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16x256x1024 : Shape := ⟨3, ![16, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S16x256x512 : Shape := ⟨3, ![16, 256, 512]⟩
abbrev S4096x512 : Shape := ⟨2, ![4096, 512]⟩
abbrev S1x4096x512 : Shape := ⟨3, ![1, 4096, 512]⟩
abbrev S2x4096x512 : Shape := ⟨3, ![2, 4096, 512]⟩

abbrev nBuf : Space → Nat
  | .hbm => 62
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x512, .f32⟩
  | .hbm, ⟨3, _⟩ => ⟨S2x1024x512, .f32⟩
  | .hbm, ⟨4, _⟩ => ⟨S1x1024, .f32⟩
  | .hbm, ⟨5, _⟩ => ⟨S1024, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S1x1024x512, .f32⟩
  | .hbm, ⟨23, _⟩ => ⟨S1024x512, .f32⟩
  | .hbm, ⟨24, _⟩ => ⟨S16x256x512, .f32⟩
  | .hbm, ⟨25, _⟩ => ⟨S4096x512, .f32⟩
  | .hbm, ⟨26, _⟩ => ⟨S1x1024x512, .f32⟩
  | .hbm, ⟨27, _⟩ => ⟨S1024x512, .f32⟩
  | .hbm, ⟨28, _⟩ => ⟨S16x256x512, .f32⟩
  | .hbm, ⟨29, _⟩ => ⟨S4096x512, .f32⟩
  | .hbm, ⟨30, _⟩ => ⟨S1x1024, .f32⟩
  | .hbm, ⟨31, _⟩ => ⟨S1024, .f32⟩
  | .hbm, ⟨32, _⟩ => ⟨S16x256x1024, .f32⟩
  | .hbm, ⟨33, _⟩ => ⟨S_, .f32⟩
  | .hbm, ⟨34, _⟩ => ⟨S16x256, .f32⟩
  | .hbm, ⟨35, _⟩ => ⟨S16x256x1, .f32⟩
  | .hbm, ⟨36, _⟩ => ⟨S_, .f32⟩
  | .hbm, ⟨37, _⟩ => ⟨S16x256x1, .f32⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S16x256x1, .f32⟩
  | .hbm, ⟨43, _⟩ => ⟨S16x256x1024, .f32⟩
  | .hbm, ⟨44, _⟩ => ⟨S16x256x1024, .f32⟩
  | .hbm, ⟨45, _⟩ => ⟨S1x1x1024, .f32⟩
  | .hbm, ⟨46, _⟩ => ⟨S16x256x1024, .f32⟩
  | .hbm, ⟨47, _⟩ => ⟨S16x256x1024, .f32⟩
  | .hbm, ⟨48, _⟩ => ⟨S1x1024x512, .f32⟩
  | .hbm, ⟨49, _⟩ => ⟨S1024x512, .f32⟩
  | .hbm, ⟨50, _⟩ => ⟨S16x256x512, .f32⟩
  | .hbm, ⟨51, _⟩ => ⟨S4096x512, .f32⟩
  | .hbm, ⟨52, _⟩ => ⟨S1x1024x512, .f32⟩
  | .hbm, ⟨53, _⟩ => ⟨S1024x512, .f32⟩
  | .hbm, ⟨54, _⟩ => ⟨S16x256x512, .f32⟩
  | .hbm, ⟨55, _⟩ => ⟨S4096x512, .f32⟩
  | .hbm, ⟨56, _⟩ => ⟨S1x4096x512, .f32⟩
  | .hbm, ⟨57, _⟩ => ⟨S1x4096x512, .f32⟩
  | .hbm, ⟨58, _⟩ => ⟨S2x4096x512, .f32⟩
  | .hbm, ⟨59, _⟩ => ⟨S1x4096x512, .f32⟩
  | .hbm, ⟨60, _⟩ => ⟨S1x4096x512, .f32⟩
  | .hbm, ⟨61, _⟩ => ⟨S2x4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel4.lean ====
abbrev S16x4096x1024 : Shape := ⟨3, ![16, 4096, 1024]⟩
abbrev S2x1024 : Shape := ⟨2, ![2, 1024]⟩
abbrev S1x1024x3088 : Shape := ⟨3, ![1, 1024, 3088]⟩
abbrev S1x8 : Shape := ⟨2, ![1, 8]⟩
abbrev S1x4 : Shape := ⟨2, ![1, 4]⟩
abbrev S_ : Shape := ⟨0, ![]⟩
abbrev S16x1x128 : Shape := ⟨3, ![16, 1, 128]⟩
abbrev S1024x3088 : Shape := ⟨2, ![1024, 3088]⟩
abbrev S1024x512 : Shape := ⟨2, ![1024, 512]⟩
abbrev S1024x8 : Shape := ⟨2, ![1024, 8]⟩
abbrev S1024x256 : Shape := ⟨2, ![1024, 256]⟩
abbrev S1024x4 : Shape := ⟨2, ![1024, 4]⟩
abbrev S1024x112 : Shape := ⟨2, ![1024, 112]⟩
abbrev S1024x128 : Shape := ⟨2, ![1024, 128]⟩
abbrev S8 : Shape := ⟨1, ![8]⟩
abbrev S4 : Shape := ⟨1, ![4]⟩
abbrev S112 : Shape := ⟨1, ![112]⟩
abbrev S128 : Shape := ⟨1, ![128]⟩
abbrev S1024x3200 : Shape := ⟨2, ![1024, 3200]⟩
abbrev S65536x1024 : Shape := ⟨2, ![65536, 1024]⟩
abbrev S1x1024 : Shape := ⟨2, ![1, 1024]⟩
abbrev S1024 : Shape := ⟨1, ![1024]⟩
abbrev S1x128 : Shape := ⟨2, ![1, 128]⟩
abbrev S65536x2048 : Shape := ⟨2, ![65536, 2048]⟩
abbrev S65536x512 : Shape := ⟨2, ![65536, 512]⟩
abbrev S65536x128 : Shape := ⟨2, ![65536, 128]⟩
abbrev S256x1024 : Shape := ⟨2, ![256, 1024]⟩
abbrev S1x1x128 : Shape := ⟨3, ![1, 1, 128]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3200 : Shape := ⟨2, ![256, 3200]⟩
abbrev S256x256 : Shape := ⟨2, ![256, 256]⟩

abbrev nBuf : Space → Nat
  | .hbm => 45
  | .vmem => 28
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x3088, .f32⟩
  | .hbm, ⟨3, _⟩ => ⟨S1x8, .f32⟩
  | .hbm, ⟨4, _⟩ => ⟨S1x4, .f32⟩
  | .hbm, ⟨5, _⟩ => ⟨S1x4, .f32⟩
  | .hbm, ⟨6, _⟩ => ⟨S_, .f32⟩
  | .hbm, ⟨7, _⟩ => ⟨S16x1x128, .f32⟩
  | .hbm, ⟨8, _⟩ => ⟨S1024x3088, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x512, .f32⟩
  | .hbm, ⟨17, _⟩ => ⟨S1024x4, .f32⟩
  | .hbm, ⟨18, _⟩ => ⟨S1024x4, .f32⟩
  | .hbm, ⟨19, _⟩ => ⟨S_, .f32⟩
  | .hbm, ⟨20, _⟩ => ⟨S1024x112, .f32⟩
  | .hbm, ⟨21, _⟩ => ⟨S1024x128, .f32⟩
  | .hbm, ⟨22, _⟩ => ⟨S8, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S112, .f32⟩
  | .hbm, ⟨27, _⟩ => ⟨S128, .f32⟩
  | .hbm, ⟨28, _⟩ => ⟨S1024x3200, .f32⟩
  | .hbm, ⟨29, _⟩ => ⟨S1024x3200, .bf16⟩
  | .hbm, ⟨30, _⟩ => ⟨S65536x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x128, .f32⟩
  | .hbm, ⟨35, _⟩ => ⟨S65536x2048, .bf16⟩
  | .hbm, ⟨36, _⟩ => ⟨S65536x2048, .bf16⟩
  | .hbm, ⟨37, _⟩ => ⟨S65536x512, .f32⟩
  | .hbm, ⟨38, _⟩ => ⟨S65536x512, .f32⟩
  | .hbm, ⟨39, _⟩ => ⟨S65536x512, .bf16⟩
  | .hbm, ⟨40, _⟩ => ⟨S65536x512, .bf16⟩
  | .hbm, ⟨41, _⟩ => ⟨S65536x512, .bf16⟩
  | .hbm, ⟨42, _⟩ => ⟨S65536x512, .bf16⟩
  | .hbm, ⟨43, _⟩ => ⟨S65536x512, .bf16⟩
  | .hbm, ⟨44, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S1x1x128, .f32⟩
  | .local _ .vmem, ⟨6, _⟩ => ⟨S1x1x128, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x128, .f32⟩
  | .local _ .vmem, ⟨26, _⟩ => ⟨S256x128, .f32⟩
  | .local _ .vmem, ⟨27, _⟩ => ⟨S1x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev main_v26_4 : Ref sig .tc := ⟨.hbm, 39, rfl⟩
abbrev main_v26_5 : Ref sig .tc := ⟨.hbm, 40, rfl⟩
abbrev main_v26_6 : Ref sig .tc := ⟨.hbm, 41, rfl⟩
abbrev main_v26_7 : Ref sig .tc := ⟨.hbm, 42, rfl⟩
abbrev main_v26_8 : Ref sig .tc := ⟨.hbm, 43, rfl⟩
abbrev main_v26_9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16x4096x1024 : Shape := ⟨3, ![16, 4096, 1024]⟩
abbrev S2x1024 : Shape := ⟨2, ![2, 1024]⟩
abbrev S1x1024x3088 : Shape := ⟨3, ![1, 1024, 3088]⟩
abbrev S1x8 : Shape := ⟨2, ![1, 8]⟩
abbrev S1x4 : Shape := ⟨2, ![1, 4]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x3088 : Shape := ⟨2, ![1024, 3088]⟩
abbrev S16x4096x3088 : Shape := ⟨3, ![16, 4096, 3088]⟩
abbrev S16x4096x512 : Shape := ⟨3, ![16, 4096, 512]⟩
abbrev S16x4096x8 : Shape := ⟨3, ![16, 4096, 8]⟩
abbrev S16x4096x256 : Shape := ⟨3, ![16, 4096, 256]⟩
abbrev S16x4096x4 : Shape := ⟨3, ![16, 4096, 4]⟩
abbrev S8 : Shape := ⟨1, ![8]⟩
abbrev S1x1x8 : Shape := ⟨3, ![1, 1, 8]⟩
abbrev S4 : Shape := ⟨1, ![4]⟩
abbrev S1x1x4 : Shape := ⟨3, ![1, 1, 4]⟩
abbrev S16x4096x112 : Shape := ⟨3, ![16, 4096, 112]⟩
abbrev S16x4096x128 : Shape := ⟨3, ![16, 4096, 128]⟩
abbrev S65536x512 : Shape := ⟨2, ![65536, 512]⟩
abbrev S65536x128 : Shape := ⟨2, ![65536, 128]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x3088, .f32⟩
  | .hbm, ⟨3, _⟩ => ⟨S1x8, .f32⟩
  | .hbm, ⟨4, _⟩ => ⟨S1x4, .f32⟩
  | .hbm, ⟨5, _⟩ => ⟨S1x4, .f32⟩
  | .hbm, ⟨6, _⟩ => ⟨S1x1024, .f32⟩
  | .hbm, ⟨7, _⟩ => ⟨S1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S1024x3088, .f32⟩
  | .hbm, ⟨25, _⟩ => ⟨S16x4096x3088, .f32⟩
  | .hbm, ⟨26, _⟩ => ⟨S16x4096x512, .f32⟩
  | .hbm, ⟨27, _⟩ => ⟨S16x4096x512, .f32⟩
  | .hbm, ⟨28, _⟩ => ⟨S16x4096x512, .f32⟩
  | .hbm, ⟨29, _⟩ => ⟨S16x4096x8, .f32⟩
  | .hbm, ⟨30, _⟩ => ⟨S16x4096x256, .f32⟩
  | .hbm, ⟨31, _⟩ => ⟨S16x4096x256, .f32⟩
  | .hbm, ⟨32, _⟩ => ⟨S16x4096x512, .f32⟩
  | .hbm, ⟨33, _⟩ => ⟨S16x4096x512, .f32⟩
  | .hbm, ⟨34, _⟩ => ⟨S16x4096x4, .f32⟩
  | .hbm, ⟨35, _⟩ => ⟨S16x4096x4, .f32⟩
  | .hbm, ⟨36, _⟩ => ⟨S8, .f32⟩
  | .hbm, ⟨37, _⟩ => ⟨S1x1x8, .f32⟩
  | .hbm, ⟨38, _⟩ => ⟨S16x4096x8, .f32⟩
  | .hbm, ⟨39, _⟩ => ⟨S16x4096x8, .f32⟩
  | .hbm, ⟨40, _⟩ => ⟨S16x4096x8, .f32⟩
  | .hbm, ⟨41, _⟩ => ⟨S_, .f32⟩
  | .hbm, ⟨42, _⟩ => ⟨S16x4096x8, .f32⟩
  | .hbm, ⟨43, _⟩ => ⟨S16x4096x8, .f32⟩
  | .hbm, ⟨44, _⟩ => ⟨S16x4096x8, .f32⟩
  | .hbm, ⟨45, _⟩ => ⟨S16x4096x8, .f32⟩
  | .hbm, ⟨46, _⟩ => ⟨S16x4096x8, .i1⟩
  | .hbm, ⟨47, _⟩ => ⟨S16x4096x8, .f32⟩
  | .hbm, ⟨48, _⟩ => ⟨S16x4096x8, .f32⟩
  | .hbm, ⟨49, _⟩ => ⟨S16x4096x8, .f32⟩
  | .hbm, ⟨50, _⟩ => ⟨S16x4096x8, .f32⟩
  | .hbm, ⟨51, _⟩ => ⟨S16x4096x8, .f32⟩
  | .hbm, ⟨52, _⟩ => ⟨S16x4096x8, .f32⟩
  | .hbm, ⟨53, _⟩ => ⟨S16x4096x8, .f32⟩
  | .hbm, ⟨54, _⟩ => ⟨S16x4096x8, .f32⟩
  | .hbm, ⟨55, _⟩ => ⟨S16x4096x8, .f32⟩
  | .hbm, ⟨56, _⟩ => ⟨S4, .f32⟩
  | .hbm, ⟨57, _⟩ => ⟨S1x1x4, .f32⟩
  | .hbm, ⟨58, _⟩ => ⟨S16x4096x4, .f32⟩
  | .hbm, ⟨59, _⟩ => ⟨S16x4096x4, .f32⟩
  | .hbm, ⟨60, _⟩ => ⟨S4, .f32⟩
  | .hbm, ⟨61, _⟩ => ⟨S1x1x4, .f32⟩
  | .hbm, ⟨62, _⟩ => ⟨S16x4096x4, .f32⟩
  | .hbm, ⟨63, _⟩ => ⟨S16x4096x4, .f32⟩
  | .hbm, ⟨64, _⟩ => ⟨S16x4096x4, .f32⟩
  | .hbm, ⟨65, _⟩ => ⟨S_, .f32⟩
  | .hbm, ⟨66, _⟩ => ⟨S16x4096x4, .f32⟩
  | .hbm, ⟨67, _⟩ => ⟨S16x4096x4, .f32⟩
  | .hbm, ⟨68, _⟩ => ⟨S16x4096x4, .f32⟩
  | .hbm, ⟨69, _⟩ => ⟨S16x4096x4, .f32⟩
  | .hbm, ⟨70, _⟩ => ⟨S16x4096x4, .i1⟩
  | .hbm, ⟨71, _⟩ => ⟨S16x4096x4, .f32⟩
  | .hbm, ⟨72, _⟩ => ⟨S16x4096x4, .f32⟩
  | .hbm, ⟨73, _⟩ => ⟨S16x4096x4, .f32⟩
  | .hbm, ⟨74, _⟩ => ⟨S16x4096x4, .f32⟩
  | .hbm, ⟨75, _⟩ => ⟨S16x4096x4, .f32⟩
  | .hbm, ⟨76, _⟩ => ⟨S16x4096x4, .f32⟩
  | .hbm, ⟨77, _⟩ => ⟨S16x4096x4, .f32⟩
  | .hbm, ⟨78, _⟩ => ⟨S16x4096x4, .f32⟩
  | .hbm, ⟨79, _⟩ => ⟨S16x4096x4, .f32⟩
  | .hbm, ⟨80, _⟩ => ⟨S_, .f32⟩
  | .hbm, ⟨81, _⟩ => ⟨S16x4096x112, .f32⟩
  | .hbm, ⟨82, _⟩ => ⟨S16x4096x128, .f32⟩
  | .hbm, ⟨83, _⟩ => ⟨S65536x512, .f32⟩
  | .hbm, ⟨84, _⟩ => ⟨S65536x512, .f32⟩
  | .hbm, ⟨85, _⟩ => ⟨S65536x512, .f32⟩
  | .hbm, ⟨86, _⟩ => ⟨S65536x512, .bf16⟩
  | .hbm, ⟨87, _⟩ => ⟨S65536x512, .f32⟩
  | .hbm, ⟨88, _⟩ => ⟨S65536x512, .bf16⟩
  | .hbm, ⟨89, _⟩ => ⟨S65536x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1 : Ref sig .tc := ⟨.hbm, 78, rfl⟩
abbrev main_v40 : Ref sig .tc := ⟨.hbm, 79, rfl⟩
abbrev main_cst_2 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]
-- ==== Kernel5.lean ====
abbrev S16x4096x1024 : Shape := ⟨3, ![16, 4096, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S16x8x1024 : Shape := ⟨3, ![16, 8, 1024]⟩
abbrev S1x1024 : Shape := ⟨2, ![1, 1024]⟩
abbrev S1024 : Shape := ⟨1, ![1024]⟩
abbrev S1024x3072 : Shape := ⟨2, ![1024, 3072]⟩
abbrev S1024x1024 : Shape := ⟨2, ![1024, 1024]⟩
abbrev S1x256x1024 : Shape := ⟨3, ![1, 256, 1024]⟩
abbrev S1x8x1024 : Shape := ⟨3, ![1, 8, 1024]⟩
abbrev S264x1024 : Shape := ⟨2, ![264, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 20
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S3x1024, .f32⟩
  | .hbm, ⟨6, _⟩ => ⟨S_, .f32⟩
  | .hbm, ⟨7, _⟩ => ⟨S5x1024, .f32⟩
  | .hbm, ⟨8, _⟩ => ⟨S8x1024, .f32⟩
  | .hbm, ⟨9, _⟩ => ⟨S_, .f32⟩
  | .hbm, ⟨10, _⟩ => ⟨S16x8x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x3072, .f32⟩
  | .hbm, ⟨15, _⟩ => ⟨S1024x3072, .bf16⟩
  | .hbm, ⟨16, _⟩ => ⟨S1024x1024, .f32⟩
  | .hbm, ⟨17, _⟩ => ⟨S1024x1024, .bf16⟩
  | .hbm, ⟨18, _⟩ => ⟨S16x4096x1024, .f32⟩
  | .hbm, ⟨19, _⟩ => ⟨S16x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .f32⟩
  | .local _ .vmem, ⟨5, _⟩ => ⟨S1024x1024, .bf16⟩
  | .local _ .vmem, ⟨6, _⟩ => ⟨S1x8x1024, .f32⟩
  | .local _ .vmem, ⟨7, _⟩ => ⟨S1x8x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x8x1024, .f32⟩
  | .local _ .vmem, ⟨11, _⟩ => ⟨S1x8x1024, .f32⟩
  | .local _ .vmem, ⟨12, _⟩ => ⟨S264x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_25 : BitVec 32 := 0#32
  let v60 : BitVec 1 := Scalar.cmpi .ne v59 c0_i32_25
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S16x4096x1024 : Shape := ⟨3, ![16, 4096, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S_ : Shape := ⟨0, ![]⟩
abbrev S16x2x1024 : Shape := ⟨3, ![16, 2, 1024]⟩
abbrev S1x1024 : Shape := ⟨2, ![1, 1024]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S16x4096x3072 : Shape := ⟨3, ![16, 4096, 3072]⟩
abbrev S16x4098x1024 : Shape := ⟨3, ![16, 4098, 1024]⟩
abbrev S16x8x1024 : Shape := ⟨3, ![16, 8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S_, .f32⟩
  | .hbm, ⟨6, _⟩ => ⟨S16x2x1024, .f32⟩
  | .hbm, ⟨7, _⟩ => ⟨S1x1024, .f32⟩
  | .hbm, ⟨8, _⟩ => ⟨S1024, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S1024x3072, .f32⟩
  | .hbm, ⟨26, _⟩ => ⟨S3x1024, .f32⟩
  | .hbm, ⟨27, _⟩ => ⟨S1024x1024, .f32⟩
  | .hbm, ⟨28, _⟩ => ⟨S16x4096x3072, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4098x1024, .f32⟩
  | .hbm, ⟨34, _⟩ => ⟨S1x1024, .f32⟩
  | .hbm, ⟨35, _⟩ => ⟨S1024, .f32⟩
  | .hbm, ⟨36, _⟩ => ⟨S16x4096x1024, .f32⟩
  | .hbm, ⟨37, _⟩ => ⟨S1x1x1024, .f32⟩
  | .hbm, ⟨38, _⟩ => ⟨S16x4096x1024, .f32⟩
  | .hbm, ⟨39, _⟩ => ⟨S16x4096x1024, .f32⟩
  | .hbm, ⟨40, _⟩ => ⟨S1x1024, .f32⟩
  | .hbm, ⟨41, _⟩ => ⟨S1024, .f32⟩
  | .hbm, ⟨42, _⟩ => ⟨S16x4096x1024, .f32⟩
  | .hbm, ⟨43, _⟩ => ⟨S1x1x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S1x1024, .f32⟩
  | .hbm, ⟨48, _⟩ => ⟨S1024, .f32⟩
  | .hbm, ⟨49, _⟩ => ⟨S16x4096x1024, .f32⟩
  | .hbm, ⟨50, _⟩ => ⟨S1x1x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x8x1024, .f32⟩
  | .hbm, ⟨57, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel6.lean ====
abbrev S8x16x1024 : Shape := ⟨3, ![8, 16, 1024]⟩
abbrev S2x1024 : Shape := ⟨2, ![2, 1024]⟩
abbrev S1x1024x3088 : Shape := ⟨3, ![1, 1024, 3088]⟩
abbrev S1x8 : Shape := ⟨2, ![1, 8]⟩
abbrev S1x4 : Shape := ⟨2, ![1, 4]⟩
abbrev S8x1x128 : Shape := ⟨3, ![8, 1, 128]⟩
abbrev S1024x3088 : Shape := ⟨2, ![1024, 3088]⟩
abbrev S1024x512 : Shape := ⟨2, ![1024, 512]⟩
abbrev S1024x8 : Shape := ⟨2, ![1024, 8]⟩
abbrev S1024x256 : Shape := ⟨2, ![1024, 256]⟩
abbrev S1024x4 : Shape := ⟨2, ![1024, 4]⟩
abbrev S_ : Shape := ⟨0, ![]⟩
abbrev S1024x112 : Shape := ⟨2, ![1024, 112]⟩
abbrev S1024x128 : Shape := ⟨2, ![1024, 128]⟩
abbrev S8 : Shape := ⟨1, ![8]⟩
abbrev S4 : Shape := ⟨1, ![4]⟩
abbrev S112 : Shape := ⟨1, ![112]⟩
abbrev S128 : Shape := ⟨1, ![128]⟩
abbrev S1024x3200 : Shape := ⟨2, ![1024, 3200]⟩
abbrev S128x1024 : Shape := ⟨2, ![128, 1024]⟩
abbrev S1x1024 : Shape := ⟨2, ![1, 1024]⟩
abbrev S1024 : Shape := ⟨1, ![1024]⟩
abbrev S1x128 : Shape := ⟨2, ![1, 128]⟩
abbrev S128x2048 : Shape := ⟨2, ![128, 2048]⟩
abbrev S128x512 : Shape := ⟨2, ![128, 512]⟩
abbrev S128x128 : Shape := ⟨2, ![128, 128]⟩
abbrev S16x1024 : Shape := ⟨2, ![16, 1024]⟩
abbrev S1x1x128 : Shape := ⟨3, ![1, 1, 128]⟩
abbrev S16x2048 : Shape := ⟨2, ![16, 2048]⟩
abbrev S16x512 : Shape := ⟨2, ![16, 512]⟩
abbrev S16x128 : Shape := ⟨2, ![16, 128]⟩
abbrev S16 : Shape := ⟨1, ![16]⟩
abbrev S16x1 : Shape := ⟨2, ![16, 1]⟩
abbrev S16x3200 : Shape := ⟨2, ![16, 3200]⟩
abbrev S16x256 : Shape := ⟨2, ![16, 256]⟩

abbrev nBuf : Space → Nat
  | .hbm => 44
  | .vmem => 28
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S1x1024x3088, .f32⟩
  | .hbm, ⟨3, _⟩ => ⟨S1x8, .f32⟩
  | .hbm, ⟨4, _⟩ => ⟨S1x4, .f32⟩
  | .hbm, ⟨5, _⟩ => ⟨S1x4, .f32⟩
  | .hbm, ⟨6, _⟩ => ⟨S8x1x128, .f32⟩
  | .hbm, ⟨7, _⟩ => ⟨S1024x3088, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x8, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1024x512, .f32⟩
  | .hbm, ⟨16, _⟩ => ⟨S1024x4, .f32⟩
  | .hbm, ⟨17, _⟩ => ⟨S1024x4, .f32⟩
  | .hbm, ⟨18, _⟩ => ⟨S_, .f32⟩
  | .hbm, ⟨19, _⟩ => ⟨S1024x112, .f32⟩
  | .hbm, ⟨20, _⟩ => ⟨S1024x128, .f32⟩
  | .hbm, ⟨21, _⟩ => ⟨S8, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S112, .f32⟩
  | .hbm, ⟨26, _⟩ => ⟨S128, .f32⟩
  | .hbm, ⟨27, _⟩ => ⟨S1024x3200, .f32⟩
  | .hbm, ⟨28, _⟩ => ⟨S1024x3200, .bf16⟩
  | .hbm, ⟨29, _⟩ => ⟨S128x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x128, .f32⟩
  | .hbm, ⟨34, _⟩ => ⟨S128x2048, .bf16⟩
  | .hbm, ⟨35, _⟩ => ⟨S128x2048, .bf16⟩
  | .hbm, ⟨36, _⟩ => ⟨S128x512, .f32⟩
  | .hbm, ⟨37, _⟩ => ⟨S128x512, .f32⟩
  | .hbm, ⟨38, _⟩ => ⟨S128x512, .bf16⟩
  | .hbm, ⟨39, _⟩ => ⟨S128x512, .bf16⟩
  | .hbm, ⟨40, _⟩ => ⟨S128x512, .bf16⟩
  | .hbm, ⟨41, _⟩ => ⟨S128x512, .bf16⟩
  | .hbm, ⟨42, _⟩ => ⟨S128x512, .bf16⟩
  | .hbm, ⟨43, _⟩ => ⟨S128x128, .f32⟩
  | .local _ .vmem, ⟨0, _⟩ => ⟨S16x1024, .f32⟩
  | .local _ .vmem, ⟨1, _⟩ => ⟨S16x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S1x1x128, .f32⟩
  | .local _ .vmem, ⟨6, _⟩ => ⟨S1x1x128, .f32⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S16x512, .bf16⟩
  | .local _ .vmem, ⟨21, _⟩ => ⟨S16x512, .bf16⟩
  | .local _ .vmem, ⟨22, _⟩ => ⟨S16x512, .bf16⟩
  | .local _ .vmem, ⟨23, _⟩ => ⟨S16x512, .bf16⟩
  | .local _ .vmem, ⟨24, _⟩ => ⟨S16x512, .bf16⟩
  | .local _ .vmem, ⟨25, _⟩ => ⟨S16x128, .f32⟩
  | .local _ .vmem, ⟨26, _⟩ => ⟨S16x128, .f32⟩
  | .local _ .vmem, ⟨27, _⟩ => ⟨S1x128, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_v25_6 : Ref sig .tc := ⟨.hbm, 40, rfl⟩
abbrev main_v25_7 : Ref sig .tc := ⟨.hbm, 41, rfl⟩
abbrev main_v25_8 : Ref sig .tc := ⟨.hbm, 42, rfl⟩
abbrev main_v25_9 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8x16x1024 : Shape := ⟨3, ![8, 16, 1024]⟩
abbrev S2x1024 : Shape := ⟨2, ![2, 1024]⟩
abbrev S1x1024x3088 : Shape := ⟨3, ![1, 1024, 3088]⟩
abbrev S1x8 : Shape := ⟨2, ![1, 8]⟩
abbrev S1x4 : Shape := ⟨2, ![1, 4]⟩
abbrev S8x1x128 : Shape := ⟨3, ![8, 1, 128]⟩
abbrev S1x1024 : Shape := ⟨2, ![1, 1024]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1024x3088 : Shape := ⟨2, ![1024, 3088]⟩
abbrev S8x16x3088 : Shape := ⟨3, ![8, 16, 3088]⟩
abbrev S8x16x512 : Shape := ⟨3, ![8, 16, 512]⟩
abbrev S8x16x8 : Shape := ⟨3, ![8, 16, 8]⟩
abbrev S8x16x256 : Shape := ⟨3, ![8, 16, 256]⟩
abbrev S8x16x4 : Shape := ⟨3, ![8, 16, 4]⟩
abbrev S8 : Shape := ⟨1, ![8]⟩
abbrev S1x1x8 : Shape := ⟨3, ![1, 1, 8]⟩
abbrev S4 : Shape := ⟨1, ![4]⟩
abbrev S1x1x4 : Shape := ⟨3, ![1, 1, 4]⟩
abbrev S8x16x112 : Shape := ⟨3, ![8, 16, 112]⟩
abbrev S8x16x128 : Shape := ⟨3, ![8, 16, 128]⟩
abbrev S128x512 : Shape := ⟨2, ![128, 512]⟩
abbrev S128x128 : Shape := ⟨2, ![128, 128]⟩

abbrev nBuf : Space → Nat
  | .hbm => 91
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S1x1024x3088, .f32⟩
  | .hbm, ⟨3, _⟩ => ⟨S1x8, .f32⟩
  | .hbm, ⟨4, _⟩ => ⟨S1x4, .f32⟩
  | .hbm, ⟨5, _⟩ => ⟨S1x4, .f32⟩
  | .hbm, ⟨6, _⟩ => ⟨S8x1x128, .f32⟩
  | .hbm, ⟨7, _⟩ => ⟨S1x1024, .f32⟩
  | .hbm, ⟨8, _⟩ => ⟨S1024, .f32⟩
  | .hbm, ⟨9, _⟩ => ⟨S8x16x1024, .f32⟩
  | .hbm, ⟨10, _⟩ => ⟨S_, .f32⟩
  | .hbm, ⟨11, _⟩ => ⟨S8x16, .f32⟩
  | .hbm, ⟨12, _⟩ => ⟨S8x16x1, .f32⟩
  | .hbm, ⟨13, _⟩ => ⟨S_, .f32⟩
  | .hbm, ⟨14, _⟩ => ⟨S8x16x1, .f32⟩
  | .hbm, ⟨15, _⟩ => ⟨S8x16x1, .f32⟩
  | .hbm, ⟨16, _⟩ => ⟨S_, .f32⟩
  | .hbm, ⟨17, _⟩ => ⟨S8x16x1, .f32⟩
  | .hbm, ⟨18, _⟩ => ⟨S8x16x1, .f32⟩
  | .hbm, ⟨19, _⟩ => ⟨S8x16x1, .f32⟩
  | .hbm, ⟨20, _⟩ => ⟨S8x16x1024, .f32⟩
  | .hbm, ⟨21, _⟩ => ⟨S8x16x1024, .f32⟩
  | .hbm, ⟨22, _⟩ => ⟨S1x1x1024, .f32⟩
  | .hbm, ⟨23, _⟩ => ⟨S8x16x1024, .f32⟩
  | .hbm, ⟨24, _⟩ => ⟨S8x16x1024, .f32⟩
  | .hbm, ⟨25, _⟩ => ⟨S1024x3088, .f32⟩
  | .hbm, ⟨26, _⟩ => ⟨S8x16x3088, .f32⟩
  | .hbm, ⟨27, _⟩ => ⟨S8x16x512, .f32⟩
  | .hbm, ⟨28, _⟩ => ⟨S8x16x512, .f32⟩
  | .hbm, ⟨29, _⟩ => ⟨S8x16x512, .f32⟩
  | .hbm, ⟨30, _⟩ => ⟨S8x16x8, .f32⟩
  | .hbm, ⟨31, _⟩ => ⟨S8x16x256, .f32⟩
  | .hbm, ⟨32, _⟩ => ⟨S8x16x256, .f32⟩
  | .hbm, ⟨33, _⟩ => ⟨S8x16x512, .f32⟩
  | .hbm, ⟨34, _⟩ => ⟨S8x16x512, .f32⟩
  | .hbm, ⟨35, _⟩ => ⟨S8x16x4, .f32⟩
  | .hbm, ⟨36, _⟩ => ⟨S8x16x4, .f32⟩
  | .hbm, ⟨37, _⟩ => ⟨S8, .f32⟩
  | .hbm, ⟨38, _⟩ => ⟨S1x1x8, .f32⟩
  | .hbm, ⟨39, _⟩ => ⟨S8x16x8, .f32⟩
  | .hbm, ⟨40, _⟩ => ⟨S8x16x8, .f32⟩
  | .hbm, ⟨41, _⟩ => ⟨S8x16x8, .f32⟩
  | .hbm, ⟨42, _⟩ => ⟨S_, .f32⟩
  | .hbm, ⟨43, _⟩ => ⟨S8x16x8, .f32⟩
  | .hbm, ⟨44, _⟩ => ⟨S8x16x8, .f32⟩
  | .hbm, ⟨45, _⟩ => ⟨S8x16x8, .f32⟩
  | .hbm, ⟨46, _⟩ => ⟨S8x16x8, .f32⟩
  | .hbm, ⟨47, _⟩ => ⟨S8x16x8, .i1⟩
  | .hbm, ⟨48, _⟩ => ⟨S8x16x8, .f32⟩
  | .hbm, ⟨49, _⟩ => ⟨S8x16x8, .f32⟩
  | .hbm, ⟨50, _⟩ => ⟨S8x16x8, .f32⟩
  | .hbm, ⟨51, _⟩ => ⟨S8x16x8, .f32⟩
  | .hbm, ⟨52, _⟩ => ⟨S8x16x8, .f32⟩
  | .hbm, ⟨53, _⟩ => ⟨S8x16x8, .f32⟩
  | .hbm, ⟨54, _⟩ => ⟨S8x16x8, .f32⟩
  | .hbm, ⟨55, _⟩ => ⟨S8x16x8, .f32⟩
  | .hbm, ⟨56, _⟩ => ⟨S8x16x8, .f32⟩
  | .hbm, ⟨57, _⟩ => ⟨S4, .f32⟩
  | .hbm, ⟨58, _⟩ => ⟨S1x1x4, .f32⟩
  | .hbm, ⟨59, _⟩ => ⟨S8x16x4, .f32⟩
  | .hbm, ⟨60, _⟩ => ⟨S8x16x4, .f32⟩
  | .hbm, ⟨61, _⟩ => ⟨S4, .f32⟩
  | .hbm, ⟨62, _⟩ => ⟨S1x1x4, .f32⟩
  | .hbm, ⟨63, _⟩ => ⟨S8x16x4, .f32⟩
  | .hbm, ⟨64, _⟩ => ⟨S8x16x4, .f32⟩
  | .hbm, ⟨65, _⟩ => ⟨S8x16x4, .f32⟩
  | .hbm, ⟨66, _⟩ => ⟨S_, .f32⟩
  | .hbm, ⟨67, _⟩ => ⟨S8x16x4, .f32⟩
  | .hbm, ⟨68, _⟩ => ⟨S8x16x4, .f32⟩
  | .hbm, ⟨69, _⟩ => ⟨S8x16x4, .f32⟩
  | .hbm, ⟨70, _⟩ => ⟨S8x16x4, .f32⟩
  | .hbm, ⟨71, _⟩ => ⟨S8x16x4, .i1⟩
  | .hbm, ⟨72, _⟩ => ⟨S8x16x4, .f32⟩
  | .hbm, ⟨73, _⟩ => ⟨S8x16x4, .f32⟩
  | .hbm, ⟨74, _⟩ => ⟨S8x16x4, .f32⟩
  | .hbm, ⟨75, _⟩ => ⟨S8x16x4, .f32⟩
  | .hbm, ⟨76, _⟩ => ⟨S8x16x4, .f32⟩
  | .hbm, ⟨77, _⟩ => ⟨S8x16x4, .f32⟩
  | .hbm, ⟨78, _⟩ => ⟨S8x16x4, .f32⟩
  | .hbm, ⟨79, _⟩ => ⟨S8x16x4, .f32⟩
  | .hbm, ⟨80, _⟩ => ⟨S8x16x4, .f32⟩
  | .hbm, ⟨81, _⟩ => ⟨S_, .f32⟩
  | .hbm, ⟨82, _⟩ => ⟨S8x16x112, .f32⟩
  | .hbm, ⟨83, _⟩ => ⟨S8x16x128, .f32⟩
  | .hbm, ⟨84, _⟩ => ⟨S128x512, .f32⟩
  | .hbm, ⟨85, _⟩ => ⟨S128x512, .f32⟩
  | .hbm, ⟨86, _⟩ => ⟨S128x512, .f32⟩
  | .hbm, ⟨87, _⟩ => ⟨S128x512, .bf16⟩
  | .hbm, ⟨88, _⟩ => ⟨S128x512, .f32⟩
  | .hbm, ⟨89, _⟩ => ⟨S128x512, .bf16⟩
  | .hbm, ⟨90, _⟩ => ⟨S128x128, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_v0 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_v1 : Ref sig .tc := ⟨.hbm, 79, rfl⟩
abbrev main_v40 : Ref sig .tc := ⟨.hbm, 80, rfl⟩
abbrev main_cst_2 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩

abbrev nD : Nat := 1
abbrev τ : Topo := Topo.v7x

variable {F : FTy → Type} [FloatOps F]
-- ==== Kernel7.lean ====
abbrev S8x16x1024 : Shape := ⟨3, ![8, 16, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x8x2x1024 : Shape := ⟨4, ![1, 8, 2, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S8x2x1024 : Shape := ⟨3, ![8, 2, 1024]⟩
abbrev S8x8x1024 : Shape := ⟨3, ![8, 8, 1024]⟩
abbrev S1x1024 : Shape := ⟨2, ![1, 1024]⟩
abbrev S1024 : Shape := ⟨1, ![1024]⟩
abbrev S1024x3072 : Shape := ⟨2, ![1024, 3072]⟩
abbrev S1024x1024 : Shape := ⟨2, ![1024, 1024]⟩
abbrev S1x16x1024 : Shape := ⟨3, ![1, 16, 1024]⟩
abbrev S1x8x1024 : Shape := ⟨3, ![1, 8, 1024]⟩
abbrev S24x1024 : Shape := ⟨2, ![24, 1024]⟩
abbrev S16x1024 : Shape := ⟨2, ![16, 1024]⟩
abbrev S16 : Shape := ⟨1, ![16]⟩
abbrev S16x1 : Shape := ⟨2, ![16, 1]⟩
abbrev S16x3072 : Shape := ⟨2, ![16, 3072]⟩

abbrev nBuf : Space → Nat
  | .hbm => 23
  | .vmem => 13
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S1x8x2x1024, .f32⟩
  | .hbm, ⟨6, _⟩ => ⟨S3x1024, .f32⟩
  | .hbm, ⟨7, _⟩ => ⟨S_, .f32⟩
  | .hbm, ⟨8, _⟩ => ⟨S5x1024, .f32⟩
  | .hbm, ⟨9, _⟩ => ⟨S8x1024, .f32⟩
  | .hbm, ⟨10, _⟩ => ⟨S8x2x1024, .f32⟩
  | .hbm, ⟨11, _⟩ => ⟨S_, .i32⟩
  | .hbm, ⟨12, _⟩ => ⟨S_, .f32⟩
  | .hbm, ⟨13, _⟩ => ⟨S8x8x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x3072, .f32⟩
  | .hbm, ⟨18, _⟩ => ⟨S1024x3072, .bf16⟩
  | .hbm, ⟨19, _⟩ => ⟨S1024x1024, .f32⟩
  | .hbm, ⟨20, _⟩ => ⟨S1024x1024, .bf16⟩
  | .hbm, ⟨21, _⟩ => ⟨S8x16x1024, .f32⟩
  | .hbm, ⟨22, _⟩ => ⟨S8x8x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .f32⟩
  | .local _ .vmem, ⟨5, _⟩ => ⟨S1024x1024, .bf16⟩
  | .local _ .vmem, ⟨6, _⟩ => ⟨S1x8x1024, .f32⟩
  | .local _ .vmem, ⟨7, _⟩ => ⟨S1x8x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x8x1024, .f32⟩
  | .local _ .vmem, ⟨11, _⟩ => ⟨S1x8x1024, .f32⟩
  | .local _ .vmem, ⟨12, _⟩ => ⟨S24x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_25 : BitVec 32 := 0#32
  let v58 : BitVec 1 := Scalar.cmpi .eq arg1 c0_i32_25
  let v59 : BitVec 32 := Scalar.extui v58
  let c0_i32_26 : BitVec 32 := 0#32
  let v60 : BitVec 1 := Scalar.cmpi .ne v59 c0_i32_26
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S8x16x1024 : Shape := ⟨3, ![8, 16, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x8x2x1024 : Shape := ⟨4, ![1, 8, 2, 1024]⟩
abbrev S1x1024 : Shape := ⟨2, ![1, 1024]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S8x2x1024 : Shape := ⟨3, ![8, 2, 1024]⟩
abbrev S8x16x3072 : Shape := ⟨3, ![8, 16, 3072]⟩
abbrev S8x18x1024 : Shape := ⟨3, ![8, 18, 1024]⟩
abbrev S8x8x1024 : Shape := ⟨3, ![8, 8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S1x8x2x1024, .f32⟩
  | .hbm, ⟨6, _⟩ => ⟨S1x1024, .f32⟩
  | .hbm, ⟨7, _⟩ => ⟨S1024, .f32⟩
  | .hbm, ⟨8, _⟩ => ⟨S8x16x1024, .f32⟩
  | .hbm, ⟨9, _⟩ => ⟨S_, .f32⟩
  | .hbm, ⟨10, _⟩ => ⟨S8x16, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S_, .f32⟩
  | .hbm, ⟨16, _⟩ => ⟨S8x16x1, .f32⟩
  | .hbm, ⟨17, _⟩ => ⟨S8x16x1, .f32⟩
  | .hbm, ⟨18, _⟩ => ⟨S8x16x1, .f32⟩
  | .hbm, ⟨19, _⟩ => ⟨S8x16x1024, .f32⟩
  | .hbm, ⟨20, _⟩ => ⟨S8x16x1024, .f32⟩
  | .hbm, ⟨21, _⟩ => ⟨S1x1x1024, .f32⟩
  | .hbm, ⟨22, _⟩ => ⟨S8x16x1024, .f32⟩
  | .hbm, ⟨23, _⟩ => ⟨S8x16x1024, .f32⟩
  | .hbm, ⟨24, _⟩ => ⟨S1024x3072, .f32⟩
  | .hbm, ⟨25, _⟩ => ⟨S3x1024, .f32⟩
  | .hbm, ⟨26, _⟩ => ⟨S1024x1024, .f32⟩
  | .hbm, ⟨27, _⟩ => ⟨S8x2x1024, .f32⟩
  | .hbm, ⟨28, _⟩ => ⟨S8x16x3072, .f32⟩
  | .hbm, ⟨29, _⟩ => ⟨S8x16x1024, .f32⟩
  | .hbm, ⟨30, _⟩ => ⟨S8x16x1024, .f32⟩
  | .hbm, ⟨31, _⟩ => ⟨S8x16x1024, .f32⟩
  | .hbm, ⟨32, _⟩ => ⟨S8x16x1024, .f32⟩
  | .hbm, ⟨33, _⟩ => ⟨S8x18x1024, .f32⟩
  | .hbm, ⟨34, _⟩ => ⟨S1x1024, .f32⟩
  | .hbm, ⟨35, _⟩ => ⟨S1024, .f32⟩
  | .hbm, ⟨36, _⟩ => ⟨S8x16x1024, .f32⟩
  | .hbm, ⟨37, _⟩ => ⟨S1x1x1024, .f32⟩
  | .hbm, ⟨38, _⟩ => ⟨S8x16x1024, .f32⟩
  | .hbm, ⟨39, _⟩ => ⟨S8x16x1024, .f32⟩
  | .hbm, ⟨40, _⟩ => ⟨S1x1024, .f32⟩
  | .hbm, ⟨41, _⟩ => ⟨S1024, .f32⟩
  | .hbm, ⟨42, _⟩ => ⟨S8x16x1024, .f32⟩
  | .hbm, ⟨43, _⟩ => ⟨S1x1x1024, .f32⟩
  | .hbm, ⟨44, _⟩ => ⟨S8x16x1024, .f32⟩
  | .hbm, ⟨45, _⟩ => ⟨S8x16x1024, .f32⟩
  | .hbm, ⟨46, _⟩ => ⟨S8x16x1024, .f32⟩
  | .hbm, ⟨47, _⟩ => ⟨S1x1024, .f32⟩
  | .hbm, ⟨48, _⟩ => ⟨S1024, .f32⟩
  | .hbm, ⟨49, _⟩ => ⟨S8x16x1024, .f32⟩
  | .hbm, ⟨50, _⟩ => ⟨S1x1x1024, .f32⟩
  | .hbm, ⟨51, _⟩ => ⟨S8x16x1024, .f32⟩
  | .hbm, ⟨52, _⟩ => ⟨S8x16x1024, .f32⟩
  | .hbm, ⟨53, _⟩ => ⟨S8x16x1024, .f32⟩
  | .hbm, ⟨54, _⟩ => ⟨S8x16x1024, .f32⟩
  | .hbm, ⟨55, _⟩ => ⟨S8x16x1024, .f32⟩
  | .hbm, ⟨56, _⟩ => ⟨S8x8x1024, .f32⟩
  | .hbm, ⟨57, _⟩ => ⟨S8x16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel8.lean ====
abbrev S128x1024 : Shape := ⟨2, ![128, 1024]⟩
abbrev S2x1024 : Shape := ⟨2, ![2, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S8x1024x3584 : Shape := ⟨3, ![8, 1024, 3584]⟩
abbrev S8x3584x1024 : Shape := ⟨3, ![8, 3584, 1024]⟩
abbrev S1x1024x512 : Shape := ⟨3, ![1, 1024, 512]⟩
abbrev S1x512x1024 : Shape := ⟨3, ![1, 512, 1024]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 23
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S2x1024, .f32⟩
  | .hbm, ⟨2, _⟩ => ⟨S1x1024x8, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S1024, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8x1024x3584, .f32⟩
  | .hbm, ⟨16, _⟩ => ⟨S8x1024x3584, .bf16⟩
  | .hbm, ⟨17, _⟩ => ⟨S8x1024x3584, .f32⟩
  | .hbm, ⟨18, _⟩ => ⟨S8x1024x3584, .bf16⟩
  | .hbm, ⟨19, _⟩ => ⟨S8x3584x1024, .f32⟩
  | .hbm, ⟨20, _⟩ => ⟨S8x3584x1024, .bf16⟩
  | .hbm, ⟨21, _⟩ => ⟨S1x1024, .f32⟩
  | .hbm, ⟨22, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x128, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .bf16⟩
  | .local _ .vmem, ⟨12, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![1, 8, 7], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== Reference8Ideal.lean ====
abbrev S128x1024 : Shape := ⟨2, ![128, 1024]⟩
abbrev S2x1024 : Shape := ⟨2, ![2, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1024x8 : Shape := ⟨2, ![1024, 8]⟩
abbrev S8x1024x3584 : Shape := ⟨3, ![8, 1024, 3584]⟩
abbrev S8x3584x1024 : Shape := ⟨3, ![8, 3584, 1024]⟩
abbrev S128x8 : Shape := ⟨2, ![128, 8]⟩
abbrev S128x2 : Shape := ⟨2, ![128, 2]⟩
abbrev S128x2x1 : Shape := ⟨3, ![128, 2, 1]⟩
abbrev S1x1x8 : Shape := ⟨3, ![1, 1, 8]⟩
abbrev S128x2x8 : Shape := ⟨3, ![128, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S128x3584 : Shape := ⟨2, ![128, 3584]⟩

abbrev nBuf : Space → Nat
  | .hbm => 260
  | .vmem => 0
  | .smem => 0
  | _ => 0

abbrev hbmTy0_0 (i : Nat) : BufTy := match i % 128 with
  | 0 => ⟨S128x1024, .f32⟩
  | 1 => ⟨S2x1024, .f32⟩
  | 2 => ⟨S1x1024x8, .f32⟩
  | 3 => ⟨S1x8x1024x3584, .f32⟩
  | 4 => ⟨S1x8x1024x3584, .f32⟩
  | 5 => ⟨S1x8x3584x1024, .f32⟩
  | 6 => ⟨S1024, .f32⟩
  | 7 => ⟨S1x1024, .f32⟩
  | 8 => ⟨S1024, .f32⟩
  | 9 => ⟨S128x1024, .f32⟩
  | 10 => ⟨S_, .f32⟩
  | 11 => ⟨S128, .f32⟩
  | 12 => ⟨S128x1, .f32⟩
  | 13 => ⟨S_, .f32⟩
  | 14 => ⟨S128x1, .f32⟩
  | 15 => ⟨S128x1, .f32⟩
  | 16 => ⟨S_, .f32⟩
  | 17 => ⟨S128x1, .f32⟩
  | 18 => ⟨S128x1, .f32⟩
  | 19 => ⟨S128x1, .f32⟩
  | 20 => ⟨S128x1024, .f32⟩
  | 21 => ⟨S128x1024, .f32⟩
  | 22 => ⟨S1x1024, .f32⟩
  | 23 => ⟨S128x1024, .f32⟩
  | 24 => ⟨S128x1024, .f32⟩
  | 25 => ⟨S1024x8, .f32⟩
  | 26 => ⟨S8x1024x3584, .f32⟩
  | 27 => ⟨S8x1024x3584, .f32⟩
  | 28 => ⟨S8x3584x1024, .f32⟩
  | 29 => ⟨S128x8, .f32⟩
  | 30 => ⟨S128x2, .f32⟩
  | 31 => ⟨S128x2, .i32⟩
  | 32 => ⟨S_, .f32⟩
  | 33 => ⟨S128, .f32⟩
  | 34 => ⟨S_, .f32⟩
  | 35 => ⟨S128, .f32⟩
  | 36 => ⟨S128, .f32⟩
  | 37 => ⟨S128x1, .f32⟩
  | 38 => ⟨S128x2, .f32⟩
  | 39 => ⟨S128x2, .f32⟩
  | 40 => ⟨S128x2, .f32⟩
  | 41 => ⟨S_, .f32⟩
  | 42 => ⟨S128, .f32⟩
  | 43 => ⟨S128x1, .f32⟩
  | 44 => ⟨S128x2, .f32⟩
  | 45 => ⟨S128x2, .f32⟩
  | 46 => ⟨S128x2x1, .i32⟩
  | 47 => ⟨S1x1x8, .i32⟩
  | 48 => ⟨S128x2x8, .i32⟩
  | 49 => ⟨S128x2x8, .i32⟩
  | 50 => ⟨S128x2x8, .i1⟩
  | 51 => ⟨S128x2x8, .f32⟩
  | 52 => ⟨S128x2x1, .f32⟩
  | 53 => ⟨S128x2x8, .f32⟩
  | 54 => ⟨S128x2x8, .f32⟩
  | 55 => ⟨S_, .f32⟩
  | 56 => ⟨S128x8, .f32⟩
  | 57 => ⟨S_, .f32⟩
  | 58 => ⟨S128x1024, .f32⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S128x3584, .f32⟩
  | 66 => ⟨S128x3584, .f32⟩
  | 67 => ⟨S128x3584, .f32⟩
  | 68 => ⟨S_, .f32⟩
  | 69 => ⟨S128x3584, .f32⟩
  | 70 => ⟨S128x3584, .f32⟩
  | 71 => ⟨S_, .f32⟩
  | 72 => ⟨S128x3584, .f32⟩
  | 73 => ⟨S128x3584, .f32⟩
  | 74 => ⟨S128x3584, .f32⟩
  | 75 => ⟨S128x3584, .f32⟩
  | 76 => ⟨S128x3584, .f32⟩
  | 77 => ⟨S128x1024, .f32⟩
  | 78 => ⟨S128x1, .f32⟩
  | 79 => ⟨S128x1024, .f32⟩
  | 80 => ⟨S128x1024, .f32⟩
  | 81 => ⟨S128x1024, .f32⟩
  | 82 => ⟨S1x1024x3584, .f32⟩
  | 83 => ⟨S1024x3584, .f32⟩
  | 84 => ⟨S1x1024x3584, .f32⟩
  | 85 => ⟨S1024x3584, .f32⟩
  | 86 => ⟨S1x3584x1024, .f32⟩
  | 87 => ⟨S3584x1024, .f32⟩
  | 88 => ⟨S128x3584, .f32⟩
  | 89 => ⟨S128x3584, .f32⟩
  | 90 => ⟨S128x3584, .f32⟩
  | 91 => ⟨S_, .f32⟩
  | 92 => ⟨S128x3584, .f32⟩
  | 93 => ⟨S128x3584, .f32⟩
  | 94 => ⟨S_, .f32⟩
  | 95 => ⟨S128x3584, .f32⟩
  | 96 => ⟨S128x3584, .f32⟩
  | 97 => ⟨S128x3584, .f32⟩
  | 98 => ⟨S128x3584, .f32⟩
  | 99 => ⟨S128x3584, .f32⟩
  | 100 => ⟨S128x1024, .f32⟩
  | 101 => ⟨S128x1, .f32⟩
  | 102 => ⟨S128x1024, .f32⟩
  | 103 => ⟨S128x1024, .f32⟩
  | 104 => ⟨S128x1024, .f32⟩
  | 105 => ⟨S1x1024x3584, .f32⟩
  | 106 => ⟨S1024x3584, .f32⟩
  | 107 => ⟨S1x1024x3584, .f32⟩
  | 108 => ⟨S1024x3584, .f32⟩
  | 109 => ⟨S1x3584x1024, .f32⟩
  | 110 => ⟨S3584x1024, .f32⟩
  | 111 => ⟨S128x3584, .f32⟩
  | 112 => ⟨S128x3584, .f32⟩
  | 113 => ⟨S128x3584, .f32⟩
  | 114 => ⟨S_, .f32⟩
  | 115 => ⟨S128x3584, .f32⟩
  | 116 => ⟨S128x3584, .f32⟩
  | 117 => ⟨S_, .f32⟩
  | 118 => ⟨S128x3584, .f32⟩
  | 119 => ⟨S128x3584, .f32⟩
  | 120 => ⟨S128x3584, .f32⟩
  | 121 => ⟨S128x3584, .f32⟩
  | 122 => ⟨S128x3584, .f32⟩
  | 123 => ⟨S128x1024, .f32⟩
  | 124 => ⟨S128x1, .f32⟩
  | 125 => ⟨S128x1024, .f32⟩
  | 126 => ⟨S128x1024, .f32⟩
  | 127 => ⟨S128x1024, .f32⟩
  | _ => ⟨S128x1024, .f32⟩

abbrev hbmTy0_1 (i : Nat) : BufTy := match i % 128 with
  | 0 => ⟨S1x1024x3584, .f32⟩
  | 1 => ⟨S1024x3584, .f32⟩
  | 2 => ⟨S1x1024x3584, .f32⟩
  | 3 => ⟨S1024x3584, .f32⟩
  | 4 => ⟨S1x3584x1024, .f32⟩
  | 5 => ⟨S3584x1024, .f32⟩
  | 6 => ⟨S128x3584, .f32⟩
  | 7 => ⟨S128x3584, .f32⟩
  | 8 => ⟨S128x3584, .f32⟩
  | 9 => ⟨S_, .f32⟩
  | 10 => ⟨S128x3584, .f32⟩
  | 11 => ⟨S128x3584, .f32⟩
  | 12 => ⟨S_, .f32⟩
  | 13 => ⟨S128x3584, .f32⟩
  | 14 => ⟨S128x3584, .f32⟩
  | 15 => ⟨S128x3584, .f32⟩
  | 16 => ⟨S128x3584, .f32⟩
  | 17 => ⟨S128x3584, .f32⟩
  | 18 => ⟨S128x1024, .f32⟩
  | 19 => ⟨S128x1, .f32⟩
  | 20 => ⟨S128x1024, .f32⟩
  | 21 => ⟨S128x1024, .f32⟩
  | 22 => ⟨S128x1024, .f32⟩
  | 23 => ⟨S1x1024x3584, .f32⟩
  | 24 => ⟨S1024x3584, .f32⟩
  | 25 => ⟨S1x1024x3584, .f32⟩
  | 26 => ⟨S1024x3584, .f32⟩
  | 27 => ⟨S1x3584x1024, .f32⟩
  | 28 => ⟨S3584x1024, .f32⟩
  | 29 => ⟨S128x3584, .f32⟩
  | 30 => ⟨S128x3584, .f32⟩
  | 31 => ⟨S128x3584, .f32⟩
  | 32 => ⟨S_, .f32⟩
  | 33 => ⟨S128x3584, .f32⟩
  | 34 => ⟨S128x3584, .f32⟩
  | 35 => ⟨S_, .f32⟩
  | 36 => ⟨S128x3584, .f32⟩
  | 37 => ⟨S128x3584, .f32⟩
  | 38 => ⟨S128x3584, .f32⟩
  | 39 => ⟨S128x3584, .f32⟩
  | 40 => ⟨S128x3584, .f32⟩
  | 41 => ⟨S128x1024, .f32⟩
  | 42 => ⟨S128x1, .f32⟩
  | 43 => ⟨S128x1024, .f32⟩
  | 44 => ⟨S128x1024, .f32⟩
  | 45 => ⟨S128x1024, .f32⟩
  | 46 => ⟨S1x1024x3584, .f32⟩
  | 47 => ⟨S1024x3584, .f32⟩
  | 48 => ⟨S1x1024x3584, .f32⟩
  | 49 => ⟨S1024x3584, .f32⟩
  | 50 => ⟨S1x3584x1024, .f32⟩
  | 51 => ⟨S3584x1024, .f32⟩
  | 52 => ⟨S128x3584, .f32⟩
  | 53 => ⟨S128x3584, .f32⟩
  | 54 => ⟨S128x3584, .f32⟩
  | 55 => ⟨S_, .f32⟩
  | 56 => ⟨S128x3584, .f32⟩
  | 57 => ⟨S128x3584, .f32⟩
  | 58 => ⟨S_, .f32⟩
  | 59 => ⟨S128x3584, .f32⟩
  | 60 => ⟨S128x3584, .f32⟩
  | 61 => ⟨S128x3584, .f32⟩
  | 62 => ⟨S128x3584, .f32⟩
  | 63 => ⟨S128x3584, .f32⟩
  | 64 => ⟨S128x1024, .f32⟩
  | 65 => ⟨S128x1, .f32⟩
  | 66 => ⟨S128x1024, .f32⟩
  | 67 => ⟨S128x1024, .f32⟩
  | 68 => ⟨S128x1024, .f32⟩
  | 69 => ⟨S1x1024x3584, .f32⟩
  | 70 => ⟨S1024x3584, .f32⟩
  | 71 => ⟨S1x1024x3584, .f32⟩
  | 72 => ⟨S1024x3584, .f32⟩
  | 73 => ⟨S1x3584x1024, .f32⟩
  | 74 => ⟨S3584x1024, .f32⟩
  | 75 => ⟨S128x3584, .f32⟩
  | 76 => ⟨S128x3584, .f32⟩
  | 77 => ⟨S128x3584, .f32⟩
  | 78 => ⟨S_, .f32⟩
  | 79 => ⟨S128x3584, .f32⟩
  | 80 => ⟨S128x3584, .f32⟩
  | 81 => ⟨S_, .f32⟩
  | 82 => ⟨S128x3584, .f32⟩
  | 83 => ⟨S128x3584, .f32⟩
  | 84 => ⟨S128x3584, .f32⟩
  | 85 => ⟨S128x3584, .f32⟩
  | 86 => ⟨S128x3584, .f32⟩
  | 87 => ⟨S128x1024, .f32⟩
  | 88 => ⟨S128x1, .f32⟩
  | 89 => ⟨S128x1024, .f32⟩
  | 90 => ⟨S128x1024, .f32⟩
  | 91 => ⟨S128x1024, .f32⟩
  | 92 => ⟨S1x1024x3584, .f32⟩
  | 93 => ⟨S1024x3584, .f32⟩
  | 94 => ⟨S1x1024x3584, .f32⟩
  | 95 => ⟨S1024x3584, .f32⟩
  | 96 => ⟨S1x3584x1024, .f32⟩
  | 97 => ⟨S3584x1024, .f32⟩
  | 98 => ⟨S128x3584, .f32⟩
  | 99 => ⟨S128x3584, .f32⟩
  | 100 => ⟨S128x3584, .f32⟩
  | 101 => ⟨S_, .f32⟩
  | 102 => ⟨S128x3584, .f32⟩
  | 103 => ⟨S128x3584, .f32⟩
  | 104 => ⟨S_, .f32⟩
  | 105 => ⟨S128x3584, .f32⟩
  | 106 => ⟨S128x3584, .f32⟩
  | 107 => ⟨S128x3584, .f32⟩
  | 108 => ⟨S128x3584, .f32⟩
  | 109 => ⟨S128x3584, .f32⟩
  | 110 => ⟨S128x1024, .f32⟩
  | 111 => ⟨S128x1, .f32⟩
  | 112 => ⟨S128x1024, .f32⟩
  | 113 => ⟨S128x1024, .f32⟩
  | 114 => ⟨S128x1024, .f32⟩
  | 115 => ⟨S128x1024, .f32⟩
  | 116 => ⟨S128x1024, .f32⟩
  | 117 => ⟨S_, .f32⟩
  | 118 => ⟨S128, .f32⟩
  | 119 => ⟨S128x1, .f32⟩
  | 120 => ⟨S_, .f32⟩
  | 121 => ⟨S128x1, .f32⟩
  | 122 => ⟨S128x1, .f32⟩
  | 123 => ⟨S_, .f32⟩
  | 124 => ⟨S128x1, .f32⟩
  | 125 => ⟨S128x1, .f32⟩
  | 126 => ⟨S128x1, .f32⟩
  | 127 => ⟨S128x1024, .f32⟩
  | _ => ⟨S128x1024, .f32⟩

abbrev hbmTy0_2 (i : Nat) : BufTy := match i % 128 with
  | 0 => ⟨S128x1024, .f32⟩
  | 1 => ⟨S1x1024, .f32⟩
  | 2 => ⟨S128x1024, .f32⟩
  | 3 => ⟨S128x1024, .f32⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_values : Ref sig .tc := ⟨.hbm, 30, rfl⟩
abbrev main_indices : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call5_v0 : Ref sig .tc := ⟨.hbm, 158, rfl⟩
abbrev main_call5_v1 : Ref sig .tc := ⟨.hbm, 159, rfl⟩
abbrev main_call5_cst : Ref sig .tc := ⟨.hbm, 160, rfl⟩
abbrev main_call5_v2 : Ref sig .tc := ⟨.hbm, 161, rfl⟩
abbrev main_call5_v3 : Ref sig .tc := ⟨.hbm, 162, rfl⟩
abbrev main_call5_cst_0 : Ref sig .tc := ⟨.hbm, 163, rfl⟩
abbrev main_call5_v4 : Ref sig .tc := ⟨.hbm, 164, rfl⟩
abbrev main_call5_v5 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_call6_v0 : Ref sig .tc := ⟨.hbm, 181, rfl⟩
abbrev main_call6_v1 : Ref sig .tc := ⟨.hbm, 182, rfl⟩
abbrev main_call6_cst : Ref sig .tc := ⟨.hbm, 183, rfl⟩
abbrev main_call6_v2 : Ref sig .tc := ⟨.hbm, 184, rfl⟩
abbrev main_call6_v3 : Ref sig .tc := ⟨.hbm, 185, rfl⟩
abbrev main_call6_cst_0 : Ref sig .tc := ⟨.hbm, 186, rfl⟩
abbrev main_call6_v4 : Ref sig .tc := ⟨.hbm, 187, rfl⟩
abbrev main_call6_v5 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_call7_v0 : Ref sig .tc := ⟨.hbm, 204, rfl⟩
abbrev main_call7_v1 : Ref sig .tc := ⟨.hbm, 205, rfl⟩
abbrev main_call7_cst : Ref sig .tc := ⟨.hbm, 206, rfl⟩
abbrev main_call7_v2 : Ref sig .tc := ⟨.hbm, 207, rfl⟩
abbrev main_call7_v3 : Ref sig .tc := ⟨.hbm, 208, rfl⟩
abbrev main_call7_cst_0 : Ref sig .tc := ⟨.hbm, 209, rfl⟩
abbrev main_call7_v4 : Ref sig .tc := ⟨.hbm, 210, rfl⟩
abbrev main_call7_v5 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_call8_v0 : Ref sig .tc := ⟨.hbm, 227, rfl⟩
abbrev main_call8_v1 : Ref sig .tc := ⟨.hbm, 228, rfl⟩
abbrev main_call8_cst : Ref sig .tc := ⟨.hbm, 229, rfl⟩
abbrev main_call8_v2 : Ref sig .tc := ⟨.hbm, 230, rfl⟩
abbrev main_call8_v3 : Ref sig .tc := ⟨.hbm, 231, rfl⟩
abbrev main_call8_cst_0 : Ref sig .tc := ⟨.hbm, 232, rfl⟩
abbrev main_call8_v4 : Ref sig .tc := ⟨.hbm, 233, rfl⟩
abbrev main_call8_v5 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_cst_7 : Ref sig .tc := ⟨.hbm, 245, rfl⟩
abbrev main_v159 : Ref sig .tc := ⟨.hbm, 246, rfl⟩
abbrev main_v160 : Ref sig .tc := ⟨.hbm, 247, rfl⟩
abbrev main_cst_8 : Ref sig .tc := ⟨.hbm, 248, rfl⟩
abbrev main_v161 : Ref sig .tc := ⟨.hbm, 249, rfl⟩
abbrev main_v162 : Ref sig .tc := ⟨.hbm, 250, rfl⟩
abbrev main_cst_9 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩

abbrev nD : Nat := 1
abbrev τ : Topo := Topo.v7x

variable {F : FTy → Type} [FloatOps F]
-- ==== Proof.Layer.lean ====
/-
  The layer's arithmetic, written once over the extended reals for the kernels' side and the references' side:
  the root-mean-square norm of one token, and the gated activation of the SwiGLU.
-/
module

public import Idealize.ShloMosaic.Lib.Pointwise
public import Idealize.ShloMosaic.Lib.Pipeline.ValueKit

@[expose] public section

set_option maxRecDepth 16384

noncomputable section

namespace Cert.Layer

open Idealize.ShloMosaic

/-- The norm's factor of a token `x` of 1024 channels: one over the root of the mean square plus the epsilon. -/
def scale (x : Fin 1024 → EReal) : EReal :=
  Ideal.rsqrt (Ideal.div (∑ i : Fin 1024, x i * x i) (Ideal.ofBits .f32 0x44800000#32) + Ideal.ofBits .f32 0x358637BD#32)

/-- Channel `k` of the root-mean-square norm of the token `x` under the gain `g`. -/
def rms (x g : Fin 1024 → EReal) (k : Fin 1024) : EReal := x k * scale x * g k

/-- The logistic function. -/
def logi (u : EReal) : EReal := Ideal.div 1 (1 + Ideal.exp (-u))

/-- SwiGLU's hidden activation of one channel: `silu(u) · v`. -/
def gate (u v : EReal) : EReal := u * logi u * v

/-- Hidden channel `f` of the SwiGLU of a token `x` under the two weight matrices. -/
def act {n : ℕ} (x : Fin 1024 → EReal) (wg wu : Fin 1024 → Fin n → EReal) (f : Fin n) : EReal :=
  gate (∑ k : Fin 1024, x k * wg k f) (∑ k : Fin 1024, x k * wu k f)

/-- The dense layer at a token `x` and a channel `c`: the token plus its normed self through the gated MLP. -/
def dense (x g : Fin 1024 → EReal) (wg wu : Fin 1024 → Fin 3584 → EReal) (wd : Fin 3584 → Fin 1024 → EReal)
    (c : Fin 1024) : EReal :=
  x c + ∑ f : Fin 3584, act (rms x g) wg wu f * wd f c

/-- Column `c` of the product of a token's norm and a matrix. -/
def proj {n : ℕ} (x g : Fin 1024 → EReal) (w : Fin 1024 → Fin n → EReal) (c : Fin n) : EReal :=
  ∑ k : Fin 1024, rms x g k * w k c

/-- A sum over 3584 hidden channels, taken 512 at a time. -/
theorem sum_tiles (F : Fin 3584 → EReal) (T : Fin 7 → Fin 512 → EReal)
    (h : ∀ (s : Fin 7) (f : Fin 512), T s f = F ⟨512 * s.val + f.val, by omega⟩) :
    ∑ s : Fin 7, ∑ f : Fin 512, T s f = ∑ f : Fin 3584, F f := by
  simp only [h]
  rw [← Finset.sum_product']
  refine Finset.sum_nbij' (fun p : Fin 7 × Fin 512 => (⟨512 * p.1.val + p.2.val, by omega⟩ : Fin 3584))
    (fun f => ((⟨f.val / 512, by omega⟩ : Fin 7), (⟨f.val % 512, by omega⟩ : Fin 512)))
    (fun _ _ => Finset.mem_univ _) (fun _ _ => Finset.mem_univ _) ?_ ?_ (fun _ _ => rfl)
  · rintro ⟨a, b⟩ _
    refine Prod.ext (Fin.ext ?_) (Fin.ext ?_) <;> simp only <;> omega
  · intro f _
    refine Fin.ext ?_
    simp only
    omega

/-- A quantity that restarts from `base` plus the first term at every multiple of `J`, and adds a term at every other
    point, is, at a run's last point, the run's `base` plus the sum of the run's terms. -/
theorem run_sum {N : ℕ} {ι : Type*} (f : (n : ℕ) → n < N → ι → EReal) (J : ℕ) [NeZero J] (base part : Fin N → ι → EReal)
    (h0 : ∀ t : Fin N, t.val % J = 0 → ∀ i, f t.val t.isLt i = base t i + part t i)
    (hs : ∀ t : Fin N, ¬t.val % J = 0 → ∀ i,
      f t.val t.isLt i = f (t.val - 1) (Nat.lt_of_le_of_lt (Nat.sub_le _ _) t.isLt) i + part t i)
    (t : Fin N) (hr : t.val % J = J - 1) (i : ι) :
    f t.val t.isLt i = base ⟨J * (t.val / J), by have := Nat.div_add_mod t.val J; have := t.isLt; omega⟩ i
      + ∑ s : Fin J, part ⟨J * (t.val / J) + s.val, Pipeline.run_point_lt_of_flush t hr s⟩ i := by
  have key := Pipeline.eq_sum_fin_of_reset_step_apply_of_flush f J (fun _ => 0)
    (fun t i => (if t.val % J = 0 then base t i else 0) + part t i)
    (fun t h i => by rw [h0 t h i, if_pos h, zero_add])
    (fun t h i => by rw [hs t h i, if_neg h, zero_add]) t hr i
  rw [key, zero_add, Finset.sum_add_distrib]
  congr 1
  have hJ : 0 < J := NeZero.pos J
  rw [Finset.sum_eq_single (⟨0, hJ⟩ : Fin J)]
  · rw [if_pos (by simp)]; rfl
  · intro s _ hne
    rw [if_neg]
    have hs0 : s.val ≠ 0 := fun h => hne (Fin.ext h)
    show ¬ (J * (t.val / J) + s.val) % J = 0
    rw [Nat.mul_add_mod, Nat.mod_eq_of_lt s.isLt]; exact hs0
  · intro h; exact absurd (Finset.mem_univ _) h

end Cert.Layer

end
-- ==== Proof.DenseRef.lean ====
/-
  The dense SwiGLU's reference, read at one token and channel: the token's residual plus the down projection of the
  gated activations of its norm.
-/
module

public import proofs.«01_k».proof.Proof.Layer
public import proofs.«01_k».proof.Proof.Gen.Reference2Ideal.Read

@[expose] public section

set_option maxRecDepth 16384

noncomputable section

namespace Cert.Reference2Ideal.Dense

open Idealize.ShloMosaic Idealize.ShloMosaic.TcCoe
open Cert.Reference2Ideal Cert.Reference2Ideal.Read Cert.Layer

variable (x : FVec Ideal S65536x1024 .f32) (g : FVec Ideal S2x1024 .f32)
  (wg wu : FVec Ideal S1x1024x3584 .f32) (wd : FVec Ideal S1x3584x1024 .f32)

/-- The normalised tokens. -/
theorem norm_at (n : Fin 65536) (k : Fin 1024) :
    val_main_v14 (F := Ideal) x g (ix2 n k) = rms (fun i => x (ix2 n i)) (fun i => g (ix2 0 i)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  simp only [rms, scale, zero_add]

/-- The result. -/
theorem result_at (n : Fin 65536) (c : Fin 1024) :
    val_main_v23 (F := Ideal) x g wg wu wd (ix2 n c)
      = x (ix2 n c) + ∑ f : Fin 3584, act (fun k => val_main_v14 (F := Ideal) x g (ix2 n k)) (fun k f => wg (ix3 0 k f))
          (fun k f => wu (ix3 0 k f)) f * wd (ix3 0 f c) := by
  pointwise [val_main_v23, val_main_v22, val_main_v21, val_main_v20, val_main_v19, val_main_v18, val_main_v17, val_main_v16,
    val_main_v15, val_main_call0_v5, val_main_call0_v4, val_main_call0_v3, val_main_call0_v2, val_main_call0_v1,
    val_main_call0_v0, val_main_call0_cst, val_main_call0_cst_0]
  simp only [act, gate, logi]

/-- The reference's result is the dense layer of every token. -/
theorem result_eq (n : Fin 65536) (c : Fin 1024) :
    val_main_v23 (F := Ideal) x g wg wu wd (ix2 n c)
      = dense (fun k => x (ix2 n k)) (fun k => g (ix2 0 k)) (fun k f => wg (ix3 0 k f)) (fun k f => wu (ix3 0 k f))
          (fun f c => wd (ix3 0 f c)) c := by
  rw [result_at]
  simp only [norm_at, dense]

end Cert.Reference2Ideal.Dense

end
-- ==== Proof.DenseBlock.lean ====
/-
  The dense SwiGLU kernel, one block: what its body's stored values are at an index, for any staged contents.
-/
module

public import proofs.«01_k».proof.Proof.Layer
public import proofs.«01_k».proof.Proof.Gen.Kernel2Ideal.Skeleton

@[expose] public section

set_option maxRecDepth 16384

noncomputable section

namespace Cert.Kernel2Ideal.Dense

open Idealize.ShloMosaic Idealize.ShloMosaic.TcCoe
open Cert.Kernel2Ideal Cert.Kernel2Ideal.Gen Cert.Layer

/-- The normalised block the first step of a row block stores: the norm of each of its tokens. -/
theorem norm_at (x : Vec Ideal S1024x1024 .f32) (g : Vec Ideal S1x1024 .f32) (r k : Fin 1024) :
    k0_pay1 (F := Ideal) x g (ix2 r k) = rms (fun i => x (ix2 r i)) (fun i => g (ix2 0 i)) k := by
  pointwise [k0_pay1]
  rfl

/-- A step's stored block: the block before it plus the step's part of the down projection. -/
theorem step_at (xn : Vec Ideal S1024x1024 .bf16) (wg wu : Vec Ideal S1024x512 .bf16) (o : Vec Ideal S1024x1024 .f32)
    (wd : Vec Ideal S512x1024 .bf16) (r c : Fin 1024) :
    k0_pay2 (F := Ideal) xn wg wu o wd (ix2 r c)
      = o (ix2 r c) + ∑ f : Fin 512, act (fun k => xn (ix2 r k)) (fun k f => wg (ix2 k f)) (fun k f => wu (ix2 k f)) f
          * wd (ix2 f c) := by
  pointwise [k0_pay2]
  simp only [act, gate, logi, zero_sub]

end Cert.Kernel2Ideal.Dense

end
-- ==== Proof.DenseSteps.lean ====
/-
  The dense SwiGLU kernel over its grid: what the result array holds after the run.
  A row block of 1024 tokens takes seven consecutive steps; the first normalises the tokens and starts the block from the
  residual, each adds its 512 hidden channels' part of the down projection.
-/
module

public import proofs.«01_k».proof.Proof.DenseBlock
public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.Kernel2Ideal.Dense

open Idealize.ShloMosaic Idealize.ShloMosaic.TcCoe Idealize.SL.Sem
open Idealize.ShloMosaic.Pipeline (Dat)
open Cert.Kernel2Ideal Cert.Kernel2Ideal.Gen Cert.Layer

variable (m : (ℓ : Loc nD τ sig) → Buf (Elt Ideal) ℓ)

/-- Where each window's block lies. -/
theorem idx : ∀ t : Fin cfg0.N, win0_0.index t = ![t.val / 7, 0] ∧ win0_1.index t = ![0, 0] ∧ win0_2.index t = ![0, t.val % 7]
    ∧ win0_3.index t = ![0, t.val % 7] ∧ win0_4.index t = ![t.val % 7, 0] ∧ win0_5.index t = ![t.val / 7, 0] :=
  (by decide +kernel : ∀ t : Fin grid0.N, _)

/-- The staged blocks, at their arrays' types. -/
def xB (c : Dev nD) (t : Fin cfg0.N) : Vec Ideal S1024x1024 .f32 := iblk m c 0 t
def gB (c : Dev nD) (t : Fin cfg0.N) : Vec Ideal S1x1024 .f32 := iblk m c 1 t
def wgB (c : Dev nD) (t : Fin cfg0.N) : Vec Ideal S1024x512 .bf16 := iblk m c 2 t
def wuB (c : Dev nD) (t : Fin cfg0.N) : Vec Ideal S1024x512 .bf16 := iblk m c 3 t
def wdB (c : Dev nD) (t : Fin cfg0.N) : Vec Ideal S512x1024 .bf16 := iblk m c 4 t

/-- At a row block's first step the scratch receives the block's norm. -/
theorem scratch_first (c : Dev nD) (t : Fin cfg0.N) (h : t.val % 7 = 0) :
    (outsAt0 m c t.val t.isLt).2 = k0_pay1 (F := Ideal) (xB m c t) (gB m c t) := by
  rw [outsAt0_A m c t h]; frame_out
  rfl

/-- At a row block's other steps the scratch is kept. -/
theorem scratch_next (c : Dev nD) (t : Fin cfg0.N) (h : ¬t.val % 7 = 0) :
    (outsAt0 m c t.val t.isLt).2 = (outsAt0 m c (t.val - 1) (Nat.lt_of_le_of_lt (Nat.sub_le _ _) t.isLt)).2 := by
  rw [outsAt0_B m c t h]; frame_out
  rfl

/-- A row block's first step: the residual plus the first part. -/
theorem out_first (c : Dev nD) (t : Fin cfg0.N) (h : t.val % 7 = 0) :
    (outsAt0 m c t.val t.isLt).1
      = k0_pay2 (F := Ideal) (k0_pay1 (F := Ideal) (xB m c t) (gB m c t)) (wgB m c t) (wuB m c t) (xB m c t) (wdB m c t) := by
  rw [outsAt0_A m c t h]; frame_out
  rfl

/-- A later step: the block before it plus the step's part. -/
theorem out_next (c : Dev nD) (t : Fin cfg0.N) (h : ¬t.val % 7 = 0) :
    (outsAt0 m c t.val t.isLt).1
      = k0_pay2 (F := Ideal) (outsAt0 m c (t.val - 1) (Nat.lt_of_le_of_lt (Nat.sub_le _ _) t.isLt)).2 (wgB m c t) (wuB m c t)
          (outsAt0 m c (t.val - 1) (Nat.lt_of_le_of_lt (Nat.sub_le _ _) t.isLt)).1 (wdB m c t) := by
  rw [outsAt0_B m c t h]; frame_out
  rw [read_unread_whole]
  rfl

/-- The token that row `r` of step `t`'s block is. -/
def tok (t : Fin cfg0.N) (r : Fin 1024) : Fin 65536 :=
  ⟨t.val / 7 * 1024 + r.val, by have := (show t.val < 448 from t.isLt); omega⟩

/-- The hidden channel that channel `f` of step `t`'s tile is. -/
def chan (t : Fin cfg0.N) (f : Fin 512) : Fin 3584 := ⟨t.val % 7 * 512 + f.val, by omega⟩

/-- The arguments, at their types. -/
abbrev hA (c : Dev nD) : Vec Ideal S65536x1024 .f32 := m ((c : Thread nD τ).loc main_arg0)
abbrev gA (c : Dev nD) : Vec Ideal S2x1024 .f32 := m ((c : Thread nD τ).loc main_arg1)
abbrev wgA (c : Dev nD) : Vec Ideal S1x1024x3584 .f32 := m ((c : Thread nD τ).loc main_arg2)
abbrev wuA (c : Dev nD) : Vec Ideal S1x1024x3584 .f32 := m ((c : Thread nD τ).loc main_arg3)
abbrev wdA (c : Dev nD) : Vec Ideal S1x3584x1024 .f32 := m ((c : Thread nD τ).loc main_arg4)

theorem xB_at (c : Dev nD) (t : Fin cfg0.N) (r k : Fin 1024) : xB m c t (ix2 r k) = hA m c (ix2 (tok t r) k) := by
  unfold xB hA tok
  blk_point [iblk, V, idx t]

theorem gB_at (c : Dev nD) (t : Fin cfg0.N) (k : Fin 1024) : gB m c t (ix2 0 k) = gA m c (ix2 0 k) := by
  unfold gB gA
  blk_point [iblk, idx t]

theorem wgB_at (c : Dev nD) (t : Fin cfg0.N) (k : Fin 1024) (f : Fin 512) :
    wgB m c t (ix2 k f) = wgA m c (ix3 0 k (chan t f)) := by
  unfold wgB wgA chan
  blk_point [iblk, idx t]

theorem wuB_at (c : Dev nD) (t : Fin cfg0.N) (k : Fin 1024) (f : Fin 512) :
    wuB m c t (ix2 k f) = wuA m c (ix3 0 k (chan t f)) := by
  unfold wuB wuA chan
  blk_point [iblk, idx t]

theorem wdB_at (c : Dev nD) (t : Fin cfg0.N) (f : Fin 512) (k : Fin 1024) :
    wdB m c t (ix2 f k) = wdA m c (ix3 0 (chan t f) k) := by
  unfold wdB wdA chan
  blk_point [iblk, idx t]

end Cert.Kernel2Ideal.Dense

end
-- ==== Proof.DenseValue.lean ====
/-
  The dense SwiGLU kernel's result array: at every token and channel it holds the dense layer of that token.
-/
module

public import proofs.«01_k».proof.Proof.DenseSteps

@[expose] public section

set_option maxRecDepth 16384

noncomputable section

namespace Cert.Kernel2Ideal.Dense

open Idealize.ShloMosaic Idealize.ShloMosaic.TcCoe Idealize.SL.Sem
open Idealize.ShloMosaic.Pipeline (Dat)
open Cert.Kernel2Ideal Cert.Kernel2Ideal.Gen Cert.Layer

variable (m : (ℓ : Loc nD τ sig) → Buf (Elt Ideal) ℓ)

/-- A row block's first step. -/
def start (t : Fin cfg0.N) : Fin cfg0.N := ⟨7 * (t.val / 7), Pipeline.run_start_lt t⟩

/-- A row block's steps work on the same tokens. -/
theorem tok_start (t : Fin cfg0.N) (r : Fin 1024) : tok (start t) r = tok t r := by
  refine Fin.ext ?_
  simp only [tok, start]
  omega

/-- At every step the scratch holds the norms of the block's tokens. -/
theorem scratch_at (c : Dev nD) (t : Fin cfg0.N) (r k : Fin 1024) :
    (outsAt0 m c t.val t.isLt).2 (ix2 r k) = rms (fun i => hA m c (ix2 (tok t r) i)) (fun i => gA m c (ix2 0 i)) k := by
  rw [Pipeline.eq_of_write_hold (fun n h => (outsAt0 m c n h).2) 7 (fun t => k0_pay1 (F := Ideal) (xB m c t) (gB m c t))
    (scratch_first m c) (scratch_next m c) t]
  rw [norm_at]
  simp only [gB_at]
  have e : (fun i => xB m c ⟨7 * (t.val / 7), Pipeline.run_start_lt t⟩ (ix2 r i)) = fun i => hA m c (ix2 (tok t r) i) := by
    funext i
    rw [xB_at, ← tok_start t r]
    rfl
  rw [e]

/-- What step `t` adds at a row and a channel. -/
def part (c : Dev nD) (t : Fin cfg0.N) (i : S1024x1024.Idx) : EReal :=
  ∑ f : Fin 512, act (rms (fun k => hA m c (ix2 (tok t (i 0)) k)) (fun k => gA m c (ix2 0 k)))
    (fun k f => wgA m c (ix3 0 k f)) (fun k f => wuA m c (ix3 0 k f)) (chan t f) * wdA m c (ix3 0 (chan t f) (i 1))

/-- A tile's product is the step's part, once the scratch is read. -/
theorem tile_eq (c : Dev nD) (t : Fin cfg0.N) (r k : Fin 1024) :
    (∑ f : Fin 512, act (rms (fun i => hA m c (ix2 (tok t r) i)) (fun i => gA m c (ix2 0 i)))
        (fun k f => wgB m c t (ix2 k f)) (fun k f => wuB m c t (ix2 k f)) f * wdB m c t (ix2 f k))
      = part m c t (ix2 r k) := by
  unfold part
  refine Finset.sum_congr rfl fun f _ => ?_
  rw [wdB_at]
  simp only [act, wgB_at, wuB_at]
  rfl

theorem out_start (c : Dev nD) (t : Fin cfg0.N) (h : t.val % 7 = 0) (i : S1024x1024.Idx) :
    (outsAt0 m c t.val t.isLt).1 i = hA m c (ix2 (tok t (i 0)) (i 1)) + part m c t i := by
  obtain ⟨r, k, rfl⟩ : ∃ r k, i = ix2 r k := ⟨i 0, i 1, by funext a; fin_cases a <;> rfl⟩
  rw [out_first m c t h, step_at]
  have e : (fun k => k0_pay1 (F := Ideal) (xB m c t) (gB m c t) (ix2 r k))
      = rms (fun i => hA m c (ix2 (tok t r) i)) (fun i => gA m c (ix2 0 i)) := by
    funext k
    rw [norm_at]
    simp only [gB_at, xB_at]
  rw [e, tile_eq, xB_at]
  rfl

theorem out_step (c : Dev nD) (t : Fin cfg0.N) (h : ¬t.val % 7 = 0) (i : S1024x1024.Idx) :
    (outsAt0 m c t.val t.isLt).1 i
      = (outsAt0 m c (t.val - 1) (Nat.lt_of_le_of_lt (Nat.sub_le _ _) t.isLt)).1 i + part m c t i := by
  obtain ⟨r, k, rfl⟩ : ∃ r k, i = ix2 r k := ⟨i 0, i 1, by funext a; fin_cases a <;> rfl⟩
  rw [out_next m c t h, step_at]
  have e : (fun k => (outsAt0 m c (t.val - 1) (Nat.lt_of_le_of_lt (Nat.sub_le _ _) t.isLt)).2 (ix2 r k))
      = rms (fun i => hA m c (ix2 (tok t r) i)) (fun i => gA m c (ix2 0 i)) := by
    funext k
    rw [← scratch_next m c t h, scratch_at]
  rw [e, tile_eq]

/-- A finished row block holds the dense layer of its tokens. -/
theorem block_at (c : Dev nD) (t : Fin cfg0.N) (hf : t.val % 7 = 6) (r k : Fin 1024) :
    (outsAt0 m c t.val t.isLt).1 (ix2 r k)
      = dense (fun k => hA m c (ix2 (tok t r) k)) (fun k => gA m c (ix2 0 k)) (fun k f => wgA m c (ix3 0 k f))
          (fun k f => wuA m c (ix3 0 k f)) (fun f c' => wdA m c (ix3 0 f c')) k := by
  rw [run_sum (fun n h => (outsAt0 m c n h).1) 7 (fun t i => hA m c (ix2 (tok t (i 0)) (i 1))) (part m c)
    (out_start m c) (out_step m c) t hf (ix2 r k)]
  have e0 : tok ⟨7 * (t.val / 7), Pipeline.run_start_lt t⟩ r = tok t r := tok_start t r
  have e1 : ∀ s : Fin 7, tok ⟨7 * (t.val / 7) + s.val, Pipeline.run_point_lt_of_flush t hf s⟩ r = tok t r := by
    intro s
    refine Fin.ext ?_
    simp only [tok]
    omega
  unfold dense
  congr 1
  · exact congrArg (fun n => hA m c (ix2 n k)) e0
  · refine sum_tiles _ _ fun s f => ?_
    have e2 : chan ⟨7 * (t.val / 7) + s.val, Pipeline.run_point_lt_of_flush t hf s⟩ f = ⟨512 * s.val + f.val, by omega⟩ := by
      refine Fin.ext ?_
      simp only [chan]
      omega
    show act (rms (fun k => hA m c (ix2 (tok ⟨7 * (t.val / 7) + s.val, Pipeline.run_point_lt_of_flush t hf s⟩ r) k)) _) _ _
      (chan ⟨7 * (t.val / 7) + s.val, Pipeline.run_point_lt_of_flush t hf s⟩ f)
        * wdA m c (ix3 0 (chan ⟨7 * (t.val / 7) + s.val, Pipeline.run_point_lt_of_flush t hf s⟩ f) k) = _
    rw [e1, e2]

/-- The result array after the run. -/
theorem final (c : Dev nD) (X : Vec Ideal S65536x1024 .f32)
    (hX : ∀ n k, X (ix2 n k) = dense (fun k => hA m c (ix2 n k)) (fun k => gA m c (ix2 0 k)) (fun k f => wgA m c (ix3 0 k f))
          (fun k f => wuA m c (ix3 0 k f)) (fun f c' => wdA m c (ix3 0 f c')) k) :
    (dats m 0 c).arrAt 5 (cfgs 0).N = X := by
  refine (dats m 0 c).arrAt_eq_of_covers 5 _ (by decide +kernel) fun t hf y => ?_
  rw [after0_5]
  have hy : (y : S1024x1024.Idx) = ix2 (y 0) (y 1) := by funext a; fin_cases a <;> rfl
  rw [hy]
  refine (block_at m c t ((flush0_5 t).mp hf) (y 0) (y 1)).trans ?_
  refine (hX (tok t (y 0)) (y 1)).symm.trans ?_
  unfold tok
  blk_ext [idx t]

end Cert.Kernel2Ideal.Dense

end
-- ==== Proof.DenseTie.lean ====
/-
  The dense SwiGLU layer: the kernel's result array is the reference's result of the same arguments.
-/
module

public import proofs.«01_k».proof.Proof.DenseRef
public import proofs.«01_k».proof.Proof.DenseValue

@[expose] public section

set_option maxRecDepth 16384

noncomputable section

namespace Cert.DenseTie

open Idealize.ShloMosaic Idealize.ShloMosaic.TcCoe

/-- What the kernel's run leaves in its result is the reference's function of the kernel's arguments. -/
theorem value (m : (ℓ : Loc Cert.Kernel2Ideal.nD Cert.Kernel2Ideal.τ Cert.Kernel2Ideal.sig) → Buf (Elt Ideal) ℓ)
    (c : Dev Cert.Kernel2Ideal.nD) :
    Cert.Kernel2Ideal.Value.G5 (F := Ideal) m c
      = Cert.Reference2Ideal.Read.val_main_v23 (F := Ideal) (Cert.Kernel2Ideal.Dense.hA m c) (Cert.Kernel2Ideal.Dense.gA m c)
          (Cert.Kernel2Ideal.Dense.wgA m c) (Cert.Kernel2Ideal.Dense.wuA m c) (Cert.Kernel2Ideal.Dense.wdA m c) := by
  refine (Cert.Kernel2Ideal.Value.final5 m c).symm.trans ?_
  exact Cert.Kernel2Ideal.Dense.final m c _ fun n k => Cert.Reference2Ideal.Dense.result_eq _ _ _ _ _ n k

end Cert.DenseTie

end
-- ==== Proof.Route.lean ====
/-
  The routing of one token over its eight router logits: the greatest logit (the earliest of equal ones), the next one,
  and the two experts' weights.
-/
module

public import proofs.«01_k».proof.Proof.Layer
public import Idealize.ShloMosaic.Lib.SortFacts
public import Idealize.ShloMosaic.Lib.IdealHost

@[expose] public section

noncomputable section

namespace Cert.Layer

open Idealize.ShloMosaic

section Sorted

variable (z : Fin 8 → EReal)

/-- `a` comes before `b` in the ranking: it is greater, or equal and earlier. -/
def ahead (a b : Fin 8) : Prop := z b < z a ∨ (z a = z b ∧ a < b)

/-- The order a stable descending sort compares by. -/
def above (a b : Fin 8) : Bool := decide (z b < z a)

theorem ahead_trans {a b c : Fin 8} (h : ahead z a b) (h' : ahead z b c) : ahead z a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

theorem pairwise_insert (a : Fin 8) (l : List (Fin 8)) (ha : ∀ b ∈ l, a < b) (hl : l.Pairwise (ahead z)) :
    (insertBefore (above z) a l).Pairwise (ahead z) := by
  induction l with
  | nil => exact List.pairwise_singleton _ _
  | cons b l ih =>
    rw [List.pairwise_cons] at hl
    unfold insertBefore
    split
    · rename_i h
      have hb : ahead z b a := Or.inl (of_decide_eq_true h)
      refine List.pairwise_cons.mpr ⟨fun c hc => ?_, ih (fun c hc => ha c (List.mem_cons_of_mem _ hc)) hl.2⟩
      rcases List.mem_cons.mp ((perm_insertBefore (above z) a l).mem_iff.mp hc) with rfl | hc'
      · exact hb
      · exact hl.1 c hc'
    · rename_i h
      have hle : z b ≤ z a := not_lt.mp fun hlt => h (decide_eq_true hlt)
      have hab : ahead z a b := by
        rcases hle.lt_or_eq with hlt | heq
        · exact Or.inl hlt
        · exact Or.inr ⟨heq.symm, ha b List.mem_cons_self⟩
      refine List.pairwise_cons.mpr ⟨fun c hc => ?_, List.pairwise_cons.mpr hl⟩
      rcases List.mem_cons.mp hc with rfl | hc'
      · exact hab
      · exact ahead_trans z hab (hl.1 c hc')

theorem pairwise_sort (l : List (Fin 8)) (hl : l.Pairwise (· < ·)) : (stableSort (above z) l).Pairwise (ahead z) := by
  induction l with
  | nil => exact List.Pairwise.nil
  | cons a l ih =>
    rw [List.pairwise_cons] at hl
    unfold stableSort
    exact pairwise_insert z a _ (fun b hb => hl.1 b ((perm_stableSort (above z) l).mem_iff.mp hb)) (ih hl.2)

/-- An earlier place of the sort is ahead of a later one. -/
theorem sorted_ahead (i j : Fin 8) (hij : i < j) : ahead z (sortedFrom (above z) i) (sortedFrom (above z) j) := by
  have hp : ∀ a b : Fin (sortPositions 8 (above z)).length, a < b →
      ahead z ((sortPositions 8 (above z)).get a) ((sortPositions 8 (above z)).get b) :=
    List.pairwise_iff_get.mp (pairwise_sort z (List.finRange 8) (List.pairwise_lt_finRange 8))
  unfold sortedFrom
  exact hp _ _ (by simp only [Fin.lt_def, Fin.val_cast]; exact hij)

/-- The expert of the greatest logit. -/
def top : Fin 8 := sortedFrom (above z) 0

/-- The expert of the next greatest. -/
def next : Fin 8 := sortedFrom (above z) 1

theorem next_ne : next z ≠ top z := fun h => by
  have := sortedFrom_injective (above z) h
  exact absurd this (by decide)

theorem top_ahead (c : Fin 8) (hc : c ≠ top z) : ahead z (top z) c := by
  obtain ⟨k, rfl⟩ := sortedFrom_surjective (above z) c
  exact sorted_ahead z 0 k (Fin.pos_of_ne_zero fun h => hc (by rw [h]; rfl))

theorem next_ahead (c : Fin 8) (hc : c ≠ top z) (hc' : c ≠ next z) : ahead z (next z) c := by
  obtain ⟨k, rfl⟩ := sortedFrom_surjective (above z) c
  have h0 : k ≠ 0 := fun h => hc (by rw [h]; rfl)
  have h1 : k ≠ 1 := fun h => hc' (by rw [h]; rfl)
  refine sorted_ahead z 1 k ?_
  have h0' : k.val ≠ 0 := fun h => h0 (Fin.ext h)
  have h1' : k.val ≠ 1 := fun h => h1 (Fin.ext h)
  show (1 : ℕ) < k.val
  omega

theorem top_le (c : Fin 8) : z c ≤ z (top z) := by
  by_cases h : c = top z
  · rw [h]
  · rcases top_ahead z c h with h | h
    · exact h.le
    · exact h.1.symm.le

theorem top_first (c : Fin 8) (h : z c = z (top z)) : top z ≤ c := by
  by_cases hc : c = top z
  · rw [hc]
  · rcases top_ahead z c hc with h' | h'
    · exact absurd h h'.ne
    · exact h'.2.le

theorem next_le (c : Fin 8) (hc : c ≠ top z) : z c ≤ z (next z) := by
  by_cases h : c = next z
  · rw [h]
  · rcases next_ahead z c hc h with h | h
    · exact h.le
    · exact h.1.symm.le

theorem next_first (c : Fin 8) (hc : c ≠ top z) (h : z c = z (next z)) : next z ≤ c := by
  by_cases hc' : c = next z
  · rw [hc']
  · rcases next_ahead z c hc hc' with h' | h'
    · exact absurd h h'.ne
    · exact h'.2.le

end Sorted

/-- How much less the second expert counts than the first. -/
def odds (z : Fin 8 → EReal) : EReal := Ideal.exp (z (next z) - z (top z))

/-- The weight of expert `e`: the softmax of the two greatest logits, zero for every other expert. -/
def share (z : Fin 8 → EReal) (e : Fin 8) : EReal :=
  (if e = top z then Ideal.div 1 (1 + odds z) else 0) + (if e = next z then odds z * Ideal.div 1 (1 + odds z) else 0)

/-- The router's logits of a normed token. -/
def logits (xn : Fin 1024 → EReal) (w : Fin 1024 → Fin 8 → EReal) (e : Fin 8) : EReal := ∑ k : Fin 1024, xn k * w k e

/-- Expert `e`'s MLP of a normed token. -/
def expert (xn : Fin 1024 → EReal) (wg wu : Fin 8 → Fin 1024 → Fin 3584 → EReal) (wd : Fin 8 → Fin 3584 → Fin 1024 → EReal)
    (e : Fin 8) (c : Fin 1024) : EReal :=
  ∑ f : Fin 3584, act xn (wg e) (wu e) f * wd e f c

/-- The MoE layer of a token before the final norm: the token plus its two experts' outputs by their weights. -/
def mixed (x g : Fin 1024 → EReal) (w : Fin 1024 → Fin 8 → EReal) (wg wu : Fin 8 → Fin 1024 → Fin 3584 → EReal)
    (wd : Fin 8 → Fin 3584 → Fin 1024 → EReal) (c : Fin 1024) : EReal :=
  x c + ∑ e : Fin 8, expert (rms x g) wg wu wd e c * share (logits (rms x g) w) e

/-! ## Reading the kernel's lane arithmetic -/

/-- A row of 128 lanes whose first eight are the logits and whose others are the least element. -/
def padded (z : Fin 8 → EReal) (l : Fin 128) : EReal := if h : l.val < 8 then z ⟨l.val, h⟩ else ⊥

/-- Expert `e`'s lane. -/
def lane (e : Fin 8) : Fin 128 := ⟨e.val, by omega⟩

theorem padded_lane (z : Fin 8 → EReal) (e : Fin 8) : padded z (lane e) = z e := dif_pos e.isLt

theorem fold_max_eq {ι : Type*} [Fintype ι] (f : ι → EReal) (a : ι) (h : ∀ b, f b ≤ f a) :
    Finset.fold max ⊥ f Finset.univ = f a :=
  le_antisymm ((Finset.fold_max_le _).mpr ⟨bot_le, fun b _ => h b⟩)
    ((Finset.le_fold_max _).mpr (Or.inr ⟨a, Finset.mem_univ _, le_rfl⟩))

theorem fold_min_eq (P : Fin 128 → Prop) [DecidablePred P] (a : Fin 128) (ha : P a) (h : ∀ b, P b → a ≤ b) :
    Finset.fold min ⊤ (fun l : Fin 128 => if P l then ((l.val : ℝ) : EReal) else ((128 : ℝ) : EReal)) Finset.univ
      = ((a.val : ℝ) : EReal) := by
  refine le_antisymm ((Finset.fold_min_le _).mpr (Or.inr ⟨a, Finset.mem_univ _, by rw [if_pos ha]⟩))
    ((Finset.le_fold_min _).mpr ⟨le_top, fun b _ => ?_⟩)
  split
  · rename_i hb
    exact EReal.coe_le_coe_iff.mpr (Nat.cast_le.mpr (h b hb))
  · refine EReal.coe_le_coe_iff.mpr ?_
    have : a.val ≤ 128 := by omega
    exact_mod_cast this

theorem padded_max (z : Fin 8 → EReal) : Finset.fold max ⊥ (padded z) Finset.univ = z (top z) := by
  rw [fold_max_eq (padded z) (lane (top z)), padded_lane]
  intro b
  rw [padded_lane]
  unfold padded
  split
  · exact top_le z _
  · exact bot_le

theorem padded_first (z : Fin 8 → EReal) (l : Fin 128) (h : padded z l = z (top z)) : lane (top z) ≤ l := by
  by_cases hl : l.val < 8
  · have := top_first z ⟨l.val, hl⟩ (by rw [← h, padded, dif_pos hl])
    exact this
  · show (top z).val ≤ l.val
    omega

theorem lane_eq_iff (l : Fin 128) (e : Fin 8) : ((l.val : ℝ) : EReal) = ((e.val : ℝ) : EReal) ↔ l = lane e := by
  rw [EReal.coe_eq_coe_iff, Nat.cast_inj]
  exact ⟨fun h => Fin.ext h, fun h => by rw [h]; rfl⟩

/-- The row without its greatest lane. -/
def rest (z : Fin 8 → EReal) (l : Fin 128) : EReal := if l = lane (top z) then ⊥ else padded z l

theorem lane_inj {a b : Fin 8} (h : lane a = lane b) : a = b := Fin.ext (Fin.mk.inj_iff.mp h)

theorem rest_next (z : Fin 8 → EReal) : rest z (lane (next z)) = z (next z) := by
  rw [rest, if_neg fun h => next_ne z (lane_inj h), padded_lane]

theorem rest_max (z : Fin 8 → EReal) : Finset.fold max ⊥ (rest z) Finset.univ = z (next z) := by
  rw [fold_max_eq (rest z) (lane (next z)), rest_next]
  intro b
  rw [rest_next]
  unfold rest padded
  split
  · exact bot_le
  · rename_i hb
    split
    · exact next_le z _ fun h => hb (Fin.ext (by rw [← h]; rfl))
    · exact bot_le

theorem rest_first (z : Fin 8 → EReal) (hz : z (next z) ≠ ⊥) (l : Fin 128) (h : rest z l = z (next z)) :
    lane (next z) ≤ l := by
  unfold rest at h
  split at h
  · exact absurd h.symm hz
  · rename_i hl
    by_cases h8 : l.val < 8
    · refine next_first z ⟨l.val, h8⟩ (fun e => hl (Fin.ext (by rw [← e]; rfl))) ?_
      rw [← h, padded, dif_pos h8]
    · show (next z).val ≤ l.val
      omega

end Cert.Layer

end
-- ==== Proof.MoeBlock.lean ====
/-
  One block of the MoE kernel, row by row: the norm of a token, its router logits, and one expert tile's part.
-/
module

public import proofs.«01_k».proof.Proof.Route
public import proofs.«01_k».proof.Proof.Gen.KernelIdeal.Value

@[expose] public section

set_option maxRecDepth 16384

noncomputable section

namespace Cert.KernelIdeal.Moe

open Idealize.ShloMosaic Idealize.ShloMosaic.TcCoe
open Cert.KernelIdeal Cert.KernelIdeal.Gen Cert.Layer

/-- The lane numbers the kernel compares with. -/
abbrev lanes : IVec S1024x128 32 := iota .tc S1024x128 32 [1] iota_S1024x128_d1_w32

theorem norm_at (x : Vec Ideal S1024x1024 .f32) (g : Vec Ideal S1x1024 .f32) (r k : Fin 1024) :
    k0_pay3 (F := Ideal) x g (ix2 r k) = rms (fun i => x (ix2 r i)) (fun i => g (ix2 0 i)) k := by
  pointwise [k0_pay3]
  rfl

theorem stored_norm_at (x : Vec Ideal S1024x1024 .f32) (g : Vec Ideal S1x1024 .f32) (r k : Fin 1024) :
    k0_pay4 (F := Ideal) x g (ix2 r k) = rms (fun i => x (ix2 r i)) (fun i => g (ix2 0 i)) k := by
  pointwise [k0_pay4, norm_at]

theorem final_norm_at (x : Vec Ideal S1024x1024 .f32) (g : Vec Ideal S1x1024 .f32) (r k : Fin 1024) :
    k0_pay2 (F := Ideal) x g (ix2 r k) = rms (fun i => x (ix2 r i)) (fun i => g (ix2 0 i)) k := by
  pointwise [k0_pay2]
  rfl

theorem step_at (y : FVec Ideal S1024x1024 .f32) (w : FVec Ideal S1024 .f32) (o : Vec Ideal S1024x1024 .f32) (r k : Fin 1024) :
    k0_pay1 (F := Ideal) y w o (ix2 r k) = o (ix2 r k) + y (ix2 r k) * w (ix1 r) := by
  pointwise [k0_pay1]

theorem tile_at (xn : Vec Ideal S1024x1024 .bf16) (wg wu : Vec Ideal S1x1024x512 .bf16) (wd : Vec Ideal S1x512x1024 .bf16)
    (r c : Fin 1024) :
    k0_pay12 (F := Ideal) xn wg wu wd (ix2 r c)
      = ∑ f : Fin 512, act (fun k => xn (ix2 r k)) (fun k f => wg (ix3 0 k f)) (fun k f => wu (ix3 0 k f)) f
          * wd (ix3 0 f c) := by
  pointwise [k0_pay12]
  simp only [act, gate, logi, zero_sub]

/-- An expert's weight of a row: the row's lane of that expert. -/
theorem weight_at (i : grid0.Coords) (w : Vec Ideal S1024x128 .f32) (r : Fin 1024) :
    k0_pay13 (F := Ideal) i w (ix1 r) = w (ix2 r (lane (i 1))) := by
  pointwise [k0_pay13]
  rw [Finset.sum_eq_single (lane (i 1))]
  · exact if_pos (by simp [lane, IntOp.cmpi])
  · intro b _ hb
    refine if_neg fun h => hb (Fin.ext ?_)
    have hi : (i 1).val < 8 := (i 1).isLt
    have hw : BitVec.ofNat 32 b.val = BitVec.ofNat 32 (i 1).val := by
      by_contra hne
      simp only [IntOp.cmpi] at h
      rw [beq_false_of_ne hne] at h
      exact absurd h (by decide)
    have := congrArg BitVec.toNat hw
    simp only [BitVec.toNat_ofNat] at this
    show b.val = (i 1).val
    omega
  · intro h; exact absurd (Finset.mem_univ _) h

theorem lane_at (r : Fin 1024) (l : Fin 128) : k0_pay5 (F := Ideal) lanes (ix2 r l) = ((l.val : ℝ) : EReal) := by
  pointwise [k0_pay5, lanes]
  show (((BitVec.ofNat 32 l.val).toInt : ℝ) : EReal) = _
  rw [show (BitVec.ofNat 32 l.val).toInt = (l.val : ℤ) by
    rw [BitVec.toInt_eq_toNat_cond, BitVec.toNat_ofNat]; split <;> omega]
  norm_cast

theorem bits_eight : Ideal.ofBits .f32 0x41000000#32 = ((8 : ℝ) : EReal) := by
  simp [Ideal.ofBits, Ideal.ieee, -EReal.coe_mul]; norm_num

theorem bits_lanes : Ideal.ofBits .f32 0x43000000#32 = ((128 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

variable (x : Vec Ideal S1024x1024 .f32) (g : Vec Ideal S1x1024 .f32) (w : Vec Ideal S1024x128 .bf16)

/-- The eight router logits of row `r`. -/
def rowLogits (r : Fin 1024) : Fin 8 → EReal :=
  logits (rms (fun i => x (ix2 r i)) (fun i => g (ix2 0 i))) fun k e => w (ix2 k (lane e))

theorem logit_at (r : Fin 1024) (l : Fin 128) :
    k0_pay6 (F := Ideal) lanes x g w (ix2 r l) = padded (rowLogits x g w r) l := by
  pointwise [k0_pay6, norm_at, lane_at]
  rw [bits_eight, bits_bot]
  unfold padded
  by_cases h : l.val < 8
  · rw [dif_pos h, if_pos (EReal.coe_lt_coe_iff.mpr (by exact_mod_cast h))]
    rfl
  · rw [dif_neg h, if_neg fun h' => h (by exact_mod_cast EReal.coe_lt_coe_iff.mp h')]

theorem max_at (r : Fin 1024) :
    k0_pay7 (F := Ideal) lanes x g w (ix2 r 0) = rowLogits x g w r (top (rowLogits x g w r)) := by
  pointwise [k0_pay7, logit_at]
  rw [bits_bot]
  exact padded_max _

theorem arg_at (r : Fin 1024) :
    k0_pay8 (F := Ideal) lanes x g w (ix2 r 0) = (((top (rowLogits x g w r)).val : ℝ) : EReal) := by
  pointwise [k0_pay8, lane_at, logit_at, max_at]
  rw [bits_top, bits_lanes]
  exact fold_min_eq (fun l => padded (rowLogits x g w r) l = rowLogits x g w r (top (rowLogits x g w r)))
    (lane (top (rowLogits x g w r))) (padded_lane _ _) (padded_first _)

theorem rest_at (r : Fin 1024) (l : Fin 128) :
    k0_pay9 (F := Ideal) lanes x g w (ix2 r l) = rest (rowLogits x g w r) l := by
  pointwise [k0_pay9, lane_at, logit_at, arg_at]
  rw [bits_bot]
  simp only [lane_eq_iff]
  rfl

theorem max2_at (r : Fin 1024) :
    k0_pay10 (F := Ideal) lanes x g w (ix1 r) = rowLogits x g w r (next (rowLogits x g w r)) := by
  pointwise [k0_pay10, rest_at]
  rw [bits_bot]
  exact rest_max _

/-- The stored weights: an expert's lane holds its share. -/
theorem comb_at (r : Fin 1024) (hz : rowLogits x g w r (next (rowLogits x g w r)) ≠ ⊥) (e : Fin 8) :
    k0_pay11 (F := Ideal) (k0_pay5 lanes) (k0_pay7 lanes x g w) (k0_pay8 lanes x g w) (k0_pay9 lanes x g w)
      (k0_pay10 lanes x g w) (ix2 r (lane e)) = share (rowLogits x g w r) e := by
  pointwise [k0_pay11, lane_at, rest_at, max_at, max2_at, arg_at]
  have h2 := fold_min_eq (fun l => rest (rowLogits x g w r) l = rowLogits x g w r (next (rowLogits x g w r)))
    (lane (next (rowLogits x g w r))) (rest_next _) (rest_first _ hz)
  rw [bits_top, bits_lanes, h2]
  have h : ∀ a : Fin 8, (lane e = lane a ↔ e = a) := fun a => ⟨lane_inj, fun h => by rw [h]⟩
  have h3 : ((lane (next (rowLogits x g w r))).val : ℝ) = (next (rowLogits x g w r)).val := rfl
  rw [h3]
  simp only [lane_eq_iff, h]
  rfl

end Cert.KernelIdeal.Moe

end
-- ==== Proof.MoeSteps.lean ====
/-
  The MoE kernel over its grid: what each step leaves. A row block of 1024 tokens takes 56 consecutive steps, seven tiles
  of 512 hidden channels for each of eight experts. The first step stores the tokens' norms and their routing weights
  and starts the block from the residual, each step adds its tile's part of its expert's output by the expert's weight,
  and the last step norms the finished sum.
-/
module

public import proofs.«01_k».proof.Proof.MoeBlock
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Layer

variable (m : (ℓ : Loc nD τ sig) → Buf (Elt Ideal) ℓ)

/-- The staged blocks, at their arrays' types. -/
def xB (c : Dev nD) (t : Fin cfg0.N) : Vec Ideal S1024x1024 .f32 := iblk m c 0 t
def gB (c : Dev nD) (t : Fin cfg0.N) : Vec Ideal S1x1024 .f32 := iblk m c 1 t
def rB (c : Dev nD) (t : Fin cfg0.N) : Vec Ideal S1024x128 .bf16 := iblk m c 2 t
def wgB (c : Dev nD) (t : Fin cfg0.N) : Vec Ideal S1x1024x512 .bf16 := iblk m c 3 t
def wuB (c : Dev nD) (t : Fin cfg0.N) : Vec Ideal S1x1024x512 .bf16 := iblk m c 4 t
def wdB (c : Dev nD) (t : Fin cfg0.N) : Vec Ideal S1x512x1024 .bf16 := iblk m c 5 t
def fgB (c : Dev nD) (t : Fin cfg0.N) : Vec Ideal S1x1024 .f32 := iblk m c 6 t

/-- The step before. -/
abbrev before (t : Fin cfg0.N) : t.val - 1 < cfg0.N := Nat.lt_of_le_of_lt (Nat.sub_le _ _) t.isLt

/-- The routing weights of a block of tokens. -/
def combB (x : Vec Ideal S1024x1024 .f32) (g : Vec Ideal S1x1024 .f32) (w : Vec Ideal S1024x128 .bf16) :
    FVec Ideal S1024x128 .f32 :=
  k0_pay11 (F := Ideal) (k0_pay5 lanes) (k0_pay7 lanes x g w) (k0_pay8 lanes x g w) (k0_pay9 lanes x g w)
    (k0_pay10 lanes x g w)

/-- One step: the block so far plus the tile's part by the expert's weight. -/
def stepB (c : Dev nD) (t : Fin cfg0.N) (xn : Vec Ideal S1024x1024 .bf16) (w : Vec Ideal S1024x128 .f32)
    (o : Vec Ideal S1024x1024 .f32) : FVec Ideal S1024x1024 .f32 :=
  k0_pay1 (F := Ideal) (k0_pay12 xn (wgB m c t) (wuB m c t) (wdB m c t)) (k0_pay13 (grid0.coords t) w) o

theorem norm_first (c : Dev nD) (t : Fin cfg0.N) (h : t.val % 56 = 0) :
    (outsAt0 m c t.val t.isLt).2.1 = k0_pay4 (F := Ideal) (xB m c t) (gB m c t) := by
  rw [outsAt0_A m c t h (by omega)]; frame_out
  rfl

theorem comb_first (c : Dev nD) (t : Fin cfg0.N) (h : t.val % 56 = 0) :
    (outsAt0 m c t.val t.isLt).2.2 = combB (xB m c t) (gB m c t) (rB m c t) := by
  rw [outsAt0_A m c t h (by omega)]; frame_out
  rfl

theorem norm_next (c : Dev nD) (t : Fin cfg0.N) (h : ¬t.val % 56 = 0) :
    (outsAt0 m c t.val t.isLt).2.1 = (outsAt0 m c (t.val - 1) (before t)).2.1 := by
  by_cases h1 : t.val % 56 = 55
  · rw [outsAt0_C m c t h h1]; frame_out
    rfl
  · rw [outsAt0_B m c t h h1]; frame_out
    rfl

theorem comb_next (c : Dev nD) (t : Fin cfg0.N) (h : ¬t.val % 56 = 0) :
    (outsAt0 m c t.val t.isLt).2.2 = (outsAt0 m c (t.val - 1) (before t)).2.2 := by
  by_cases h1 : t.val % 56 = 55
  · rw [outsAt0_C m c t h h1]; frame_out
    rfl
  · rw [outsAt0_B m c t h h1]; frame_out
    rfl

/-- A row block's first step. -/
theorem out_first (c : Dev nD) (t : Fin cfg0.N) (h : t.val % 56 = 0) :
    (outsAt0 m c t.val t.isLt).1
      = stepB m c t (k0_pay4 (F := Ideal) (xB m c t) (gB m c t)) (combB (xB m c t) (gB m c t) (rB m c t)) (xB m c t) := by
  rw [outsAt0_A m c t h (by omega)]; frame_out
  rfl

/-- A later step, not the last. -/
theorem out_next (c : Dev nD) (t : Fin cfg0.N) (h : ¬t.val % 56 = 0) (h1 : ¬t.val % 56 = 55) :
    (outsAt0 m c t.val t.isLt).1
      = stepB m c t (outsAt0 m c (t.val - 1) (before t)).2.1 (outsAt0 m c (t.val - 1) (before t)).2.2
          (outsAt0 m c (t.val - 1) (before t)).1 := by
  rw [outsAt0_B m c t h h1]; frame_out
  rw [read_unread_whole, read_unread_whole]
  rfl

/-- The last step: a step as the others, then the final norm of every token. -/
theorem out_last (c : Dev nD) (t : Fin cfg0.N) (h1 : t.val % 56 = 55) :
    (outsAt0 m c t.val t.isLt).1
      = k0_pay2 (F := Ideal) (stepB m c t (outsAt0 m c (t.val - 1) (before t)).2.1 (outsAt0 m c (t.val - 1) (before t)).2.2
          (outsAt0 m c (t.val - 1) (before t)).1) (fgB m c t) := by
  rw [outsAt0_C m c t (by omega) h1]; frame_out
  rw [read_unread_whole, read_unread_whole]
  rfl

end Cert.KernelIdeal.Moe

end
-- ==== Proof.MoeIndex.lean ====
/-
  Which block of its array each window of the MoE kernel stages at each step.
-/
module

public import proofs.«01_k».proof.Proof.MoeSteps

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Layer

/-- Where each window's block lies, and the step's expert. -/
theorem idx : ∀ t : Fin cfg0.N, win0_0.index t = ![t.val / 56, 0] ∧ win0_1.index t = ![0, 0] ∧ win0_2.index t = ![0, 0]
    ∧ win0_3.index t = ![t.val / 7 % 8, 0, t.val % 7] ∧ win0_4.index t = ![t.val / 7 % 8, 0, t.val % 7]
    ∧ win0_5.index t = ![t.val / 7 % 8, t.val % 7, 0] ∧ win0_6.index t = ![0, 0] ∧ win0_7.index t = ![t.val / 56, 0]
    ∧ (grid0.coords t 1).val = t.val / 7 % 8 :=
  (by decide +kernel : ∀ t : Fin grid0.N, _)

end Cert.KernelIdeal.Moe

end
-- ==== Proof.MoeReads.lean ====
/-
  Where the MoE kernel's staged blocks lie in its arguments.
-/
module

public import proofs.«01_k».proof.Proof.MoeIndex

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Layer

variable (m : (ℓ : Loc nD τ sig) → Buf (Elt Ideal) ℓ)

/-- The token that row `r` of step `t`'s block is. -/
def tok (t : Fin cfg0.N) (r : Fin 1024) : Fin 65536 :=
  ⟨t.val / 56 * 1024 + r.val, by have := (show t.val < 3584 from t.isLt); omega⟩

/-- The hidden channel that channel `f` of step `t`'s tile is. -/
def chan (t : Fin cfg0.N) (f : Fin 512) : Fin 3584 := ⟨t.val % 7 * 512 + f.val, by omega⟩

/-- The step's expert. -/
def exq (t : Fin cfg0.N) : Fin 8 := ⟨t.val / 7 % 8, by omega⟩

/-- The arguments, at their types. -/
abbrev hA (c : Dev nD) : Vec Ideal S65536x1024 .f32 := m ((c : Thread nD τ).loc main_arg0)
abbrev gA (c : Dev nD) : Vec Ideal S2x1024 .f32 := m ((c : Thread nD τ).loc main_arg1)
abbrev rA (c : Dev nD) : Vec Ideal S1x1024x8 .f32 := m ((c : Thread nD τ).loc main_arg2)
abbrev wgA (c : Dev nD) : Vec Ideal S1x8x1024x3584 .f32 := m ((c : Thread nD τ).loc main_arg3)
abbrev wuA (c : Dev nD) : Vec Ideal S1x8x1024x3584 .f32 := m ((c : Thread nD τ).loc main_arg4)
abbrev wdA (c : Dev nD) : Vec Ideal S1x8x3584x1024 .f32 := m ((c : Thread nD τ).loc main_arg5)
abbrev fgA (c : Dev nD) : Vec Ideal S1024 .f32 := m ((c : Thread nD τ).loc main_arg6)

theorem xB_at (c : Dev nD) (t : Fin cfg0.N) (r k : Fin 1024) : xB m c t (ix2 r k) = hA m c (ix2 (tok t r) k) := by
  unfold xB hA tok
  blk_point [iblk, V, idx t]

theorem gB_at (c : Dev nD) (t : Fin cfg0.N) (k : Fin 1024) : gB m c t (ix2 0 k) = gA m c (ix2 1 k) := by
  unfold gB gA
  blk_point [iblk, idx t]

/-- The padded router: the first eight lanes are the router's weights. -/
theorem pad_at (c : Dev nD) (k : Fin 1024) (e : Fin 8) :
    (V m c main_v3 : Vec Ideal S1024x128 .bf16) (ix2 k (lane e)) = rA m c (ix3 0 k e) := by
  entry_read
  pointwise
  exact dif_pos e.isLt

theorem rB_at (c : Dev nD) (t : Fin cfg0.N) (k : Fin 1024) (e : Fin 8) :
    rB m c t (ix2 k (lane e)) = rA m c (ix3 0 k e) := by
  refine Eq.trans ?_ (pad_at m c k e)
  unfold rB iblk
  blk_ext [idx t]

theorem wgB_at (c : Dev nD) (t : Fin cfg0.N) (k : Fin 1024) (f : Fin 512) :
    wgB m c t (ix3 0 k f) = wgA m c (ix4 0 (exq t) k (chan t f)) := by
  unfold wgB wgA chan exq
  blk_point [iblk, idx t]

theorem wuB_at (c : Dev nD) (t : Fin cfg0.N) (k : Fin 1024) (f : Fin 512) :
    wuB m c t (ix3 0 k f) = wuA m c (ix4 0 (exq t) k (chan t f)) := by
  unfold wuB wuA chan exq
  blk_point [iblk, idx t]

theorem wdB_at (c : Dev nD) (t : Fin cfg0.N) (f : Fin 512) (k : Fin 1024) :
    wdB m c t (ix3 0 f k) = wdA m c (ix4 0 (exq t) (chan t f) k) := by
  unfold wdB wdA chan exq
  blk_point [iblk, idx t]

theorem fgB_at (c : Dev nD) (t : Fin cfg0.N) (k : Fin 1024) : fgB m c t (ix2 0 k) = fgA m c (ix1 k) := by
  unfold fgB fgA
  blk_point [iblk, idx t]

end Cert.KernelIdeal.Moe

end
-- ==== Proof.Finite.lean ====
/-
  Finite numbers: the norm of a finite token is finite, so are its router logits, and the routing weights are then
  between zero and infinity.
-/
module

public import proofs.«01_k».proof.Proof.Route

@[expose] public section

noncomputable section

namespace Cert.Layer

open Idealize.ShloMosaic

/-- A finite number. -/
def Num (a : EReal) : Prop := ∃ r : ℝ, a = (r : EReal)

/-- A finite number that is not negative. -/
def Pos (a : EReal) : Prop := ∃ r : ℝ, 0 ≤ r ∧ a = (r : EReal)

theorem Pos.num {a : EReal} (h : Pos a) : Num a := by
  obtain ⟨r, _, rfl⟩ := h
  exact ⟨r, rfl⟩

theorem Pos.ge {a : EReal} (h : Pos a) : 0 ≤ a := by
  obtain ⟨r, h, rfl⟩ := h
  exact EReal.coe_nonneg.mpr h

theorem Num.ne_top {a : EReal} (h : Num a) : a ≠ ⊤ := by
  obtain ⟨r, rfl⟩ := h
  exact EReal.coe_ne_top r

theorem Num.ne_bot {a : EReal} (h : Num a) : a ≠ ⊥ := by
  obtain ⟨r, rfl⟩ := h
  exact EReal.coe_ne_bot r

theorem Num.add {a b : EReal} (ha : Num a) (hb : Num b) : Num (a + b) := by
  obtain ⟨r, rfl⟩ := ha
  obtain ⟨s, rfl⟩ := hb
  exact ⟨r + s, (EReal.coe_add r s).symm⟩

theorem Num.sub {a b : EReal} (ha : Num a) (hb : Num b) : Num (a - b) := by
  obtain ⟨r, rfl⟩ := ha
  obtain ⟨s, rfl⟩ := hb
  exact ⟨r - s, (EReal.coe_sub r s).symm⟩

theorem Num.mul {a b : EReal} (ha : Num a) (hb : Num b) : Num (a * b) := by
  obtain ⟨r, rfl⟩ := ha
  obtain ⟨s, rfl⟩ := hb
  exact ⟨r * s, (EReal.coe_mul r s).symm⟩

theorem Pos.add {a b : EReal} (ha : Pos a) (hb : Pos b) : Pos (a + b) := by
  obtain ⟨r, hr, rfl⟩ := ha
  obtain ⟨s, hs, rfl⟩ := hb
  exact ⟨r + s, add_nonneg hr hs, (EReal.coe_add r s).symm⟩

theorem Pos.mul {a b : EReal} (ha : Pos a) (hb : Pos b) : Pos (a * b) := by
  obtain ⟨r, hr, rfl⟩ := ha
  obtain ⟨s, hs, rfl⟩ := hb
  exact ⟨r * s, mul_nonneg hr hs, (EReal.coe_mul r s).symm⟩

theorem Num.sq {a : EReal} (ha : Num a) : Pos (a * a) := by
  obtain ⟨r, rfl⟩ := ha
  exact ⟨r * r, mul_self_nonneg r, (EReal.coe_mul r r).symm⟩

theorem Num.sum {ι : Type*} (s : Finset ι) (f : ι → EReal) (h : ∀ i, Num (f i)) : Num (∑ i ∈ s, f i) :=
  Finset.sum_induction f Num (fun _ _ => Num.add) ⟨0, rfl⟩ fun i _ => h i

theorem Pos.sum {ι : Type*} (s : Finset ι) (f : ι → EReal) (h : ∀ i, Pos (f i)) : Pos (∑ i ∈ s, f i) :=
  Finset.sum_induction f Pos (fun _ _ => Pos.add) ⟨0, le_rfl, rfl⟩ fun i _ => h i

/-- Dividing one by a number that is at least one leaves a finite number that is not negative. -/
theorem inv_pos {a : EReal} (h : Pos a) : Pos (Ideal.div 1 (1 + a)) := by
  obtain ⟨r, hr, rfl⟩ := h
  have h0 : (1 : EReal) + (r : EReal) = ((1 + r : ℝ) : EReal) := by rw [EReal.coe_add]; rfl
  have h1 : ((1 + r : ℝ) : EReal) ≠ 0 := by
    intro e
    have := EReal.coe_eq_zero.mp e
    linarith
  rw [h0, Ideal.div, if_neg h1, one_mul, ← EReal.coe_inv]
  exact ⟨(1 + r)⁻¹, inv_nonneg.mpr (by linarith), rfl⟩

theorem exp_pos {a : EReal} (h : Num a) : Pos (Ideal.exp a) := by
  obtain ⟨r, rfl⟩ := h
  exact ⟨Real.exp r, (Real.exp_pos r).le, rfl⟩

theorem bits_count : Ideal.ofBits .f32 0x44800000#32 = ((1024 : ℝ) : EReal) := by
  simp [Ideal.ofBits, Ideal.ieee, -EReal.coe_mul]; norm_num

theorem bits_eps : ∃ r : ℝ, 0 < r ∧ Ideal.ofBits .f32 0x358637BD#32 = (r : EReal) := by
  refine ⟨_, ?_, by simp [Ideal.ofBits, Ideal.ieee, -EReal.coe_mul]; rfl⟩
  positivity

theorem scale_num (x : Fin 1024 → EReal) (hx : ∀ k, Num (x k)) : Num (scale x) := by
  obtain ⟨r, hr, e⟩ := Pos.sum Finset.univ (fun k => x k * x k) fun k => (hx k).sq
  obtain ⟨s, hs, e'⟩ := bits_eps
  have h0 : ((1024 : ℝ) : EReal) ≠ 0 := by
    intro e
    have := EReal.coe_eq_zero.mp e
    norm_num at this
  rw [scale, e, e', bits_count, Ideal.div, if_neg h0, ← EReal.coe_inv, ← EReal.coe_mul, ← EReal.coe_add, Ideal.rsqrt_coe]
  have h1 : 0 < r * (1024 : ℝ)⁻¹ + s := by positivity
  rw [if_neg (not_lt.mpr h1.le), if_neg h1.ne']
  exact ⟨_, rfl⟩

theorem rms_num (x g : Fin 1024 → EReal) (hx : ∀ k, Num (x k)) (hg : ∀ k, Num (g k)) (k : Fin 1024) : Num (rms x g k) :=
  ((hx k).mul (scale_num x hx)).mul (hg k)

theorem logits_num (x g : Fin 1024 → EReal) (w : Fin 1024 → Fin 8 → EReal) (hx : ∀ k, Num (x k)) (hg : ∀ k, Num (g k))
    (hw : ∀ k e, Num (w k e)) (e : Fin 8) : Num (logits (rms x g) w e) :=
  Num.sum _ _ fun k => (rms_num x g hx hg k).mul (hw k e)

theorem odds_pos (z : Fin 8 → EReal) (hz : ∀ e, Num (z e)) : Pos (odds z) := exp_pos ((hz _).sub (hz _))

theorem share_pos (z : Fin 8 → EReal) (hz : ∀ e, Num (z e)) (e : Fin 8) : Pos (share z e) := by
  have h0 : Pos 0 := ⟨0, le_rfl, rfl⟩
  refine Pos.add ?_ ?_
  · split
    · exact inv_pos (odds_pos z hz)
    · exact h0
  · split
    · exact (odds_pos z hz).mul (inv_pos (odds_pos z hz))
    · exact h0

/-- A weight comes out of a sum. -/
theorem sum_mul_share {n : ℕ} (f : Fin n → EReal) (w : EReal) (hw : Pos w) : ∑ j, f j * w = (∑ j, f j) * w := by
  induction n with
  | zero => simp
  | succ n ih =>
    rw [Fin.sum_univ_castSucc, Fin.sum_univ_castSucc, ih (fun j => f j.castSucc),
      EReal.right_distrib_of_nonneg_of_ne_top hw.ge hw.num.ne_top]

/-- A number whose absolute value is below infinity is finite. -/
theorem num_of_abs {a : EReal} (h : max a (-a) < ⊤) : Num a := by
  induction a using EReal.rec with
  | bot => simp at h
  | top => simp at h
  | coe r => exact ⟨r, rfl⟩

/-- The tiles of all experts, one after another, add up to the experts' outputs by their weights. -/
theorem sum_steps (F : Fin 8 → Fin 3584 → EReal) (w : Fin 8 → EReal) (hw : ∀ e, Pos (w e)) (T : Fin 56 → Fin 512 → EReal)
    (v : Fin 56 → EReal) (hv : ∀ s : Fin 56, v s = w ⟨s.val / 7, by omega⟩)
    (h : ∀ (s : Fin 56) (f : Fin 512), T s f = F ⟨s.val / 7, by omega⟩ ⟨512 * (s.val % 7) + f.val, by omega⟩) :
    ∑ s : Fin 56, (∑ f : Fin 512, T s f) * v s = ∑ e : Fin 8, (∑ f : Fin 3584, F e f) * w e := by
  have e1 : ∀ e : Fin 8, (∑ f : Fin 3584, F e f) * w e
      = ∑ j : Fin 7, (∑ f : Fin 512, F e ⟨512 * j.val + f.val, by omega⟩) * w e := by
    intro e
    rw [sum_mul_share _ _ (hw e), sum_tiles (F e) (fun j f => F e ⟨512 * j.val + f.val, by omega⟩) fun _ _ => rfl]
  simp only [e1]
  rw [← Finset.sum_product']
  refine (Finset.sum_nbij' (fun p : Fin 8 × Fin 7 => (⟨7 * p.1.val + p.2.val, by omega⟩ : Fin 56))
    (fun s => ((⟨s.val / 7, by omega⟩ : Fin 8), (⟨s.val % 7, by omega⟩ : Fin 7)))
    (fun _ _ => Finset.mem_univ _) (fun _ _ => Finset.mem_univ _) ?_ ?_ ?_).symm
  · rintro ⟨a, b⟩ _
    refine Prod.ext (Fin.ext ?_) (Fin.ext ?_) <;> simp only <;> omega
  · intro s _
    refine Fin.ext ?_
    simp only
    omega
  · rintro ⟨a, b⟩ _
    rw [hv]
    simp only [h]
    have ha : (⟨(7 * a.val + b.val) / 7, by omega⟩ : Fin 8) = a := Fin.ext (by simp only; omega)
    have hb : (7 * a.val + b.val) % 7 = b.val := by omega
    simp only [ha, hb]

end Cert.Layer

end
-- ==== Proof.MoeValue.lean ====
/-
  The MoE kernel's result array, for finite router logits: at every token it holds the norm of the token plus its two
  experts' outputs by their weights.
-/
module

public import proofs.«01_k».proof.Proof.MoeReads
public import proofs.«01_k».proof.Proof.Finite

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Layer

variable (m : (ℓ : Loc nD τ sig) → Buf (Elt Ideal) ℓ)

/-- The normed token `n`. -/
def xn (c : Dev nD) (n : Fin 65536) : Fin 1024 → EReal := rms (fun k => hA m c (ix2 n k)) fun k => gA m c (ix2 1 k)

/-- The router logits of token `n`. -/
def zrow (c : Dev nD) (n : Fin 65536) : Fin 8 → EReal := logits (xn m c n) fun k e => rA m c (ix3 0 k e)

/-- A row block's first step. -/
def start (t : Fin cfg0.N) : Fin cfg0.N := ⟨56 * (t.val / 56), Pipeline.run_start_lt t⟩

theorem tok_start (t : Fin cfg0.N) (r : Fin 1024) : tok (start t) r = tok t r := by
  refine Fin.ext ?_
  simp only [tok, start]
  omega

theorem stored_norm (c : Dev nD) (t : Fin cfg0.N) (r k : Fin 1024) :
    k0_pay4 (F := Ideal) (xB m c t) (gB m c t) (ix2 r k) = xn m c (tok t r) k := by
  rw [stored_norm_at]
  simp only [gB_at, xB_at]
  rfl

theorem rowLogits_eq (c : Dev nD) (t : Fin cfg0.N) (r : Fin 1024) :
    rowLogits (xB m c t) (gB m c t) (rB m c t) r = zrow m c (tok t r) := by
  unfold rowLogits zrow xn
  simp only [gB_at, xB_at, rB_at]

theorem stored_comb (c : Dev nD) (hz : ∀ n e, Num (zrow m c n e)) (t : Fin cfg0.N) (r : Fin 1024) (e : Fin 8) :
    combB (xB m c t) (gB m c t) (rB m c t) (ix2 r (lane e)) = share (zrow m c (tok t r)) e := by
  unfold combB
  rw [comb_at _ _ _ _ (by rw [rowLogits_eq]; exact (hz _ _).ne_bot), rowLogits_eq]

/-- At every step the first scratch holds the norms of the block's tokens. -/
theorem norm_held (c : Dev nD) (t : Fin cfg0.N) (r k : Fin 1024) :
    (outsAt0 m c t.val t.isLt).2.1 (ix2 r k) = xn m c (tok t r) k := by
  rw [Pipeline.eq_of_write_hold (fun n h => (outsAt0 m c n h).2.1) 56 (fun t => k0_pay4 (F := Ideal) (xB m c t) (gB m c t))
    (norm_first m c) (norm_next m c) t]
  exact (stored_norm m c (start t) r k).trans (by rw [tok_start])

/-- At every step the second scratch holds the routing weights of the block's tokens. -/
theorem comb_held (c : Dev nD) (hz : ∀ n e, Num (zrow m c n e)) (t : Fin cfg0.N) (r : Fin 1024) (e : Fin 8) :
    (outsAt0 m c t.val t.isLt).2.2 (ix2 r (lane e)) = share (zrow m c (tok t r)) e := by
  rw [Pipeline.eq_of_write_hold (fun n h => (outsAt0 m c n h).2.2) 56
    (fun t => combB (xB m c t) (gB m c t) (rB m c t)) (comb_first m c) (comb_next m c) t]
  exact (stored_comb m c hz (start t) r e).trans (by rw [tok_start])

/-- What step `t` adds at a row and a channel. -/
def part (c : Dev nD) (t : Fin cfg0.N) (i : S1024x1024.Idx) : EReal :=
  (∑ f : Fin 512, act (xn m c (tok t (i 0))) (fun k f => wgA m c (ix4 0 (exq t) k f)) (fun k f => wuA m c (ix4 0 (exq t) k f))
    (chan t f) * wdA m c (ix4 0 (exq t) (chan t f) (i 1))) * share (zrow m c (tok t (i 0))) (exq t)

theorem part_at (c : Dev nD) (t : Fin cfg0.N) (r k : Fin 1024) : part m c t (ix2 r k)
    = (∑ f : Fin 512, act (xn m c (tok t r)) (fun k f => wgA m c (ix4 0 (exq t) k f)) (fun k f => wuA m c (ix4 0 (exq t) k f))
      (chan t f) * wdA m c (ix4 0 (exq t) (chan t f) k)) * share (zrow m c (tok t r)) (exq t) := rfl

theorem coord_exq (t : Fin cfg0.N) : (grid0.coords t 1 : Fin 8) = exq t := Fin.ext (idx t).2.2.2.2.2.2.2.2

/-- A step over the right norms and weights adds the step's part. -/
theorem stepB_at (c : Dev nD) (t : Fin cfg0.N) (xs : Vec Ideal S1024x1024 .bf16) (w : Vec Ideal S1024x128 .f32)
    (o : Vec Ideal S1024x1024 .f32) (r k : Fin 1024) (hx : ∀ i, xs (ix2 r i) = xn m c (tok t r) i)
    (hw : ∀ e, w (ix2 r (lane e)) = share (zrow m c (tok t r)) e) :
    stepB m c t xs w o (ix2 r k) = o (ix2 r k) + part m c t (ix2 r k) := by
  unfold stepB
  have hw' : w (ix2 r (lane (grid0.coords t 1))) = share (zrow m c (tok t r)) (exq t) :=
    (congrArg (fun e => w (ix2 r (lane e))) (coord_exq t)).trans (hw _)
  rw [step_at, tile_at, weight_at, hw']
  simp only [hx]
  have e2 : (∑ f : Fin 512, act (fun k => xn m c (tok t r) k) (fun k f => wgB m c t (ix3 0 k f))
      (fun k f => wuB m c t (ix3 0 k f)) f * wdB m c t (ix3 0 f k))
      = ∑ f : Fin 512, act (xn m c (tok t r)) (fun k f => wgA m c (ix4 0 (exq t) k f))
          (fun k f => wuA m c (ix4 0 (exq t) k f)) (chan t f) * wdA m c (ix4 0 (exq t) (chan t f) k) := by
    refine Finset.sum_congr rfl fun f _ => ?_
    rw [wdB_at]
    simp only [act, wgB_at, wuB_at]
  rw [e2]
  rfl

/-- The block after step `n`, before the final norm. -/
def run (c : Dev nD) (n : ℕ) (h : n < cfg0.N) : S1024x1024.Idx → EReal :=
  if n % 56 = 55 then
    stepB m c ⟨n, h⟩ (outsAt0 m c (n - 1) (before ⟨n, h⟩)).2.1 (outsAt0 m c (n - 1) (before ⟨n, h⟩)).2.2
      (outsAt0 m c (n - 1) (before ⟨n, h⟩)).1
  else (outsAt0 m c n h).1

theorem run_first (c : Dev nD) (hz : ∀ n e, Num (zrow m c n e)) (t : Fin cfg0.N) (h : t.val % 56 = 0)
    (i : S1024x1024.Idx) : run m c t.val t.isLt i = hA m c (ix2 (tok t (i 0)) (i 1)) + part m c t i := by
  obtain ⟨r, k, rfl⟩ : ∃ r k, i = ix2 r k := ⟨i 0, i 1, by funext a; fin_cases a <;> rfl⟩
  rw [run, if_neg (by omega), out_first m c t h, stepB_at m c t _ _ _ r k (stored_norm m c t r) (stored_comb m c hz t r),
    xB_at]
  rfl

theorem run_next (c : Dev nD) (hz : ∀ n e, Num (zrow m c n e)) (t : Fin cfg0.N) (h : ¬t.val % 56 = 0)
    (i : S1024x1024.Idx) : run m c t.val t.isLt i = run m c (t.val - 1) (before t) i + part m c t i := by
  obtain ⟨r, k, rfl⟩ : ∃ r k, i = ix2 r k := ⟨i 0, i 1, by funext a; fin_cases a <;> rfl⟩
  have key : stepB m c t (outsAt0 m c (t.val - 1) (before t)).2.1 (outsAt0 m c (t.val - 1) (before t)).2.2
      (outsAt0 m c (t.val - 1) (before t)).1 (ix2 r k)
      = (outsAt0 m c (t.val - 1) (before t)).1 (ix2 r k) + part m c t (ix2 r k) :=
    stepB_at m c t _ _ _ r k (fun i => by rw [← norm_next m c t h, norm_held])
      (fun e => by rw [← comb_next m c t h, comb_held m c hz])
  have hp : ¬(t.val - 1) % 56 = 55 := by omega
  rw [show run m c (t.val - 1) (before t) = (outsAt0 m c (t.val - 1) (before t)).1 from if_neg hp, ← key]
  by_cases h1 : t.val % 56 = 55
  · rw [run, if_pos h1]
  · rw [run, if_neg h1, out_next m c t h h1]

/-- The MoE layer of token `n` before the final norm. -/
def moe (c : Dev nD) (n : Fin 65536) : Fin 1024 → EReal :=
  mixed (fun k => hA m c (ix2 n k)) (fun k => gA m c (ix2 1 k)) (fun k e => rA m c (ix3 0 k e))
    (fun e k f => wgA m c (ix4 0 e k f)) (fun e k f => wuA m c (ix4 0 e k f)) (fun e f k => wdA m c (ix4 0 e f k))

/-- The finished sum of a row block. -/
theorem run_last (c : Dev nD) (hz : ∀ n e, Num (zrow m c n e)) (t : Fin cfg0.N) (hf : t.val % 56 = 55) (r k : Fin 1024) :
    run m c t.val t.isLt (ix2 r k) = moe m c (tok t r) k := by
  rw [run_sum (run m c) 56 (fun t i => hA m c (ix2 (tok t (i 0)) (i 1))) (part m c)
    (run_first m c hz) (run_next m c hz) t hf (ix2 r k)]
  have e0 : tok ⟨56 * (t.val / 56), Pipeline.run_start_lt t⟩ r = tok t r := tok_start t r
  have e1 : ∀ s : Fin 56, tok ⟨56 * (t.val / 56) + s.val, Pipeline.run_point_lt_of_flush t hf s⟩ r = tok t r := by
    intro s
    refine Fin.ext ?_
    simp only [tok]
    omega
  have e2 : ∀ s : Fin 56, exq ⟨56 * (t.val / 56) + s.val, Pipeline.run_point_lt_of_flush t hf s⟩ = ⟨s.val / 7, by omega⟩ := by
    intro s
    refine Fin.ext ?_
    simp only [exq]
    omega
  have e3 : ∀ (s : Fin 56) (f : Fin 512), chan ⟨56 * (t.val / 56) + s.val, Pipeline.run_point_lt_of_flush t hf s⟩ f
      = ⟨512 * (s.val % 7) + f.val, by omega⟩ := by
    intro s f
    refine Fin.ext ?_
    simp only [chan]
    omega
  unfold moe mixed
  refine congrArg₂ (· + ·) (congrArg (fun n => hA m c (ix2 n k)) e0) ?_
  refine (Finset.sum_congr rfl fun s _ => ?_).trans (sum_steps
    (fun e f => act (xn m c (tok t r)) (fun k f => wgA m c (ix4 0 e k f)) (fun k f => wuA m c (ix4 0 e k f)) f
      * wdA m c (ix4 0 e f k)) (share (zrow m c (tok t r))) (fun e => share_pos _ (hz _) e)
    (fun s f => act (xn m c (tok t r)) (fun k f => wgA m c (ix4 0 ⟨s.val / 7, by omega⟩ k f))
      (fun k f => wuA m c (ix4 0 ⟨s.val / 7, by omega⟩ k f)) ⟨512 * (s.val % 7) + f.val, by omega⟩
      * wdA m c (ix4 0 ⟨s.val / 7, by omega⟩ ⟨512 * (s.val % 7) + f.val, by omega⟩ k))
    (fun s => share (zrow m c (tok t r)) ⟨s.val / 7, by omega⟩) (fun _ => rfl) (fun _ _ => rfl))
  rw [part_at]
  simp only [e1, e2, e3]

/-- A finished row block holds the norm of its tokens' MoE layer. -/
theorem block_at (c : Dev nD) (hz : ∀ n e, Num (zrow m c n e)) (t : Fin cfg0.N) (hf : t.val % 56 = 55) (r k : Fin 1024) :
    (outsAt0 m c t.val t.isLt).1 (ix2 r k) = rms (moe m c (tok t r)) (fun k => fgA m c (ix1 k)) k := by
  have e : ∀ i, stepB m c t (outsAt0 m c (t.val - 1) (before t)).2.1 (outsAt0 m c (t.val - 1) (before t)).2.2
      (outsAt0 m c (t.val - 1) (before t)).1 (ix2 r i) = moe m c (tok t r) i := by
    intro i
    rw [← run_last m c hz t hf r i, run, if_pos hf]
  rw [out_last m c t hf, final_norm_at]
  simp only [e, fgB_at]

/-- The result array after the run. -/
theorem final (c : Dev nD) (hz : ∀ n e, Num (zrow m c n e)) (X : Vec Ideal S65536x1024 .f32)
    (hX : ∀ n k, X (ix2 n k) = rms (moe m c n) (fun k => fgA m c (ix1 k)) k) :
    (dats m 0 c).arrAt 7 (cfgs 0).N = X := by
  refine (dats m 0 c).arrAt_eq_of_covers 7 _ (by decide +kernel) fun t hf y => ?_
  rw [after0_7]
  have hy : (y : S1024x1024.Idx) = ix2 (y 0) (y 1) := by funext a; fin_cases a <;> rfl
  rw [hy]
  refine (block_at m c hz t ((flush0_7 t).mp hf) (y 0) (y 1)).trans ?_
  refine (hX (tok t (y 0)) (y 1)).symm.trans ?_
  unfold tok
  blk_ext [idx t]

end Cert.KernelIdeal.Moe

end
-- ==== Proof.MoeRef.lean ====
/-
  The MoE reference's normalised tokens and routing weights, read at one token.
-/
module

public import proofs.«01_k».proof.Proof.Route
public import proofs.«01_k».proof.Proof.Finite
public import proofs.«01_k».proof.Proof.Gen.ReferenceIdeal.Read

@[expose] public section

set_option maxRecDepth 16384

noncomputable section

namespace Cert.ReferenceIdeal.Moe

open Idealize.ShloMosaic Idealize.ShloMosaic.TcCoe
open Cert.ReferenceIdeal Cert.ReferenceIdeal.Gen Cert.ReferenceIdeal.Read Cert.Layer

variable (x : FVec Ideal S65536x1024 .f32) (g : FVec Ideal S2x1024 .f32) (w : FVec Ideal S1x1024x8 .f32)

/-- The normalised tokens. -/
theorem norm_at (n : Fin 65536) (k : Fin 1024) :
    val_main_v14 (F := Ideal) x g (ix2 n k) = rms (fun i => x (ix2 n i)) (fun i => g (ix2 1 i)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  simp only [rms, scale, zero_add]

/-- A token's router logits. -/
def row (n : Fin 65536) : Fin 8 → EReal :=
  logits (rms (fun i => x (ix2 n i)) fun i => g (ix2 1 i)) fun k e => w (ix3 0 k e)

theorem logits_at (n : Fin 65536) (e : Fin 8) : val_main_v19 (F := Ideal) x g w (ix2 n e) = row x g w n e := by
  pointwise [val_main_v19, val_main_v15]
  simp only [norm_at]
  rfl

theorem along_at (n : Fin 65536) (j e : Fin 8) :
    Shape.Idx.along (s := S65536x8) (ix2 n j) (1 : Fin 2) e = ix2 n e := by
  funext a
  fin_cases a <;> simp [Shape.Idx.along, Function.update] <;> rfl

theorem before_eq (y : FVec Ideal S65536x8 .f32) (n : Fin 65536) (j : Fin 8) :
    (fun k k' : Fin 8 => FloatOps.cmpfTotal (F := Ideal) (φ := .f32) .gt
        (y (Shape.Idx.along (s := S65536x8) (ix2 n j) (1 : Fin 2) k))
        (y (Shape.Idx.along (s := S65536x8) (ix2 n j) (1 : Fin 2) k')) == 1#1)
      = above fun e => y (ix2 n e) := by
  funext a b
  rw [along_at, along_at]
  rw [Ideal.cmpfTotal_def]
  unfold above
  by_cases h : y (ix2 n b) < y (ix2 n a)
  · simp [Ideal.cmp, CmpDirection.ordered, h]
  · simp [Ideal.cmp, CmpDirection.ordered, h]

/-- The values of the selection of the two greatest are the row's at the first two places of its ranking. -/
theorem values_at (y : FVec Ideal S65536x8 .f32) (n : Fin 65536) (k : Fin 2) :
    (Host.topK S65536x2 1 (FloatOps.cmpfTotal (F := Ideal) (φ := .f32) .gt) y sliceFits_S65536x8_S65536x2).1 (ix2 n k)
      = y (ix2 n (sortedFrom (above fun e => y (ix2 n e)) ⟨k.val, by omega⟩)) := by
  have hj : (fun a => ⟨0 + ((ix2 n k : S65536x2.Idx) (Fin.cast rfl a)).val,
      Nat.lt_of_lt_of_le (Nat.add_lt_add_left ((ix2 n k : S65536x2.Idx) (Fin.cast rfl a)).isLt _)
        (sliceFits_S65536x8_S65536x2.2 a)⟩ : S65536x8.Idx) = ix2 n ⟨k.val, by omega⟩ := by
    funext a
    fin_cases a <;> exact Fin.ext (Nat.zero_add _)
  unfold Host.topK Host.sort2 extractStridedSlice
  simp only [dif_pos (show 1 < S65536x8.rank by decide)]
  refine (congrArg (fun j : S65536x8.Idx => y (j.along (1 : Fin 2) (sortedFrom (fun k k' : Fin 8 =>
    FloatOps.cmpfTotal (F := Ideal) (φ := .f32) .gt (y (j.along (1 : Fin 2) k)) (y (j.along (1 : Fin 2) k')) == 1#1)
    (j (1 : Fin 2))))) hj).trans ?_
  show y (Shape.Idx.along (s := S65536x8) (ix2 n ⟨k.val, _⟩) (1 : Fin 2) _) = _
  rw [before_eq]
  exact congrArg y (along_at n _ _)

/-- Its positions are the words of those places. -/
theorem indices_at (y : FVec Ideal S65536x8 .f32) (n : Fin 65536) (k : Fin 2) :
    (Host.topK S65536x2 1 (FloatOps.cmpfTotal (F := Ideal) (φ := .f32) .gt) y sliceFits_S65536x8_S65536x2).2 (ix2 n k)
      = BitVec.ofNat 32 (sortedFrom (above fun e => y (ix2 n e)) ⟨k.val, by omega⟩).val := by
  have hj : (fun a => ⟨0 + ((ix2 n k : S65536x2.Idx) (Fin.cast rfl a)).val,
      Nat.lt_of_lt_of_le (Nat.add_lt_add_left ((ix2 n k : S65536x2.Idx) (Fin.cast rfl a)).isLt _)
        (sliceFits_S65536x8_S65536x2.2 a)⟩ : S65536x8.Idx) = ix2 n ⟨k.val, by omega⟩ := by
    funext a
    fin_cases a <;> exact Fin.ext (Nat.zero_add _)
  unfold Host.topK Host.sort2 extractStridedSlice
  simp only [dif_pos (show 1 < S65536x8.rank by decide)]
  refine (congrArg (fun j : S65536x8.Idx => BitVec.ofNat 32 ((j.along (1 : Fin 2) (sortedFrom (fun k k' : Fin 8 =>
    FloatOps.cmpfTotal (F := Ideal) (φ := .f32) .gt (y (j.along (1 : Fin 2) k)) (y (j.along (1 : Fin 2) k')) == 1#1)
    (j (1 : Fin 2)))) (1 : Fin 2)).val) hj).trans ?_
  show BitVec.ofNat 32 ((Shape.Idx.along (s := S65536x8) (ix2 n ⟨k.val, _⟩) (1 : Fin 2) _) (1 : Fin 2)).val = _
  rw [before_eq]
  exact congrArg (fun i : S65536x8.Idx => BitVec.ofNat 32 (i (1 : Fin 2)).val) (along_at n _ _)

theorem row_fun (n : Fin 65536) : (fun e => val_main_v19 (F := Ideal) x g w (ix2 n e)) = row x g w n :=
  funext fun e => logits_at x g w n e

theorem value_at (n : Fin 65536) (k : Fin 2) :
    val_main_values (F := Ideal) x g w (ix2 n k) = row x g w n (sortedFrom (above (row x g w n)) ⟨k.val, by omega⟩) := by
  unfold val_main_values
  rw [values_at, row_fun, logits_at]

theorem index_at (n : Fin 65536) (k : Fin 2) :
    val_main_indices (F := Ideal) x g w (ix2 n k)
      = BitVec.ofNat 32 (sortedFrom (above (row x g w n)) ⟨k.val, by omega⟩).val := by
  unfold val_main_indices
  rw [indices_at, row_fun]

theorem value_zero (n : Fin 65536) : val_main_values (F := Ideal) x g w (ix2 n 0) = row x g w n (top (row x g w n)) :=
  value_at x g w n 0

theorem value_one (n : Fin 65536) : val_main_values (F := Ideal) x g w (ix2 n 1) = row x g w n (next (row x g w n)) :=
  value_at x g w n 1

theorem index_zero (n : Fin 65536) :
    val_main_indices (F := Ideal) x g w (ix2 n 0) = BitVec.ofNat 32 (top (row x g w n)).val := index_at x g w n 0

theorem index_one (n : Fin 65536) :
    val_main_indices (F := Ideal) x g w (ix2 n 1) = BitVec.ofNat 32 (next (row x g w n)).val := index_at x g w n 1

theorem bot_bits : Ideal.ofBits .f32 0xFF800000#32 = ⊥ := by
  simp [Ideal.ofBits, Ideal.ieee]

theorem fold_two (b : EReal) (f : Fin 2 → EReal) : (Finset.univ : Finset (Fin 2)).fold max b f = max (f 0) (max (f 1) b) := by
  rw [show (Finset.univ : Finset (Fin 2)) = {0, 1} from by decide, Finset.fold_insert (by decide), Finset.fold_singleton]

/-- The greater of a token's two selected logits. -/
theorem max_at (n : Fin 65536) : val_main_v20 (F := Ideal) x g w (ix1 n) = row x g w n (top (row x g w n)) := by
  have e0 : ∀ k : Fin 2, (show S65536x2.Reduces [1] S65536 by decide).lift (ix1 n) k = (ix2 n k : S65536x2.Idx) := by
    intro k
    funext a
    fin_cases a <;> rfl
  unfold val_main_v20
  refine (Host.reduce_eq_fold_single (α := EReal) max _ _ reducesTo_S65536x2_S65536_d1
    (show S65536x2.Reduces [1] S65536 by decide) h_S_ (ix1 n)).trans ?_
  refine (fold_two _ _).trans ?_
  simp only [Function.comp]
  rw [e0 0, e0 1, value_zero, value_one]
  show max _ (max _ (Ideal.ofBits .f32 0xFF800000#32)) = _
  rw [bot_bits, max_bot_right, max_eq_left (top_le _ _)]

theorem exp_self {z : EReal} (h : Num z) : Ideal.exp (z - z) = 1 := by
  obtain ⟨r, rfl⟩ := h
  rw [← EReal.coe_sub, sub_self]
  show ((Real.exp 0 : ℝ) : EReal) = 1
  rw [Real.exp_zero]
  rfl

/-- The first place's softmax weight. -/
theorem gate_zero (n : Fin 65536) (hz : ∀ e, Num (row x g w n e)) :
    val_main_v30 (F := Ideal) x g w (ix2 n 0) = Ideal.div 1 (1 + odds (row x g w n)) := by
  pointwise [val_main_v30, val_main_v29, val_main_v28, val_main_v27, val_main_v26, val_main_v25, val_main_v24, val_main_v23,
    val_main_v22, val_main_v21, val_main_cst_3, val_main_cst_4]
  simp only [Fin.sum_univ_two, max_at, value_zero, value_one, bot_bits, max_bot_left, exp_self (hz _), zero_add]
  rfl

/-- The second place's. -/
theorem gate_one (n : Fin 65536) (hz : ∀ e, Num (row x g w n e)) :
    val_main_v30 (F := Ideal) x g w (ix2 n 1) = odds (row x g w n) * Ideal.div 1 (1 + odds (row x g w n)) := by
  have h2 : (1 + odds (row x g w n)) ≠ 0 := by
    obtain ⟨r, hr, e⟩ := odds_pos _ hz
    rw [e, ← EReal.coe_one, ← EReal.coe_add]
    exact_mod_cast (by positivity : (1 : ℝ) + r ≠ 0)
  rw [Ideal.mul_one_div h2]
  pointwise [val_main_v30, val_main_v29, val_main_v28, val_main_v27, val_main_v26, val_main_v25, val_main_v24, val_main_v23,
    val_main_v22, val_main_v21, val_main_cst_3, val_main_cst_4]
  simp only [Fin.sum_univ_two, max_at, value_zero, value_one, bot_bits, max_bot_left, exp_self (hz _), zero_add]
  rfl

theorem hot_at (a e : Fin 8) :
    FloatOps.uitofp (F := Ideal) .f32 (IntOp.cmpi .eq (BitVec.ofNat 32 a.val) (BitVec.ofNat 32 e.val))
      = if e = a then 1 else 0 := by
  have h : IntOp.cmpi .eq (BitVec.ofNat 32 a.val) (BitVec.ofNat 32 e.val) = if e = a then 1#1 else 0#1 := by
    revert a e
    decide
  rw [h]
  split
  · show ((_ : ℝ) : EReal) = 1
    simp
  · show ((_ : ℝ) : EReal) = 0
    simp

/-- A token's weight of expert `e`. -/
theorem comb_at (n : Fin 65536) (hz : ∀ e, Num (row x g w n e)) (e : Fin 8) :
    val_main_v35 (F := Ideal) x g w (ix2 n e) = share (row x g w n) e := by
  pointwise [val_main_v35, val_main_v34, val_main_v33, val_main_v32, val_main_v31, val_main_call0_v4, val_main_call0_v3,
    val_main_call0_v2, val_main_call0_v1, val_main_call0_v0, val_main_cst_5]
  simp only [Fin.sum_univ_two, index_zero, index_one, gate_zero x g w n hz, gate_one x g w n hz]
  rw [hot_at, hot_at]
  simp only [share, ite_mul, one_mul, zero_mul]

end Cert.ReferenceIdeal.Moe

end
-- ==== Proof.MoeExperts.lean ====
/-
  The MoE reference's eight experts and its sum over them, read at one token and channel.
-/
module

public import proofs.«01_k».proof.Proof.Route
public import proofs.«01_k».proof.Proof.Gen.ReferenceIdeal.Read

@[expose] public section

set_option maxRecDepth 16384

noncomputable section

namespace Cert.ReferenceIdeal.Moe

open Idealize.ShloMosaic Idealize.ShloMosaic.TcCoe
open Cert.ReferenceIdeal Cert.ReferenceIdeal.Read Cert.Layer

variable (x : FVec Ideal S65536x1024 .f32) (g : FVec Ideal S2x1024 .f32) (w : FVec Ideal S1x1024x8 .f32)
  (wg wu : FVec Ideal S1x8x1024x3584 .f32) (wd : FVec Ideal S1x8x3584x1024 .f32)

/-- Expert `e`'s output at token `n` and channel `c`, over the normalised tokens. -/
def out (e : Fin 8) (n : Fin 65536) (c : Fin 1024) : EReal :=
  expert (fun k => val_main_v14 (F := Ideal) x g (ix2 n k)) (fun e k f => wg (ix4 0 e k f)) (fun e k f => wu (ix4 0 e k f))
    (fun e f c => wd (ix4 0 e f c)) e c

theorem out0_at (n : Fin 65536) (c : Fin 1024) :
    val_main_v47 (F := Ideal) x g wg wu wd (ix2 n c) = out x g wg wu wd 0 n c := by
  pointwise [val_main_v47, val_main_v46, val_main_v45, val_main_v44, val_main_v43, val_main_v42, val_main_v41, val_main_v40, val_main_v39, val_main_v38, val_main_v37,
    val_main_v16, val_main_v17, val_main_v18, val_main_call1_v5, val_main_call1_v4, val_main_call1_v3, val_main_call1_v2, val_main_call1_v1, val_main_call1_v0,
    val_main_call1_cst, val_main_call1_cst_0]
  simp only [out, expert, act, gate, logi]

theorem sum0_at (n : Fin 65536) (c : Fin 1024) :
    val_main_v51 (F := Ideal) x g w wg wu wd (ix2 n c)
      = 0 + out x g wg wu wd 0 n c * val_main_v35 (F := Ideal) x g w (ix2 n 0) := by
  rw [← out0_at]
  pointwise [val_main_v51, val_main_v50, val_main_v49, val_main_v48, val_main_v36, val_main_cst_6]

theorem out1_at (n : Fin 65536) (c : Fin 1024) :
    val_main_v62 (F := Ideal) x g wg wu wd (ix2 n c) = out x g wg wu wd 1 n c := by
  pointwise [val_main_v62, val_main_v61, val_main_v60, val_main_v59, val_main_v58, val_main_v57, val_main_v56, val_main_v55, val_main_v54, val_main_v53, val_main_v52,
    val_main_v16, val_main_v17, val_main_v18, val_main_call2_v5, val_main_call2_v4, val_main_call2_v3, val_main_call2_v2, val_main_call2_v1, val_main_call2_v0,
    val_main_call2_cst, val_main_call2_cst_0]
  simp only [out, expert, act, gate, logi]

theorem sum1_at (n : Fin 65536) (c : Fin 1024) :
    val_main_v66 (F := Ideal) x g w wg wu wd (ix2 n c)
      = val_main_v51 (F := Ideal) x g w wg wu wd (ix2 n c) + out x g wg wu wd 1 n c * val_main_v35 (F := Ideal) x g w (ix2 n 1) := by
  rw [← out1_at]
  pointwise [val_main_v66, val_main_v65, val_main_v64, val_main_v63]

theorem out2_at (n : Fin 65536) (c : Fin 1024) :
    val_main_v77 (F := Ideal) x g wg wu wd (ix2 n c) = out x g wg wu wd 2 n c := by
  pointwise [val_main_v77, val_main_v76, val_main_v75, val_main_v74, val_main_v73, val_main_v72, val_main_v71, val_main_v70, val_main_v69, val_main_v68, val_main_v67,
    val_main_v16, val_main_v17, val_main_v18, val_main_call3_v5, val_main_call3_v4, val_main_call3_v3, val_main_call3_v2, val_main_call3_v1, val_main_call3_v0,
    val_main_call3_cst, val_main_call3_cst_0]
  simp only [out, expert, act, gate, logi]

theorem sum2_at (n : Fin 65536) (c : Fin 1024) :
    val_main_v81 (F := Ideal) x g w wg wu wd (ix2 n c)
      = val_main_v66 (F := Ideal) x g w wg wu wd (ix2 n c) + out x g wg wu wd 2 n c * val_main_v35 (F := Ideal) x g w (ix2 n 2) := by
  rw [← out2_at]
  pointwise [val_main_v81, val_main_v80, val_main_v79, val_main_v78]

theorem out3_at (n : Fin 65536) (c : Fin 1024) :
    val_main_v92 (F := Ideal) x g wg wu wd (ix2 n c) = out x g wg wu wd 3 n c := by
  pointwise [val_main_v92, val_main_v91, val_main_v90, val_main_v89, val_main_v88, val_main_v87, val_main_v86, val_main_v85, val_main_v84, val_main_v83, val_main_v82,
    val_main_v16, val_main_v17, val_main_v18, val_main_call4_v5, val_main_call4_v4, val_main_call4_v3, val_main_call4_v2, val_main_call4_v1, val_main_call4_v0,
    val_main_call4_cst, val_main_call4_cst_0]
  simp only [out, expert, act, gate, logi]

theorem sum3_at (n : Fin 65536) (c : Fin 1024) :
    val_main_v96 (F := Ideal) x g w wg wu wd (ix2 n c)
      = val_main_v81 (F := Ideal) x g w wg wu wd (ix2 n c) + out x g wg wu wd 3 n c * val_main_v35 (F := Ideal) x g w (ix2 n 3) := by
  rw [← out3_at]
  pointwise [val_main_v96, val_main_v95, val_main_v94, val_main_v93]

theorem out4_at (n : Fin 65536) (c : Fin 1024) :
    val_main_v107 (F := Ideal) x g wg wu wd (ix2 n c) = out x g wg wu wd 4 n c := by
  pointwise [val_main_v107, val_main_v106, val_main_v105, val_main_v104, val_main_v103, val_main_v102, val_main_v101, val_main_v100, val_main_v99, val_main_v98, val_main_v97,
    val_main_v16, val_main_v17, val_main_v18, val_main_call5_v5, val_main_call5_v4, val_main_call5_v3, val_main_call5_v2, val_main_call5_v1, val_main_call5_v0,
    val_main_call5_cst, val_main_call5_cst_0]
  simp only [out, expert, act, gate, logi]

theorem sum4_at (n : Fin 65536) (c : Fin 1024) :
    val_main_v111 (F := Ideal) x g w wg wu wd (ix2 n c)
      = val_main_v96 (F := Ideal) x g w wg wu wd (ix2 n c) + out x g wg wu wd 4 n c * val_main_v35 (F := Ideal) x g w (ix2 n 4) := by
  rw [← out4_at]
  pointwise [val_main_v111, val_main_v110, val_main_v109, val_main_v108]

theorem out5_at (n : Fin 65536) (c : Fin 1024) :
    val_main_v122 (F := Ideal) x g wg wu wd (ix2 n c) = out x g wg wu wd 5 n c := by
  pointwise [val_main_v122, val_main_v121, val_main_v120, val_main_v119, val_main_v118, val_main_v117, val_main_v116, val_main_v115, val_main_v114, val_main_v113, val_main_v112,
    val_main_v16, val_main_v17, val_main_v18, val_main_call6_v5, val_main_call6_v4, val_main_call6_v3, val_main_call6_v2, val_main_call6_v1, val_main_call6_v0,
    val_main_call6_cst, val_main_call6_cst_0]
  simp only [out, expert, act, gate, logi]

theorem sum5_at (n : Fin 65536) (c : Fin 1024) :
    val_main_v126 (F := Ideal) x g w wg wu wd (ix2 n c)
      = val_main_v111 (F := Ideal) x g w wg wu wd (ix2 n c) + out x g wg wu wd 5 n c * val_main_v35 (F := Ideal) x g w (ix2 n 5) := by
  rw [← out5_at]
  pointwise [val_main_v126, val_main_v125, val_main_v124, val_main_v123]

theorem out6_at (n : Fin 65536) (c : Fin 1024) :
    val_main_v137 (F := Ideal) x g wg wu wd (ix2 n c) = out x g wg wu wd 6 n c := by
  pointwise [val_main_v137, val_main_v136, val_main_v135, val_main_v134, val_main_v133, val_main_v132, val_main_v131, val_main_v130, val_main_v129, val_main_v128, val_main_v127,
    val_main_v16, val_main_v17, val_main_v18, val_main_call7_v5, val_main_call7_v4, val_main_call7_v3, val_main_call7_v2, val_main_call7_v1, val_main_call7_v0,
    val_main_call7_cst, val_main_call7_cst_0]
  simp only [out, expert, act, gate, logi]

theorem sum6_at (n : Fin 65536) (c : Fin 1024) :
    val_main_v141 (F := Ideal) x g w wg wu wd (ix2 n c)
      = val_main_v126 (F := Ideal) x g w wg wu wd (ix2 n c) + out x g wg wu wd 6 n c * val_main_v35 (F := Ideal) x g w (ix2 n 6) := by
  rw [← out6_at]
  pointwise [val_main_v141, val_main_v140, val_main_v139, val_main_v138]

theorem out7_at (n : Fin 65536) (c : Fin 1024) :
    val_main_v152 (F := Ideal) x g wg wu wd (ix2 n c) = out x g wg wu wd 7 n c := by
  pointwise [val_main_v152, val_main_v151, val_main_v150, val_main_v149, val_main_v148, val_main_v147, val_main_v146, val_main_v145, val_main_v144, val_main_v143, val_main_v142,
    val_main_v16, val_main_v17, val_main_v18, val_main_call8_v5, val_main_call8_v4, val_main_call8_v3, val_main_call8_v2, val_main_call8_v1, val_main_call8_v0,
    val_main_call8_cst, val_main_call8_cst_0]
  simp only [out, expert, act, gate, logi]

theorem sum7_at (n : Fin 65536) (c : Fin 1024) :
    val_main_v156 (F := Ideal) x g w wg wu wd (ix2 n c)
      = val_main_v141 (F := Ideal) x g w wg wu wd (ix2 n c) + out x g wg wu wd 7 n c * val_main_v35 (F := Ideal) x g w (ix2 n 7) := by
  rw [← out7_at]
  pointwise [val_main_v156, val_main_v155, val_main_v154, val_main_v153]

/-- The token plus its experts' outputs by their weights. -/
theorem total_at (n : Fin 65536) (c : Fin 1024) :
    val_main_v157 (F := Ideal) x g w wg wu wd (ix2 n c)
      = x (ix2 n c) + ∑ e : Fin 8, out x g wg wu wd e n c * val_main_v35 (F := Ideal) x g w (ix2 n e) := by
  rw [val_main_v157_apply, sum7_at, sum6_at, sum5_at, sum4_at, sum3_at, sum2_at, sum1_at, sum0_at, Fin.sum_univ_eight,
    zero_add]
  rfl

/-- The result is the final norm of that. -/
theorem final_at (fg : FVec Ideal S1024 .f32) (n : Fin 65536) (c : Fin 1024) :
    val_main_v170 (F := Ideal) x g w wg wu wd fg (ix2 n c)
      = rms (fun k => val_main_v157 (F := Ideal) x g w wg wu wd (ix2 n k)) (fun k => fg (ix1 k)) c := by
  pointwise [val_main_v170, val_main_v169, val_main_v168, val_main_v167, val_main_v166, val_main_v165, val_main_v164,
    val_main_v163, val_main_v162, val_main_v161, val_main_v160, val_main_v159, val_main_v158, val_main_cst_7, val_main_cst_8,
    val_main_cst_9]
  simp only [rms, scale, zero_add]

end Cert.ReferenceIdeal.Moe

end
-- ==== Proof.MoeTie.lean ====
/-
  The MoE kernel against its reference: for finite tokens, norm weights and router weights both results are the final norm
  of each token plus its two experts' outputs by their weights.
-/
module

public import proofs.«01_k».proof.Defs
public import proofs.«01_k».proof.Proof.MoeValue
public import proofs.«01_k».proof.Proof.MoeRef
public import proofs.«01_k».proof.Proof.MoeExperts
public import proofs.«01_k».proof.Proof.Gen.Pre_finite_tokens

@[expose] public section

set_option maxRecDepth 16384

noncomputable section

namespace Cert.ReferenceIdeal.Moe

open Idealize.ShloMosaic Idealize.ShloMosaic.TcCoe
open Cert.ReferenceIdeal Cert.ReferenceIdeal.Read Cert.Layer

/-- The reference's result at a token and channel. -/
theorem result_eq (x : FVec Ideal S65536x1024 .f32) (g : FVec Ideal S2x1024 .f32) (w : FVec Ideal S1x1024x8 .f32)
    (wg wu : FVec Ideal S1x8x1024x3584 .f32) (wd : FVec Ideal S1x8x3584x1024 .f32) (fg : FVec Ideal S1024 .f32)
    (n : Fin 65536) (hz : ∀ e, Num (row x g w n e)) (c : Fin 1024) :
    val_main_v170 (F := Ideal) x g w wg wu wd fg (ix2 n c)
      = rms (mixed (fun k => x (ix2 n k)) (fun k => g (ix2 1 k)) (fun k e => w (ix3 0 k e)) (fun e k f => wg (ix4 0 e k f))
          (fun e k f => wu (ix4 0 e k f)) fun e f c => wd (ix4 0 e f c)) (fun k => fg (ix1 k)) c := by
  rw [final_at]
  refine congrArg (fun y => rms y (fun k => fg (ix1 k)) c) (funext fun k => ?_)
  rw [total_at]
  simp only [comb_at x g w n hz, out, norm_at]
  rfl

end Cert.ReferenceIdeal.Moe

namespace Cert.MoeTie

open Idealize.ShloMosaic Idealize.ShloMosaic.TcCoe Cert.Layer
open Cert.KernelIdeal.Moe

variable (m : (ℓ : Loc Cert.KernelIdeal.nD Cert.KernelIdeal.τ Cert.KernelIdeal.sig) → Buf (Elt Ideal) ℓ)

theorem top_bits : Ideal.ofBits .f32 0x7F800000#32 = ⊤ := by
  simp [Ideal.ofBits, Ideal.ieee]

theorem num_of_flag {a : EReal} (h : Ideal.cmp .olt (max a (-a)) (Ideal.ofBits .f32 0x7F800000#32) = 1#1) : Num a := by
  rw [top_bits] at h
  refine num_of_abs ?_
  by_contra hn
  simp [Ideal.cmp, hn] at h

/-- Finite arguments have finite router logits. -/
theorem finite (hm : Cert.Pre_KernelIdeal_finite_tokens m) (c : Dev Cert.KernelIdeal.nD) (n : Fin 65536) (e : Fin 8) :
    Num (zrow m c n e) := by
  obtain ⟨h0, h1, h2⟩ := hm c
  refine logits_num _ _ _ (fun k => ?_) (fun k => ?_) (fun k e => ?_) e
  · exact num_of_flag (congrFun h0 (ix2 n k))
  · exact num_of_flag (congrFun h1 (ix2 1 k))
  · exact num_of_flag (congrFun h2 (ix3 0 k e))

/-- What the kernel's run leaves in its result is the reference's function of the kernel's arguments. -/
theorem value (hm : Cert.Pre_KernelIdeal_finite_tokens m) (c : Dev Cert.KernelIdeal.nD) :
    Cert.KernelIdeal.Value.G7 (F := Ideal) m c
      = Cert.ReferenceIdeal.Read.val_main_v170 (F := Ideal) (hA m c) (gA m c) (rA m c) (wgA m c) (wuA m c) (wdA m c)
          (fgA m c) := by
  refine (Cert.KernelIdeal.Value.final7 m c).symm.trans ?_
  exact Cert.KernelIdeal.Moe.final m c (finite m hm c) _ fun n k =>
    Cert.ReferenceIdeal.Moe.result_eq _ _ _ _ _ _ _ n (finite m hm c n) k

end Cert.MoeTie

end
-- ==== Proof.MemkvRef.lean ====
/-
  The memory projections' reference, read at one layer, token and channel: the column of the projection of the token's norm
  under the layer's gain and weights.
-/
module

public import proofs.«01_k».proof.Proof.Layer
public import proofs.«01_k».proof.Proof.Gen.Reference3Ideal.Read

@[expose] public section

set_option maxRecDepth 16384

noncomputable section

namespace Cert.Reference3Ideal.Memkv

open Idealize.ShloMosaic Idealize.ShloMosaic.TcCoe
open Cert.Reference3Ideal Cert.Reference3Ideal.Read Cert.Layer

variable (x : FVec Ideal S16x256x1024 .f32) (g : FVec Ideal S2x1024 .f32) (w : FVec Ideal S2x1024x512 .f32)

/-- The sequence a row of the flattened memory belongs to, and its place there. -/
def seqOf (n : Fin 4096) : Fin 16 := ⟨n.val / 256, by omega⟩
def posOf (n : Fin 4096) : Fin 256 := ⟨n.val % 256, by omega⟩

/-- The first layer's normalised memory. -/
theorem norm_at0 (b : Fin 16) (p : Fin 256) (k : Fin 1024) :
    val_main_v14 (F := Ideal) x g (ix3 b p k) = rms (fun i => x (ix3 b p i)) (fun i => g (ix2 0 i)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  simp only [rms, scale, zero_add]

/-- The second layer's normalised memory. -/
theorem norm_at1 (b : Fin 16) (p : Fin 256) (k : Fin 1024) :
    val_main_v37 (F := Ideal) x g (ix3 b p k) = rms (fun i => x (ix3 b p i)) (fun i => g (ix2 1 i)) k := by
  pointwise [val_main_v37, val_main_v36, val_main_v35, val_main_v34, val_main_v33, val_main_v32, val_main_v31, val_main_v30,
    val_main_v29, val_main_v28, val_main_v27, val_main_v26, val_main_v25, val_main_v24, val_main_v23, val_main_cst_2,
    val_main_cst_3, val_main_cst_4]
  simp only [rms, scale, zero_add]

/-- The first layer's keys. -/
theorem key_at0 (n : Fin 4096) (c : Fin 512) :
    val_main_v18 (F := Ideal) x g w (ix2 n c)
      = proj (fun i => x (ix3 (seqOf n) (posOf n) i)) (fun i => g (ix2 0 i)) (fun k c => w (ix3 0 k c)) c := by
  have e : val_main_v18 (F := Ideal) x g w (ix2 n c)
      = ∑ k : Fin 1024, val_main_v14 (F := Ideal) x g (ix3 (seqOf n) (posOf n) k) * w (ix3 0 k c) := by
    unfold seqOf posOf
    pointwise [val_main_v18, val_main_v17, val_main_v16, val_main_v15]
  rw [e]
  simp only [norm_at0, proj]

/-- The second layer's keys. -/
theorem key_at1 (n : Fin 4096) (c : Fin 512) :
    val_main_v41 (F := Ideal) x g w (ix2 n c)
      = proj (fun i => x (ix3 (seqOf n) (posOf n) i)) (fun i => g (ix2 1 i)) (fun k c => w (ix3 1 k c)) c := by
  have e : val_main_v41 (F := Ideal) x g w (ix2 n c)
      = ∑ k : Fin 1024, val_main_v37 (F := Ideal) x g (ix3 (seqOf n) (posOf n) k) * w (ix3 1 k c) := by
    unfold seqOf posOf
    pointwise [val_main_v41, val_main_v40, val_main_v39, val_main_v38]
  rw [e]
  simp only [norm_at1, proj]

/-- The first layer's values. -/
theorem value_at0 (n : Fin 4096) (c : Fin 512) :
    val_main_v22 (F := Ideal) x g w (ix2 n c)
      = proj (fun i => x (ix3 (seqOf n) (posOf n) i)) (fun i => g (ix2 0 i)) (fun k c => w (ix3 0 k c)) c := by
  have e : val_main_v22 (F := Ideal) x g w (ix2 n c)
      = ∑ k : Fin 1024, val_main_v14 (F := Ideal) x g (ix3 (seqOf n) (posOf n) k) * w (ix3 0 k c) := by
    unfold seqOf posOf
    pointwise [val_main_v22, val_main_v21, val_main_v20, val_main_v19]
  rw [e]
  simp only [norm_at0, proj]

/-- The second layer's values. -/
theorem value_at1 (n : Fin 4096) (c : Fin 512) :
    val_main_v45 (F := Ideal) x g w (ix2 n c)
      = proj (fun i => x (ix3 (seqOf n) (posOf n) i)) (fun i => g (ix2 1 i)) (fun k c => w (ix3 1 k c)) c := by
  have e : val_main_v45 (F := Ideal) x g w (ix2 n c)
      = ∑ k : Fin 1024, val_main_v37 (F := Ideal) x g (ix3 (seqOf n) (posOf n) k) * w (ix3 1 k c) := by
    unfold seqOf posOf
    pointwise [val_main_v45, val_main_v44, val_main_v43, val_main_v42]
  rw [e]
  simp only [norm_at1, proj]

/-- The keys of both layers. -/
theorem keys_at (l : Fin 2) (n : Fin 4096) (c : Fin 512) :
    val_main_v48 (F := Ideal) x g w (ix3 l n c)
      = proj (fun i => x (ix3 (seqOf n) (posOf n) i)) (fun i => g (ix2 l i)) (fun k c => w (ix3 l k c)) c := by
  match l with
  | 0 =>
    refine Eq.trans ?_ (key_at0 x g w n c)
    pointwise [val_main_v48, val_main_v47, val_main_v46]
  | 1 =>
    refine Eq.trans ?_ (key_at1 x g w n c)
    pointwise [val_main_v48, val_main_v47, val_main_v46]

/-- The values of both layers. -/
theorem values_at (l : Fin 2) (n : Fin 4096) (c : Fin 512) :
    val_main_v51 (F := Ideal) x g w (ix3 l n c)
      = proj (fun i => x (ix3 (seqOf n) (posOf n) i)) (fun i => g (ix2 l i)) (fun k c => w (ix3 l k c)) c := by
  match l with
  | 0 =>
    refine Eq.trans ?_ (value_at0 x g w n c)
    pointwise [val_main_v51, val_main_v50, val_main_v49]
  | 1 =>
    refine Eq.trans ?_ (value_at1 x g w n c)
    pointwise [val_main_v51, val_main_v50, val_main_v49]

end Cert.Reference3Ideal.Memkv

end
-- ==== Proof.MemkvValue.lean ====
/-
  The memory projections' kernel: each grid point takes 512 rows of the flattened memory under one layer's gain and weights
  and stores their keys and values; together the points cover both result arrays.
-/
module

public import proofs.«01_k».proof.Proof.Layer
public import proofs.«01_k».proof.Proof.Gen.Kernel3Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Memkv

open Idealize.ShloMosaic Idealize.ShloMosaic.TcCoe Idealize.SL.Sem
open Idealize.ShloMosaic.Pipeline (Dat)
open Cert.Kernel3Ideal Cert.Kernel3Ideal.Gen Cert.Layer

/-- The normalised rows a point multiplies. -/
theorem norm_at (x : Vec Ideal S512x1024 .f32) (g : Vec Ideal S1x1x1024 .f32) (r : Fin 512) (k : Fin 1024) :
    k0_pay3 (F := Ideal) x g (ix2 r k) = rms (fun i => x (ix2 r i)) (fun i => g (ix3 0 0 i)) k := by
  pointwise [k0_pay3]
  rfl

/-- The keys a point stores. -/
theorem key_at (x : Vec Ideal S512x1024 .f32) (g : Vec Ideal S1x1x1024 .f32) (w : Vec Ideal S1x1024x512 .bf16)
    (r c : Fin 512) :
    k0_pay6 (F := Ideal) x g w (ix3 0 r c)
      = proj (fun i => x (ix2 r i)) (fun i => g (ix3 0 0 i)) (fun k c => w (ix3 0 k c)) c := by
  have e : k0_pay6 (F := Ideal) x g w (ix3 0 r c)
      = ∑ k : Fin 1024, k0_pay3 (F := Ideal) x g (ix2 r k) * w (ix3 0 k c) := by
    pointwise [k0_pay6, k0_pay4]
  rw [e]
  simp only [norm_at, proj]

/-- The values a point stores. -/
theorem val_at (x : Vec Ideal S512x1024 .f32) (g : Vec Ideal S1x1x1024 .f32) (w : Vec Ideal S1x1024x512 .bf16)
    (r c : Fin 512) :
    k0_pay7 (F := Ideal) x g w (ix3 0 r c)
      = proj (fun i => x (ix2 r i)) (fun i => g (ix3 0 0 i)) (fun k c => w (ix3 0 k c)) c := by
  have e : k0_pay7 (F := Ideal) x g w (ix3 0 r c)
      = ∑ k : Fin 1024, k0_pay3 (F := Ideal) x g (ix2 r k) * w (ix3 0 k c) := by
    pointwise [k0_pay7, k0_pay5]
  rw [e]
  simp only [norm_at, proj]

variable (m : (ℓ : Loc nD τ sig) → Buf (Elt Ideal) ℓ)

/-- Where each window's block lies. -/
theorem idx : ∀ t : Fin cfg0.N, win0_0.index t = ![t.val % 8, 0] ∧ win0_1.index t = ![t.val / 8, 0, 0]
    ∧ win0_2.index t = ![t.val / 8, 0, 0] ∧ win0_3.index t = ![t.val / 8, 0, 0]
    ∧ win0_4.index t = ![t.val / 8, t.val % 8, 0] ∧ win0_5.index t = ![t.val / 8, t.val % 8, 0] :=
  (by decide +kernel : ∀ t : Fin grid0.N, _)

/-- The staged blocks, at their arrays' types. -/
def xB (c : Dev nD) (t : Fin cfg0.N) : Vec Ideal S512x1024 .f32 := iblk m c 0 t
def gB (c : Dev nD) (t : Fin cfg0.N) : Vec Ideal S1x1x1024 .f32 := iblk m c 1 t
def wkB (c : Dev nD) (t : Fin cfg0.N) : Vec Ideal S1x1024x512 .bf16 := iblk m c 2 t
def wvB (c : Dev nD) (t : Fin cfg0.N) : Vec Ideal S1x1024x512 .bf16 := iblk m c 3 t

/-- The arguments, at their types. -/
abbrev xA (c : Dev nD) : Vec Ideal S16x256x1024 .f32 := m ((c : Thread nD τ).loc main_arg0)
abbrev gA (c : Dev nD) : Vec Ideal S2x1024 .f32 := m ((c : Thread nD τ).loc main_arg1)
abbrev wkA (c : Dev nD) : Vec Ideal S2x1024x512 .f32 := m ((c : Thread nD τ).loc main_arg2)
abbrev wvA (c : Dev nD) : Vec Ideal S2x1024x512 .f32 := m ((c : Thread nD τ).loc main_arg3)

/-- A point's layer, and the memory row its row `r` is. -/
def lay (t : Fin cfg0.N) : Fin 2 := ⟨t.val / 8, by have := (show t.val < 16 from t.isLt); omega⟩
def row (t : Fin cfg0.N) (r : Fin 512) : Fin 4096 := ⟨t.val % 8 * 512 + r.val, by omega⟩

theorem xB_at (c : Dev nD) (t : Fin cfg0.N) (r : Fin 512) (k : Fin 1024) :
    xB m c t (ix2 r k)
      = xA m c (ix3 (⟨(row t r).val / 256, by omega⟩ : Fin 16) (⟨(row t r).val % 256, by omega⟩ : Fin 256) k) := by
  unfold xB xA row
  blk_point [iblk, idx t]

theorem gB_at (c : Dev nD) (t : Fin cfg0.N) (k : Fin 1024) : gB m c t (ix3 0 0 k) = gA m c (ix2 (lay t) k) := by
  unfold gB gA lay
  blk_point [iblk, idx t]

theorem wkB_at (c : Dev nD) (t : Fin cfg0.N) (k : Fin 1024) (f : Fin 512) :
    wkB m c t (ix3 0 k f) = wkA m c (ix3 (lay t) k f) := by
  unfold wkB wkA lay
  blk_point [iblk, idx t]

theorem wvB_at (c : Dev nD) (t : Fin cfg0.N) (k : Fin 1024) (f : Fin 512) :
    wvB m c t (ix3 0 k f) = wvA m c (ix3 (lay t) k f) := by
  unfold wvB wvA lay
  blk_point [iblk, idx t]

/-- The keys' array at a layer, row and channel. -/
def out (c : Dev nD) (w : Vec Ideal S2x1024x512 .f32) (l : Fin 2) (n : Fin 4096) (k : Fin 512) : EReal :=
  proj (fun i => xA m c (ix3 (⟨n.val / 256, by omega⟩ : Fin 16) (⟨n.val % 256, by omega⟩ : Fin 256) i))
    (fun i => gA m c (ix2 l i)) (fun k c => w (ix3 l k c)) k

/-- What a point leaves in the keys' block, for any staged contents. -/
theorem keys_stored (x : Vec Ideal S512x1024 .f32) (g : Vec Ideal S1x1x1024 .f32) (wk wv : Vec Ideal S1x1024x512 .bf16) :
    out0_4 (F := Ideal) x g wk wv = k0_pay6 (F := Ideal) x g wk := by
  unfold out0_4
  rw [View.canon_unit_zero (by decide), View.ld_unit_zero (by decide), View.ld_unit_zero (by decide),
    View.ld_unit_zero (by decide)]

/-- What a point leaves in the values' block, for any staged contents. -/
theorem values_stored (x : Vec Ideal S512x1024 .f32) (g : Vec Ideal S1x1x1024 .f32) (wk wv : Vec Ideal S1x1024x512 .bf16) :
    out0_5 (F := Ideal) x g wk wv = k0_pay7 (F := Ideal) x g wv := by
  unfold out0_5
  rw [View.canon_unit_zero (by decide), View.ld_unit_zero (by decide), View.ld_unit_zero (by decide),
    View.ld_unit_zero (by decide)]

/-- The keys a point stores, in the arguments. -/
theorem keys_point (c : Dev nD) (t : Fin cfg0.N) (r k : Fin 512) :
    k0_pay6 (F := Ideal) (xB m c t) (gB m c t) (wkB m c t) (ix3 0 r k) = out m c (wkA m c) (lay t) (row t r) k := by
  rw [key_at]
  simp only [xB_at, gB_at, wkB_at]
  rfl

/-- What a point leaves in the keys' block, in the arguments. -/
theorem keys_block (c : Dev nD) (t : Fin cfg0.N) (r k : Fin 512) :
    out0_4 (F := Ideal) (iblk m c 0 t) (iblk m c 1 t) (iblk m c 2 t) (iblk m c 3 t) (ix3 0 r k)
      = out m c (wkA m c) (lay t) (row t r) k :=
  (congrFun (keys_stored (xB m c t) (gB m c t) (wkB m c t) (wvB m c t)) (ix3 0 r k)).trans (keys_point m c t r k)

/-- The keys' array after the run. -/
theorem keys_final (c : Dev nD) (X : Vec Ideal S2x4096x512 .f32) (hX : ∀ l n k, X (ix3 l n k) = out m c (wkA m c) l n k) :
    (dats m 0 c).arrAt 4 (cfgs 0).N = X := by
  refine (dats m 0 c).arrAt_eq_of_covers 4 _ (by decide +kernel) fun t hf y => ?_
  rw [after0_4]
  generalize hY : out0_4 (iblk m c 0 t) (iblk m c 1 t) (iblk m c 2 t) (iblk m c 3 t) = Y
  have hb : ∀ r k : Fin 512, Y (ix3 0 r k) = out m c (wkA m c) (lay t) (row t r) k :=
    fun r k => (congrFun hY _).symm.trans (keys_block m c t r k)
  have hy : (y : S1x512x512.Idx) = ix3 0 (y 1) (y 2) := by
    funext a
    fin_cases a
    · exact Subsingleton.elim (α := Fin 1) _ _
    · rfl
    · rfl
  rw [hy]
  refine (hb (y 1) (y 2)).trans ?_
  refine (hX (lay t) (row t (y 1)) (y 2)).symm.trans ?_
  unfold lay row
  blk_ext [idx t]

/-- The values a point stores, in the arguments. -/
theorem values_point (c : Dev nD) (t : Fin cfg0.N) (r k : Fin 512) :
    k0_pay7 (F := Ideal) (xB m c t) (gB m c t) (wvB m c t) (ix3 0 r k) = out m c (wvA m c) (lay t) (row t r) k := by
  rw [val_at]
  simp only [xB_at, gB_at, wvB_at]
  rfl

/-- What a point leaves in the values' block, in the arguments. -/
theorem values_block (c : Dev nD) (t : Fin cfg0.N) (r k : Fin 512) :
    out0_5 (F := Ideal) (iblk m c 0 t) (iblk m c 1 t) (iblk m c 2 t) (iblk m c 3 t) (ix3 0 r k)
      = out m c (wvA m c) (lay t) (row t r) k :=
  (congrFun (values_stored (xB m c t) (gB m c t) (wkB m c t) (wvB m c t)) (ix3 0 r k)).trans (values_point m c t r k)

/-- The values' array after the run. -/
theorem values_final (c : Dev nD) (X : Vec Ideal S2x4096x512 .f32) (hX : ∀ l n k, X (ix3 l n k) = out m c (wvA m c) l n k) :
    (dats m 0 c).arrAt 5 (cfgs 0).N = X := by
  refine (dats m 0 c).arrAt_eq_of_covers 5 _ (by decide +kernel) fun t hf y => ?_
  rw [after0_5]
  generalize hY : out0_5 (iblk m c 0 t) (iblk m c 1 t) (iblk m c 2 t) (iblk m c 3 t) = Y
  have hb : ∀ r k : Fin 512, Y (ix3 0 r k) = out m c (wvA m c) (lay t) (row t r) k :=
    fun r k => (congrFun hY _).symm.trans (values_block m c t r k)
  have hy : (y : S1x512x512.Idx) = ix3 0 (y 1) (y 2) := by
    funext a
    fin_cases a
    · exact Subsingleton.elim (α := Fin 1) _ _
    · rfl
    · rfl
  rw [hy]
  refine (hb (y 1) (y 2)).trans ?_
  refine (hX (lay t) (row t (y 1)) (y 2)).symm.trans ?_
  unfold lay row
  blk_ext [idx t]

end Cert.Kernel3Ideal.Memkv

end
-- ==== Proof.MemkvTie.lean ====
/-
  The memory projections: the kernel's two result arrays are the reference's two results of the same arguments.
-/
module

public import proofs.«01_k».proof.Proof.MemkvRef
public import proofs.«01_k».proof.Proof.MemkvValue

@[expose] public section

set_option maxRecDepth 16384

noncomputable section

namespace Cert.MemkvTie

open Idealize.ShloMosaic Idealize.ShloMosaic.TcCoe

variable (m : (ℓ : Loc Cert.Kernel3Ideal.nD Cert.Kernel3Ideal.τ Cert.Kernel3Ideal.sig) → Buf (Elt Ideal) ℓ)
  (c : Dev Cert.Kernel3Ideal.nD)

/-- The keys the kernel's run leaves are the reference's function of the kernel's arguments. -/
theorem keys : (Cert.Kernel3Ideal.Gen.dats (F := Ideal) m 0 c).arrAt 4 Cert.Kernel3Ideal.cfg0.N
    = Cert.Reference3Ideal.Read.val_main_v48 (F := Ideal) (Cert.Kernel3Ideal.Memkv.xA m c) (Cert.Kernel3Ideal.Memkv.gA m c)
        (Cert.Kernel3Ideal.Memkv.wkA m c) :=
  Cert.Kernel3Ideal.Memkv.keys_final m c _ fun l n k => Cert.Reference3Ideal.Memkv.keys_at _ _ _ l n k

/-- The values the kernel's run leaves are the reference's function of the kernel's arguments. -/
theorem values : (Cert.Kernel3Ideal.Gen.dats (F := Ideal) m 0 c).arrAt 5 Cert.Kernel3Ideal.cfg0.N
    = Cert.Reference3Ideal.Read.val_main_v51 (F := Ideal) (Cert.Kernel3Ideal.Memkv.xA m c) (Cert.Kernel3Ideal.Memkv.gA m c)
        (Cert.Kernel3Ideal.Memkv.wvA m c) :=
  Cert.Kernel3Ideal.Memkv.values_final m c _ fun l n k => Cert.Reference3Ideal.Memkv.values_at _ _ _ l n k

end Cert.MemkvTie

end
-- ==== Proof.EvenGate.lean ====
/-
  The logarithm of the logistic function, in the two forms the even layer's programs compute it in: they agree on every
  extended real, since the correction `log1p (exp (-|u|))` is never infinite.
-/
module

public import proofs.«01_k».proof.Proof.Layer

@[expose] public section

noncomputable section

namespace Cert.Layer

open Idealize.ShloMosaic

/-- The correction: the logarithm of one plus the exponential of minus the magnitude. -/
def corr (u : EReal) : EReal := Ideal.log1p (Ideal.exp (-(max u (-u))))

/-- The smaller of `u` and zero, less the correction. -/
def lsig (u : EReal) : EReal := min u 0 - corr u

/-- The correction is a real number. -/
theorem corr_real (u : EReal) : ∃ r : ℝ, corr u = (r : EReal) := by
  have h0 : Ideal.log1p 0 = ((Real.log 1 : ℝ) : EReal) := by
    show Ideal.log (1 + 0) = _
    rw [add_zero]
    show Ideal.log ((1 : ℝ) : EReal) = _
    show (if (1 : ℝ) ≤ 0 then (⊥ : EReal) else (Real.log 1 : EReal)) = _
    rw [if_neg (by norm_num)]
  have hr : ∀ s : ℝ, ∃ r : ℝ, Ideal.log1p (Ideal.exp (s : EReal)) = (r : EReal) := fun s => by
    refine ⟨Real.log (1 + Real.exp s), ?_⟩
    show Ideal.log (1 + (Real.exp s : EReal)) = _
    have e : (1 : EReal) + (Real.exp s : EReal) = ((1 + Real.exp s : ℝ) : EReal) := by norm_cast
    rw [e]
    show (if (1 + Real.exp s : ℝ) ≤ 0 then (⊥ : EReal) else (Real.log (1 + Real.exp s) : EReal)) = _
    rw [if_neg (by have := Real.exp_pos s; linarith)]
  unfold corr
  induction u with
  | bot =>
    rw [EReal.neg_bot, max_eq_right bot_le, EReal.neg_top]
    exact ⟨_, h0⟩
  | top =>
    rw [EReal.neg_top, max_eq_left bot_le, EReal.neg_top]
    exact ⟨_, h0⟩
  | coe x =>
    have e : -(max (x : EReal) (-(x : EReal))) = ((-(max x (-x)) : ℝ) : EReal) := by norm_cast
    rw [e]
    exact hr _

/-- Minus the soft-plus of `-u` is the same value. -/
theorem lsig_softplus (u : EReal) : -(max (-u) 0 + corr (-u)) = lsig u := by
  have hc : corr (-u) = corr u := by unfold corr; rw [neg_neg, max_comm]
  obtain ⟨r, hr⟩ := corr_real u
  have hm : -(max (-u) 0) = min u 0 := by
    rcases le_total u 0 with h | h
    · rw [min_eq_left h, max_eq_left (EReal.neg_nonneg.mpr h), neg_neg]
    · rw [min_eq_right h, max_eq_right ((EReal.neg_le_neg_iff.mpr h).trans_eq neg_zero), neg_zero]
  rw [hc, hr, EReal.neg_add (Or.inr (EReal.coe_ne_top r)) (Or.inr (EReal.coe_ne_bot r)), hm]
  unfold lsig
  rw [hr]

end Cert.Layer

end
-- ==== Proof.EvenRef.lean ====
/-
  The projections of the even layer on the prompts: the reference's five results, read at one token and one channel.
-/
module

public import proofs.«01_k».proof.Proof.EvenGate
public import proofs.«01_k».proof.Proof.Gen.Reference4Ideal.Read

@[expose] public section

set_option maxRecDepth 16384

noncomputable section

namespace Cert.Reference4Ideal.Even

open Idealize.ShloMosaic Idealize.ShloMosaic.TcCoe
open Cert.Reference4Ideal Cert.Reference4Ideal.Read Cert.Layer

variable (x : FVec Ideal S16x4096x1024 .f32) (g : FVec Ideal S2x1024 .f32) (w : FVec Ideal S1x1024x3088 .f32)
  (bf : FVec Ideal S1x8 .f32) (bi bm : FVec Ideal S1x4 .f32)

/-- The sequence and the token of a row. -/
def seq (n : Fin 65536) : Fin 16 := ⟨n.val / 4096, by omega⟩
def tok (n : Fin 65536) : Fin 4096 := ⟨n.val % 4096, by omega⟩

/-- The normalised tokens. -/
theorem norm_at (b : Fin 16) (n : Fin 4096) (k : Fin 1024) :
    val_main_v14 (F := Ideal) x g (ix3 b n k) = rms (fun i => x (ix3 b n i)) (fun i => g (ix2 0 i)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [rms, scale, zero_add]

/-- The tokens' projections. -/
theorem proj_at (b : Fin 16) (n : Fin 4096) (j : Fin 3088) :
    val_main_v16 (F := Ideal) x g w (ix3 b n j)
      = proj (fun i => x (ix3 b n i)) (fun i => g (ix2 0 i)) (fun k j => w (ix3 0 k j)) j := by
  have e : val_main_v16 (F := Ideal) x g w (ix3 b n j)
      = ∑ k : Fin 1024, val_main_v14 (F := Ideal) x g (ix3 b n k) * w (ix3 0 k j) := by
    pointwise [val_main_v16, val_main_v15]
  rw [e]
  simp only [norm_at, proj]

/-- One projection of a row's token. -/
abbrev col (n : Fin 65536) (j : Fin 3088) : EReal :=
  proj (fun i => x (ix3 (seq n) (tok n) i)) (fun i => g (ix2 0 i)) (fun k j => w (ix3 0 k j)) j

theorem fk_at (n : Fin 65536) (k : Fin 512) :
    val_main_v43 (F := Ideal) x g w (ix2 n k) = col x g w n ⟨512 + k.val, by omega⟩ := by
  refine Eq.trans ?_ (proj_at x g w (seq n) (tok n) ⟨512 + k.val, by omega⟩)
  unfold seq tok
  pointwise [val_main_v43, val_main_v18]

theorem fv_at (n : Fin 65536) (k : Fin 512) :
    val_main_v44 (F := Ideal) x g w (ix2 n k) = col x g w n ⟨1024 + k.val, by omega⟩ := by
  refine Eq.trans ?_ (proj_at x g w (seq n) (tok n) ⟨1024 + k.val, by omega⟩)
  unfold seq tok
  pointwise [val_main_v44, val_main_v19]

theorem mv_at (n : Fin 65536) (k : Fin 512) :
    val_main_v46 (F := Ideal) x g w (ix2 n k) = col x g w n ⟨2056 + k.val, by omega⟩ := by
  refine Eq.trans ?_ (proj_at x g w (seq n) (tok n) ⟨2056 + k.val, by omega⟩)
  unfold seq tok
  pointwise [val_main_v46, val_main_v45, val_main_v23]

theorem mo_at (n : Fin 65536) (k : Fin 512) :
    val_main_v48 (F := Ideal) x g w (ix2 n k) = col x g w n ⟨2568 + k.val, by omega⟩ := by
  refine Eq.trans ?_ (proj_at x g w (seq n) (tok n) ⟨2568 + k.val, by omega⟩)
  unfold seq tok
  pointwise [val_main_v48, val_main_v47, val_main_v24]

/-- A gate's pre-activation. -/
theorem ff_at (b : Fin 16) (n : Fin 4096) (k : Fin 8) :
    val_main_v30 (F := Ideal) x g w bf (ix3 b n k)
      = proj (fun i => x (ix3 b n i)) (fun i => g (ix2 0 i)) (fun k j => w (ix3 0 k j)) ⟨1536 + k.val, by omega⟩
        + bf (ix2 0 k) := by
  rw [← proj_at]
  pointwise [val_main_v30, val_main_v29, val_main_v28, val_main_v27, val_main_v20]

/-- A gate's pre-activation. -/
theorem mi_at (b : Fin 16) (n : Fin 4096) (k : Fin 4) :
    val_main_v35 (F := Ideal) x g w bi (ix3 b n k)
      = proj (fun i => x (ix3 b n i)) (fun i => g (ix2 0 i)) (fun k j => w (ix3 0 k j)) ⟨3080 + k.val, by omega⟩
        + bi (ix2 0 k) := by
  rw [← proj_at]
  pointwise [val_main_v35, val_main_v34, val_main_v33, val_main_v32, val_main_v25]

/-- A gate's pre-activation. -/
theorem mf_at (b : Fin 16) (n : Fin 4096) (k : Fin 4) :
    val_main_v39 (F := Ideal) x g w bm (ix3 b n k)
      = proj (fun i => x (ix3 b n i)) (fun i => g (ix2 0 i)) (fun k j => w (ix3 0 k j)) ⟨3084 + k.val, by omega⟩
        + bm (ix2 0 k) := by
  rw [← proj_at]
  pointwise [val_main_v39, val_main_v38, val_main_v37, val_main_v36, val_main_v26]

/-- The logistic's logarithm of a gate's pre-activation. -/
theorem logf_at (b : Fin 16) (n : Fin 4096) (k : Fin 8) :
    val_main_v31 (F := Ideal) x g w bf (ix3 b n k) = lsig (val_main_v30 (F := Ideal) x g w bf (ix3 b n k)) := by
  refine Eq.trans ?_ (lsig_softplus _)
  pointwise [val_main_v31, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  simp [Ideal.cmp]
  rfl

/-- The logistic's logarithm of a gate's pre-activation. -/
theorem logm_at (b : Fin 16) (n : Fin 4096) (k : Fin 4) :
    val_main_v40 (F := Ideal) x g w bm (ix3 b n k) = lsig (val_main_v39 (F := Ideal) x g w bm (ix3 b n k)) := by
  refine Eq.trans ?_ (lsig_softplus _)
  pointwise [val_main_v40, val_main_call1_v1, val_main_call1_v0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst]
  simp [Ideal.cmp]
  rfl

/-- The gates of a row, lane by lane. -/
theorem gates_ff (n : Fin 65536) (l : Fin 8) :
    val_main_v49 (F := Ideal) x g w bf bi bm (ix2 n ⟨l.val, by omega⟩)
      = lsig (col x g w n ⟨1536 + l.val, by omega⟩ + bf (ix2 0 l)) := by
  rw [← ff_at, ← logf_at]
  unfold seq tok
  pointwise [val_main_v49, val_main_v42]

theorem gates_mi (n : Fin 65536) (l : Fin 4) :
    val_main_v49 (F := Ideal) x g w bf bi bm (ix2 n ⟨8 + l.val, by omega⟩)
      = col x g w n ⟨3080 + l.val, by omega⟩ + bi (ix2 0 l) := by
  rw [← mi_at]
  unfold seq tok
  pointwise [val_main_v49, val_main_v42]

theorem gates_mf (n : Fin 65536) (l : Fin 4) :
    val_main_v49 (F := Ideal) x g w bf bi bm (ix2 n ⟨12 + l.val, by omega⟩)
      = lsig (col x g w n ⟨3084 + l.val, by omega⟩ + bm (ix2 0 l)) := by
  rw [← mf_at, ← logm_at]
  unfold seq tok
  pointwise [val_main_v49, val_main_v42]
  rw [dif_neg (by omega), dif_neg (by omega), dif_pos (by omega)]
  exact congrArg (fun q => val_main_v40 (F := Ideal) x g w bm (ix3 _ _ q)) (Fin.ext (by show 12 + l.val - 8 - 4 = l.val; omega))

theorem gates_none (n : Fin 65536) (l : Fin 112) :
    val_main_v49 (F := Ideal) x g w bf bi bm (ix2 n ⟨16 + l.val, by omega⟩) = 0 := by
  pointwise [val_main_v49, val_main_v42, val_main_v41, val_main_cst_2]
  rw [dif_neg (by omega), dif_neg (by omega), dif_neg (by omega)]

end Cert.Reference4Ideal.Even

end
-- ==== Proof.EvenIdealRun.lean ====
/-
  The projections of the even layer on the prompts: its body's run on any
  staging buffers. The two wide results the body stores only in half of their columns, the values' short copy and the
  two padded head blocks are left at whatever they hold; of the remaining five results and the inputs it says what they hold.
-/
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.VecWindow

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gates a point stores: the last 128 columns of the product and the bias. -/
def gates (x0 : Vec F S256x1024 .f32) (x1 : Vec F S1x1024 .f32) (x2 : Vec F S1024x3200 .bf16) (x3 : Vec F S1x128 .f32) :
    FVec F S256x128 .f32 :=
  k0_pay9 (iota .tc S256x128 32 [1] iota_S256x128_d1_w32) (k0_pay5 x0 x1 x2) (k0_pay6 x3)

/-- The point starts a sequence: the body's one condition on the grid. -/
abbrev fresh (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1

set_option maxHeartbeats 4000000 in
/-- The body from whole staging buffers: it leaves the inputs as they were and the five results at their payloads, the
    running sum and the other results at something. Whether it takes the running sum's first value from its argument
    decides nothing of this. -/
theorem body_run (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S1x128 .f32) (harg16 : arg16.IsWhole)
    (x0 : Vec F S256x1024 .f32) (x1 : Vec F S1x1024 .f32) (x2 : Vec F S1024x3200 .bf16) (x3 : Vec F S1x128 .f32) (x4 : Vec F S1x1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare (k0_pay16 (k0_pay4 x0 x1 x2)) ∗ owns (c : Thread nD τ) arg9 fullShare (k0_pay17 (k0_pay4 x0 x1 x2)) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (k0_pay1 (k0_pay4 x0 x1 x2)) ∗ owns (c : Thread nD τ) arg14 fullShare (k0_pay2 (k0_pay4 x0 x1 x2)) ∗ owns (c : Thread nD τ) arg15 fullShare (gates x0 x1 x2 x3) ∗ (∃ d, owns (c : Thread nD τ) arg16 fullShare d)) -∗ K ⟨⟩))
      ⊢ wp frame (wpE (defs₀ (F := F)) Variants.none c none) E (cc0_even_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_even_in_eq_skeleton]; unfold cc0_even_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  by_cases hc : fresh i
  all_goals
    · sl_exec (disch := first | sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; iexists _; isplitr
        swap; · iexact H5
        ipureintro; exact rfl
      isplitl [H6]
      · iexists _; iexists _; isplitr
        swap; · iexact H6
        ipureintro; exact rfl
      isplitl [H7]
      · iexists _; isplitr
        swap; · iexact H7
        ipureintro; rw [View.read_writes_full]; frame_out; try rfl
      isplitl [H8]
      · iexists _; isplitr
        swap; · iexact H8
        ipureintro; rw [View.read_writes_full]; frame_out; try rfl
      isplitl [H9]
      · iexists _; iexists _; isplitr
        swap; · iexact H9
        ipureintro; exact rfl
      isplitl [H10]
      · iexists _; iexists _; isplitr
        swap; · iexact H10
        ipureintro; exact rfl
      isplitl [H11]
      · iexists _; iexists _; isplitr
        swap; · iexact H11
        ipureintro; exact rfl
      isplitl [H12]
      · iexists _; isplitr
        swap; · iexact H12
        ipureintro; rw [View.read_writes_full]; frame_out; try rfl
      isplitl [H13]
      · iexists _; isplitr
        swap; · iexact H13
        ipureintro; rw [View.read_writes_full]; frame_out; try rfl
      isplitl [H14]
      · iexists _; isplitr
        swap; · iexact H14
        ipureintro; rw [View.read_writes_full]; frame_out; try rfl
      iexists _; iexists _; isplitr
      swap; · iexact HS0
      ipureintro; exact rfl

end Cert.Kernel4Ideal.Gen
-- ==== Proof.EvenBlock.lean ====
/-
  The projections of the even layer on the prompts: what a grid point stores, entry by entry, of its staged blocks.
-/
module

public import proofs.«01_k».proof.Proof.EvenGate
public import proofs.«01_k».proof.Proof.EvenIdealRun

@[expose] public section

set_option maxRecDepth 16384

noncomputable section

namespace Cert.Kernel4Ideal.Even

open Idealize.ShloMosaic Idealize.ShloMosaic.TcCoe Idealize.SL.Sem
open Cert.Kernel4Ideal Cert.Kernel4Ideal.Gen Cert.Layer

/-- The product a point forms of its tokens' norms and all the projections' weights. -/
theorem prod_at (x : Vec Ideal S256x1024 .f32) (g : Vec Ideal S1x1024 .f32) (w : Vec Ideal S1024x3200 .bf16)
    (r : Fin 256) (j : Fin 3200) :
    k0_pay4 (F := Ideal) x g w (ix2 r j)
      = proj (fun i => x (ix2 r i)) (fun i => g (ix2 0 i)) (fun k j => w (ix2 k j)) j := by
  pointwise [k0_pay4]
  rfl

theorem fk_at (p : FVec Ideal S256x3200 .f32) (r : Fin 256) (k : Fin 512) :
    k0_pay16 (F := Ideal) p (ix2 r k) = p (ix2 r ⟨512 + k.val, by omega⟩) := by
  pointwise [k0_pay16]

theorem fv_at (p : FVec Ideal S256x3200 .f32) (r : Fin 256) (k : Fin 512) :
    k0_pay17 (F := Ideal) p (ix2 r k) = p (ix2 r ⟨1024 + k.val, by omega⟩) := by
  pointwise [k0_pay17]

theorem mv_at (p : FVec Ideal S256x3200 .f32) (r : Fin 256) (k : Fin 512) :
    k0_pay1 (F := Ideal) p (ix2 r k) = p (ix2 r ⟨2048 + k.val, by omega⟩) := by
  pointwise [k0_pay1]

theorem mo_at (p : FVec Ideal S256x3200 .f32) (r : Fin 256) (k : Fin 512) :
    k0_pay2 (F := Ideal) p (ix2 r k) = p (ix2 r ⟨2560 + k.val, by omega⟩) := by
  pointwise [k0_pay2]

/-- A gate's pre-activation. -/
theorem pre_at (x : Vec Ideal S256x1024 .f32) (g : Vec Ideal S1x1024 .f32) (w : Vec Ideal S1024x3200 .bf16)
    (b : Vec Ideal S1x128 .f32) (r : Fin 256) (l : Fin 128) :
    k0_pay7 (F := Ideal) (k0_pay5 x g w) (k0_pay6 b) (ix2 r l)
      = k0_pay4 (F := Ideal) x g w (ix2 r ⟨3072 + l.val, by omega⟩) + b (ix2 0 l) := by
  pointwise [k0_pay7, k0_pay5, k0_pay6]

/-- The logistic's logarithm of a pre-activation. -/
theorem log_at (p q : FVec Ideal S256x128 .f32) (r : Fin 256) (l : Fin 128) :
    k0_pay8 (F := Ideal) p q (ix2 r l) = lsig (k0_pay7 (F := Ideal) p q (ix2 r l)) := by
  pointwise [k0_pay8]
  simp only [lsig, corr, zero_sub]
  rfl

/-- What a lane of the gates holds, of its pre-activation and that one's logarithm. -/
theorem lane_at (p q : FVec Ideal S256x128 .f32) (r : Fin 256) (l : Fin 128) :
    k0_pay9 (F := Ideal) (iota .tc S256x128 32 [1] iota_S256x128_d1_w32) p q (ix2 r l)
      = if 8 ≤ l.val ∧ l.val < 12 then k0_pay7 (F := Ideal) p q (ix2 r l)
        else if l.val < 16 then k0_pay8 (F := Ideal) p q (ix2 r l) else 0 := by
  pointwise [k0_pay9]
  have h1 : ∀ l : Fin 128, IntOp.andi (IntOp.cmpi CmpIPredicate.sge (BitVec.ofNat 32 l.val) 8#32)
      (IntOp.cmpi CmpIPredicate.slt (BitVec.ofNat 32 l.val) 12#32) = if 8 ≤ l.val ∧ l.val < 12 then 1#1 else 0#1 := by
    decide +kernel
  have h2 : ∀ l : Fin 128, IntOp.cmpi CmpIPredicate.slt (BitVec.ofNat 32 l.val) 16#32
      = if l.val < 16 then 1#1 else 0#1 := by
    decide +kernel
  rw [h1, h2]
  split_ifs <;> rfl

end Cert.Kernel4Ideal.Even

end
-- ==== Proof.EvenIdealFrame.lean ====
/-
  The projections of the even layer on the prompts: the run over its grid. Five of its
  ten results are named after every point; of the other five, and of the running sum the body carries between points,
  nothing is said.
-/
module

public import proofs.«01_k».proof.Proof.EvenIdealRun

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said. -/
def left : Fin 15 → Bool := fun w => w.val == 5 || w.val == 6 || w.val == 9 || w.val == 10 || w.val == 11

/-- The region's invariant: the running sum's buffer at something, and the generator's register at something. -/
theorem inv_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The pipeline's data: the arrays as the region finds them; after a point the inputs' blocks as they were and the named
    results' at the body's payloads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => k0_pay16 (k0_pay4 (iblk m c 0 t) (iblk m c 1 t) (iblk m c 2 t))
    | ⟨8, _⟩ => k0_pay17 (k0_pay4 (iblk m c 0 t) (iblk m c 1 t) (iblk m c 2 t))
    | ⟨9, _⟩ => fun _ => Classical.arbitrary _
    | ⟨10, _⟩ => fun _ => Classical.arbitrary _
    | ⟨11, _⟩ => fun _ => Classical.arbitrary _
    | ⟨12, _⟩ => k0_pay1 (k0_pay4 (iblk m c 0 t) (iblk m c 1 t) (iblk m c 2 t))
    | ⟨13, _⟩ => k0_pay2 (k0_pay4 (iblk m c 0 t) (iblk m c 1 t) (iblk m c 2 t))
    | ⟨14, _⟩ => gates (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_7 (c : Dev nD) (t : Fin cfg0.N) : (dats m 0 c).after 7 t = k0_pay16 (k0_pay4 (iblk m c 0 t) (iblk m c 1 t) (iblk m c 2 t)) := by dsimp only [dats]
theorem after0_8 (c : Dev nD) (t : Fin cfg0.N) : (dats m 0 c).after 8 t = k0_pay17 (k0_pay4 (iblk m c 0 t) (iblk m c 1 t) (iblk m c 2 t)) := by dsimp only [dats]
theorem after0_12 (c : Dev nD) (t : Fin cfg0.N) : (dats m 0 c).after 12 t = k0_pay1 (k0_pay4 (iblk m c 0 t) (iblk m c 1 t) (iblk m c 2 t)) := by dsimp only [dats]
theorem after0_13 (c : Dev nD) (t : Fin cfg0.N) : (dats m 0 c).after 13 t = k0_pay2 (k0_pay4 (iblk m c 0 t) (iblk m c 1 t) (iblk m c 2 t)) := by dsimp only [dats]
theorem after0_14 (c : Dev nD) (t : Fin cfg0.N) : (dats m 0 c).after 14 t = gates (iblk m c 0 t) (iblk m c 1 t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ X, owns (c : Thread nD τ) (win0_5.stage (cfg0.slots t 5)) fullShare X)
    ∗ (∃ X, owns (c : Thread nD τ) (win0_6.stage (cfg0.slots t 6)) fullShare X)
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- and what it gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ X, owns (c : Thread nD τ) (win0_5.stage (cfg0.slots t 5)) fullShare X)
    ∗ (∃ X, owns (c : Thread nD τ) (win0_6.stage (cfg0.slots t 6)) fullShare X)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_7, after0_8, after0_12, after0_13, after0_14]
  rw [show (dats m 0 c).Φ t.succ = Pipeline.ΦA spec0 c from rfl, show (dats m 0 c).Φ t.castSucc = Pipeline.ΦA spec0 c from rfl,
    inv_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  iintro ⟨H0, H1, H2, H3, H4, H5, H6, H7, H8, H9, H10, H11, H12, H13, H14, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ left := fun t => by
  rw [bigSep_W0, bigSep_W0, defs₀_row]
  exact triple_restated (sound_body m c t) rfl .rfl fun _ => .rfl

set_option backward.isDefEq.respectTransparency.types false in
/-- The launch runs through, and ends with every counter at zero. -/
theorem run_main_quiescent : θ_run defs (onTc (τ := τ) (main (F := F))) (s₀ m ρ)
    (fun r => (Pipeline.RDat.FramePost cfg0 (fun c => (dats m 0 c).toRForget left) (V m)) r ∧ r.2.sem = fun _ => 0) :=
  Pipeline.θ_run_frame_forget (Q' := _) cfgs (dats m) (0 : Fin 1) launch0 defs₀ Variants.none left m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ)
    (Pipeline.RDat.FramePost cfg0 (fun c => (dats m 0 c).toRForget left) (V m)) :=
  (θ_run defs _ _).mono (fun _ h => h.1) (run_main_quiescent m ρ)

/-- A named window's array after the run. -/
theorem final_of {r : PUnit × MemSt nD τ sig (Elt F)}
    (h : Pipeline.RDat.FramePost cfg0 (fun c => (dats m 0 c).toRForget left) (V m) r) (c : Dev nD)
    (w : Fin 15) (hw : left w = false) :
    r.2.mem ((cfg0.spec w).arr.view.loc (c.tc : Thread nD τ)) = (dats m 0 c).arrAt w cfg0.N :=
  ((dats m 0 c).toRForget_arrAt_iff hw _ _).mp ((h c).1 w)

/-- Result window 7's array after the run. -/
theorem final_7 {r : PUnit × MemSt nD τ sig (Elt F)}
    (h : Pipeline.RDat.FramePost cfg0 (fun c => (dats m 0 c).toRForget left) (V m) r) (c : Dev nD) :
    r.2.mem ((cfg0.spec 7).arr.view.loc (c.tc : Thread nD τ)) = (dats m 0 c).arrAt 7 cfg0.N :=
  final_of m h c 7 (by decide)

/-- Result window 8's array after the run. -/
theorem final_8 {r : PUnit × MemSt nD τ sig (Elt F)}
    (h : Pipeline.RDat.FramePost cfg0 (fun c => (dats m 0 c).toRForget left) (V m) r) (c : Dev nD) :
    r.2.mem ((cfg0.spec 8).arr.view.loc (c.tc : Thread nD τ)) = (dats m 0 c).arrAt 8 cfg0.N :=
  final_of m h c 8 (by decide)

/-- Result window 12's array after the run. -/
theorem final_12 {r : PUnit × MemSt nD τ sig (Elt F)}
    (h : Pipeline.RDat.FramePost cfg0 (fun c => (dats m 0 c).toRForget left) (V m) r) (c : Dev nD) :
    r.2.mem ((cfg0.spec 12).arr.view.loc (c.tc : Thread nD τ)) = (dats m 0 c).arrAt 12 cfg0.N :=
  final_of m h c 12 (by decide)

/-- Result window 13's array after the run. -/
theorem final_13 {r : PUnit × MemSt nD τ sig (Elt F)}
    (h : Pipeline.RDat.FramePost cfg0 (fun c => (dats m 0 c).toRForget left) (V m) r) (c : Dev nD) :
    r.2.mem ((cfg0.spec 13).arr.view.loc (c.tc : Thread nD τ)) = (dats m 0 c).arrAt 13 cfg0.N :=
  final_of m h c 13 (by decide)

/-- Result window 14's array after the run. -/
theorem final_14 {r : PUnit × MemSt nD τ sig (Elt F)}
    (h : Pipeline.RDat.FramePost cfg0 (fun c => (dats m 0 c).toRForget left) (V m) r) (c : Dev nD) :
    r.2.mem ((cfg0.spec 14).arr.view.loc (c.tc : Thread nD τ)) = (dats m 0 c).arrAt 14 cfg0.N :=
  final_of m h c 14 (by decide)

/-- The arguments end as they were. -/
theorem args_kept {r : PUnit × MemSt nD τ sig (Elt F)}
    (h : Pipeline.RDat.FramePost cfg0 (fun c => (dats m 0 c).toRForget left) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m h.1 c, h.2⟩) (run_main_quiescent m ρ)

end Cert.Kernel4Ideal.Gen
-- ==== Proof.EvenReads.lean ====
/-
  The projections of the even layer on the prompts: what each staged block holds of the arguments. The host puts the
  projections' columns in another order and the gates' columns and biases side by side.
-/
module

public import proofs.«01_k».proof.Proof.EvenBlock
public import proofs.«01_k».proof.Proof.EvenIdealFrame
public import Idealize.ShloMosaic.Lib.Pipeline.ReadBack
public import Idealize.ShloMosaic.Lib.Claim
public import Idealize.ShloMosaic.Lib.StableHlo.RunRead

@[expose] public section

set_option maxRecDepth 16384

noncomputable section

namespace Cert.Kernel4Ideal.Even

open Idealize.ShloMosaic Idealize.ShloMosaic.TcCoe Idealize.SL.Sem
open Idealize.ShloMosaic.Pipeline (Dat)
open Cert.Kernel4Ideal Cert.Kernel4Ideal.Gen Cert.Layer

/-- Where each named window's block lies. -/
theorem idx : ∀ t : Fin cfg0.N, win0_0.index t = ![t.val, 0] ∧ win0_1.index t = ![0, 0] ∧ win0_2.index t = ![0, 0]
    ∧ win0_3.index t = ![0, 0] ∧ win0_7.index t = ![t.val, 0] ∧ win0_8.index t = ![t.val, 0]
    ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ)

/-- The staged blocks, at their arrays' types. -/
def xB (c : Dev nD) (t : Fin cfg0.N) : Vec Ideal S256x1024 .f32 := iblk m c 0 t
def gB (c : Dev nD) (t : Fin cfg0.N) : Vec Ideal S1x1024 .f32 := iblk m c 1 t
def wB (c : Dev nD) (t : Fin cfg0.N) : Vec Ideal S1024x3200 .bf16 := iblk m c 2 t
def bB (c : Dev nD) (t : Fin cfg0.N) : Vec Ideal S1x128 .f32 := iblk m c 3 t

/-- The arguments, at their types. -/
abbrev xA (c : Dev nD) : Vec Ideal S16x4096x1024 .f32 := m ((c : Thread nD τ).loc main_arg0)
abbrev gA (c : Dev nD) : Vec Ideal S2x1024 .f32 := m ((c : Thread nD τ).loc main_arg1)
abbrev wA (c : Dev nD) : Vec Ideal S1x1024x3088 .f32 := m ((c : Thread nD τ).loc main_arg2)
abbrev fA (c : Dev nD) : Vec Ideal S1x8 .f32 := m ((c : Thread nD τ).loc main_arg3)
abbrev iA (c : Dev nD) : Vec Ideal S1x4 .f32 := m ((c : Thread nD τ).loc main_arg4)
abbrev mA (c : Dev nD) : Vec Ideal S1x4 .f32 := m ((c : Thread nD τ).loc main_arg5)

/-- The row that a point's row `r` is, and a row's sequence and token. -/
def row (t : Fin cfg0.N) (r : Fin 256) : Fin 65536 :=
  ⟨t.val * 256 + r.val, by have := (show t.val < 256 from t.isLt); omega⟩
def seq (n : Fin 65536) : Fin 16 := ⟨n.val / 4096, by omega⟩
def tok (n : Fin 65536) : Fin 4096 := ⟨n.val % 4096, by omega⟩

/-- The host's arrays before the call, entry by entry. -/
theorem x_row (c : Dev nD) (n : Fin 65536) (k : Fin 1024) :
    (V m c main_v21 : Vec Ideal S65536x1024 .f32) (ix2 n k) = xA m c (ix3 (seq n) (tok n) k) := by
  unfold seq tok
  entry_read
  pointwise

theorem gain_row (c : Dev nD) (k : Fin 1024) : (V m c main_v24 : Vec Ideal S1x1024 .f32) (ix2 0 k) = gA m c (ix2 0 k) := by
  entry_read
  pointwise

/-- The host's row of weights, column by column: which piece a column lies in. -/
theorem cat_fk (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨512 + j.val, by omega⟩) = b (ix2 k j) := by
  pointwise

theorem cat_fv (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨1024 + j.val, by omega⟩) = c (ix2 k j) := by
  pointwise
  rw [dif_neg (by omega), dif_neg (by omega), dif_pos (by omega)]
  exact congrArg (fun q => c (ix2 k q)) (Fin.ext (by show 1024 + j.val - 512 - 512 = j.val; omega))

theorem cat_mv (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨2048 + j.val, by omega⟩) = f (ix2 k j) := by
  pointwise
  rw [dif_neg (by omega), dif_neg (by omega), dif_neg (by omega), dif_neg (by omega), dif_neg (by omega), dif_pos (by omega)]
  exact congrArg (fun q => f (ix2 k q)) (Fin.ext (by show 2048 + j.val - 512 - 512 - 512 - 256 - 256 = j.val; omega))

theorem cat_mo (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨2560 + j.val, by omega⟩) = g (ix2 k j) := by
  pointwise
  rw [dif_neg (by omega), dif_neg (by omega), dif_neg (by omega), dif_neg (by omega), dif_neg (by omega), dif_neg (by omega), dif_pos (by omega)]
  exact congrArg (fun q => g (ix2 k q)) (Fin.ext (by show 2560 + j.val - 512 - 512 - 512 - 256 - 256 - 512 = j.val; omega))

theorem cat_gate (a b c : FVec Ideal S1024x512 .f32) (d e : FVec Ideal S1024x256 .f32) (f g : FVec Ideal S1024x512 .f32) (h : FVec Ideal S1024x128 .f32)
    (k : Fin 1024) (j : Fin 128) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨3072 + j.val, by omega⟩) = h (ix2 k j) := by
  pointwise
  rw [dif_neg (by omega), dif_neg (by omega), dif_neg (by omega), dif_neg (by omega), dif_neg (by omega), dif_neg (by omega), dif_neg (by omega)]
  exact congrArg (fun q => h (ix2 k q)) (Fin.ext (by show 3072 + j.val - 512 - 512 - 512 - 256 - 256 - 512 - 512 = j.val; omega))

/-- The gates' columns, likewise. -/
theorem cat_ff (a : FVec Ideal S1024x8 .f32) (b c : FVec Ideal S1024x4 .f32) (d : FVec Ideal S1024x112 .f32)
    (k : Fin 1024) (j : Fin 8) :
    concatenate S1024x128 1 [⟨S1024x8, a⟩, ⟨S1024x4, b⟩, ⟨S1024x4, c⟩, ⟨S1024x112, d⟩] concatenates_S1024x8_S1024x4_S1024x4_S1024x112_S1024x128_d1
      (ix2 k ⟨j.val, by omega⟩) = a (ix2 k j) := by
  pointwise

theorem cat_mi (a : FVec Ideal S1024x8 .f32) (b c : FVec Ideal S1024x4 .f32) (d : FVec Ideal S1024x112 .f32)
    (k : Fin 1024) (j : Fin 4) :
    concatenate S1024x128 1 [⟨S1024x8, a⟩, ⟨S1024x4, b⟩, ⟨S1024x4, c⟩, ⟨S1024x112, d⟩] concatenates_S1024x8_S1024x4_S1024x4_S1024x112_S1024x128_d1
      (ix2 k ⟨8 + j.val, by omega⟩) = b (ix2 k j) := by
  pointwise

theorem cat_mf (a : FVec Ideal S1024x8 .f32) (b c : FVec Ideal S1024x4 .f32) (d : FVec Ideal S1024x112 .f32)
    (k : Fin 1024) (j : Fin 4) :
    concatenate S1024x128 1 [⟨S1024x8, a⟩, ⟨S1024x4, b⟩, ⟨S1024x4, c⟩, ⟨S1024x112, d⟩] concatenates_S1024x8_S1024x4_S1024x4_S1024x112_S1024x128_d1
      (ix2 k ⟨12 + j.val, by omega⟩) = c (ix2 k j) := by
  pointwise
  rw [dif_neg (by omega), dif_neg (by omega), dif_pos (by omega)]
  exact congrArg (fun q => c (ix2 k q)) (Fin.ext (by show 12 + j.val - 8 - 4 = j.val; omega))

/-- The columns of the weights. -/
theorem fk_col (c : Dev nD) (k : Fin 1024) (j : Fin 512) :
    (V m c main_v20 : Vec Ideal S1024x3200 .bf16) (ix2 k ⟨512 + j.val, by omega⟩) = wA m c (ix3 0 k ⟨512 + j.val, by omega⟩) := by
  unfold V
  after_reads_simp
  refine (cat_fk _ _ _ _ _ _ _ _ k j).trans ?_
  show StableHlo.upto hostOps0 (fun b => m (c, b)) _ (Proc.tc.devRef main_v3) (ix2 k j) = _
  after_reads_simp
  pointwise

theorem fv_col (c : Dev nD) (k : Fin 1024) (j : Fin 512) :
    (V m c main_v20 : Vec Ideal S1024x3200 .bf16) (ix2 k ⟨1024 + j.val, by omega⟩) = wA m c (ix3 0 k ⟨1024 + j.val, by omega⟩) := by
  unfold V
  after_reads_simp
  refine (cat_fv _ _ _ _ _ _ _ _ k j).trans ?_
  show StableHlo.upto hostOps0 (fun b => m (c, b)) _ (Proc.tc.devRef main_v4) (ix2 k j) = _
  after_reads_simp
  pointwise

theorem mv_col (c : Dev nD) (k : Fin 1024) (j : Fin 512) :
    (V m c main_v20 : Vec Ideal S1024x3200 .bf16) (ix2 k ⟨2048 + j.val, by omega⟩) = wA m c (ix3 0 k ⟨2056 + j.val, by omega⟩) := by
  unfold V
  after_reads_simp
  refine (cat_mv _ _ _ _ _ _ _ _ k j).trans ?_
  show StableHlo.upto hostOps0 (fun b => m (c, b)) _ (Proc.tc.devRef main_v8) (ix2 k j) = _
  after_reads_simp
  pointwise

theorem mo_col (c : Dev nD) (k : Fin 1024) (j : Fin 512) :
    (V m c main_v20 : Vec Ideal S1024x3200 .bf16) (ix2 k ⟨2560 + j.val, by omega⟩) = wA m c (ix3 0 k ⟨2568 + j.val, by omega⟩) := by
  unfold V
  after_reads_simp
  refine (cat_mo _ _ _ _ _ _ _ _ k j).trans ?_
  show StableHlo.upto hostOps0 (fun b => m (c, b)) _ (Proc.tc.devRef main_v9) (ix2 k j) = _
  after_reads_simp
  pointwise

theorem ff_col (c : Dev nD) (k : Fin 1024) (j : Fin 8) :
    (V m c main_v20 : Vec Ideal S1024x3200 .bf16) (ix2 k ⟨3072 + j.val, by omega⟩) = wA m c (ix3 0 k ⟨1536 + j.val, by omega⟩) := by
  unfold V
  after_reads_simp
  refine (cat_gate _ _ _ _ _ _ _ _ k ⟨j.val, by omega⟩).trans ?_
  show StableHlo.upto hostOps0 (fun b => m (c, b)) _ (Proc.tc.devRef main_v13) (ix2 k ⟨j.val, by omega⟩) = _
  after_reads_simp
  refine (cat_ff _ _ _ _ k j).trans ?_
  show (StableHlo.unary main_v1 main_v5 (fun x => extractStridedSlice S1024x8 ![0, 1536] x slices_S1024x3088_S1024x8_0_1536) _ _).result
    _ (Proc.tc.devRef main_v5) (ix2 k j) = _
  after_reads_simp
  pointwise

theorem mi_col (c : Dev nD) (k : Fin 1024) (j : Fin 4) :
    (V m c main_v20 : Vec Ideal S1024x3200 .bf16) (ix2 k ⟨3072 + (8 + j.val), by omega⟩) = wA m c (ix3 0 k ⟨3080 + j.val, by omega⟩) := by
  unfold V
  after_reads_simp
  refine (cat_gate _ _ _ _ _ _ _ _ k ⟨8 + j.val, by omega⟩).trans ?_
  show StableHlo.upto hostOps0 (fun b => m (c, b)) _ (Proc.tc.devRef main_v13) (ix2 k ⟨8 + j.val, by omega⟩) = _
  after_reads_simp
  refine (cat_mi _ _ _ _ k j).trans ?_
  show (StableHlo.unary main_v1 main_v10 (fun x => extractStridedSlice S1024x4 ![0, 3080] x slices_S1024x3088_S1024x4_0_3080) _ _).result
    _ (Proc.tc.devRef main_v10) (ix2 k j) = _
  after_reads_simp
  pointwise

theorem mf_col (c : Dev nD) (k : Fin 1024) (j : Fin 4) :
    (V m c main_v20 : Vec Ideal S1024x3200 .bf16) (ix2 k ⟨3072 + (12 + j.val), by omega⟩) = wA m c (ix3 0 k ⟨3084 + j.val, by omega⟩) := by
  unfold V
  after_reads_simp
  refine (cat_gate _ _ _ _ _ _ _ _ k ⟨12 + j.val, by omega⟩).trans ?_
  show StableHlo.upto hostOps0 (fun b => m (c, b)) _ (Proc.tc.devRef main_v13) (ix2 k ⟨12 + j.val, by omega⟩) = _
  after_reads_simp
  refine (cat_mf _ _ _ _ k j).trans ?_
  show (StableHlo.unary main_v1 main_v11 (fun x => extractStridedSlice S1024x4 ![0, 3084] x slices_S1024x3088_S1024x4_0_3084) _ _).result
    _ (Proc.tc.devRef main_v11) (ix2 k j) = _
  after_reads_simp
  pointwise

theorem ff_bias (c : Dev nD) (j : Fin 8) :
    (V m c main_v25 : Vec Ideal S1x128 .f32) (ix2 0 ⟨j.val, by omega⟩) = fA m c (ix2 0 j) := by
  unfold V
  after_reads_simp
  pointwise
  after_reads_simp
  pointwise

theorem mi_bias (c : Dev nD) (j : Fin 4) :
    (V m c main_v25 : Vec Ideal S1x128 .f32) (ix2 0 ⟨8 + j.val, by omega⟩) = iA m c (ix2 0 j) := by
  unfold V
  after_reads_simp
  pointwise
  after_reads_simp
  pointwise

theorem mf_bias (c : Dev nD) (j : Fin 4) :
    (V m c main_v25 : Vec Ideal S1x128 .f32) (ix2 0 ⟨12 + j.val, by omega⟩) = mA m c (ix2 0 j) := by
  unfold V
  after_reads_simp
  pointwise
  rw [dif_neg (by omega), dif_neg (by omega), dif_pos (by omega)]
  after_reads_simp
  pointwise
  exact congrArg (fun q => mA m c (ix2 0 q)) (Fin.ext (by show 12 + j.val - 8 - 4 = j.val; omega))

/-- The blocks are the host's arrays' parts. -/
theorem xB_at (c : Dev nD) (t : Fin cfg0.N) (r : Fin 256) (k : Fin 1024) :
    xB m c t (ix2 r k) = xA m c (ix3 (seq (row t r)) (tok (row t r)) k) := by
  refine Eq.trans ?_ (x_row m c (row t r) k)
  unfold xB iblk row
  blk_ext [idx t]

theorem gB_at (c : Dev nD) (t : Fin cfg0.N) (k : Fin 1024) : gB m c t (ix2 0 k) = gA m c (ix2 0 k) := by
  refine Eq.trans ?_ (gain_row m c k)
  unfold gB iblk
  blk_ext [idx t]

theorem wB_at (c : Dev nD) (t : Fin cfg0.N) (k : Fin 1024) (j : Fin 3200) :
    wB m c t (ix2 k j) = (V m c main_v20 : Vec Ideal S1024x3200 .bf16) (ix2 k j) := by
  unfold wB iblk
  blk_ext [idx t]

theorem bB_at (c : Dev nD) (t : Fin cfg0.N) (l : Fin 128) :
    bB m c t (ix2 0 l) = (V m c main_v25 : Vec Ideal S1x128 .f32) (ix2 0 l) := by
  unfold bB iblk
  blk_ext [idx t]

end Cert.Kernel4Ideal.Even

end
-- ==== Proof.EvenValue.lean ====
/-
  The projections of the even layer on the prompts: the five named result arrays of the kernel after its run.
-/
module

public import proofs.«01_k».proof.Proof.EvenReads

@[expose] public section

set_option maxRecDepth 16384

noncomputable section

namespace Cert.Kernel4Ideal.Even

open Idealize.ShloMosaic Idealize.ShloMosaic.TcCoe Idealize.SL.Sem
open Idealize.ShloMosaic.Pipeline (Dat)
open Cert.Kernel4Ideal Cert.Kernel4Ideal.Gen Cert.Layer

variable (m : (ℓ : Loc nD τ sig) → Buf (Elt Ideal) ℓ)

/-- One projection of a row's token, in the arguments' order of columns. -/
def col (c : Dev nD) (n : Fin 65536) (j : Fin 3088) : EReal :=
  proj (fun i => xA m c (ix3 (seq n) (tok n) i)) (fun i => gA m c (ix2 0 i)) (fun k j => wA m c (ix3 0 k j)) j

/-- The product a point forms, of its staged blocks. -/
def prod (c : Dev nD) (t : Fin cfg0.N) : FVec Ideal S256x3200 .f32 :=
  k0_pay4 (F := Ideal) (xB m c t) (gB m c t) (wB m c t)

/-- Where the host's column `j` is the arguments' column `i`, the product's entry is that projection. -/
theorem prod_col (c : Dev nD) (t : Fin cfg0.N) (r : Fin 256) (j : Fin 3200) (i : Fin 3088)
    (h : ∀ k : Fin 1024, (V m c main_v20 : Vec Ideal S1024x3200 .bf16) (ix2 k j) = wA m c (ix3 0 k i)) :
    prod m c t (ix2 r j) = col m c (row t r) i := by
  unfold prod col
  rw [prod_at]
  simp only [proj, xB_at, gB_at, wB_at, h]

/-- A pre-activation of a gate. -/
theorem pre_col (c : Dev nD) (t : Fin cfg0.N) (r : Fin 256) (l : Fin 128) (i : Fin 3088) (b : EReal)
    (h : ∀ k : Fin 1024, (V m c main_v20 : Vec Ideal S1024x3200 .bf16) (ix2 k ⟨3072 + l.val, by omega⟩) = wA m c (ix3 0 k i))
    (hb : (V m c main_v25 : Vec Ideal S1x128 .f32) (ix2 0 l) = b) :
    k0_pay7 (F := Ideal) (k0_pay5 (xB m c t) (gB m c t) (wB m c t)) (k0_pay6 (bB m c t)) (ix2 r l)
      = col m c (row t r) i + b := by
  rw [pre_at, bB_at, hb]
  exact congrArg (· + b) (prod_col m c t r _ i h)

/-- The gates a point stores, of its staged blocks. -/
def gate (c : Dev nD) (t : Fin cfg0.N) : FVec Ideal S256x128 .f32 :=
  gates (F := Ideal) (xB m c t) (gB m c t) (wB m c t) (bB m c t)

theorem gate_ff (c : Dev nD) (t : Fin cfg0.N) (r : Fin 256) (l : Fin 8) :
    gate m c t (ix2 r ⟨l.val, by omega⟩) = lsig (col m c (row t r) ⟨1536 + l.val, by omega⟩ + fA m c (ix2 0 l)) := by
  unfold gate gates
  rw [lane_at, if_neg (fun h => absurd h.1 (by show ¬ 8 ≤ l.val; omega)), if_pos (by show l.val < 16; omega), log_at,
    pre_col m c t r _ _ _ (fun k => ff_col m c k l) (ff_bias m c l)]

theorem gate_mi (c : Dev nD) (t : Fin cfg0.N) (r : Fin 256) (l : Fin 4) :
    gate m c t (ix2 r ⟨8 + l.val, by omega⟩) = col m c (row t r) ⟨3080 + l.val, by omega⟩ + iA m c (ix2 0 l) := by
  unfold gate gates
  rw [lane_at, if_pos (by show 8 ≤ 8 + l.val ∧ 8 + l.val < 12; omega),
    pre_col m c t r _ _ _ (fun k => mi_col m c k l) (mi_bias m c l)]

theorem gate_mf (c : Dev nD) (t : Fin cfg0.N) (r : Fin 256) (l : Fin 4) :
    gate m c t (ix2 r ⟨12 + l.val, by omega⟩)
      = lsig (col m c (row t r) ⟨3084 + l.val, by omega⟩ + mA m c (ix2 0 l)) := by
  unfold gate gates
  rw [lane_at, if_neg (fun h => absurd h.2 (by show ¬ 12 + l.val < 12; omega)), if_pos (by show 12 + l.val < 16; omega),
    log_at, pre_col m c t r _ _ _ (fun k => mf_col m c k l) (mf_bias m c l)]

theorem gate_none (c : Dev nD) (t : Fin cfg0.N) (r : Fin 256) (l : Fin 112) :
    gate m c t (ix2 r ⟨16 + l.val, by omega⟩) = 0 := by
  unfold gate gates
  rw [lane_at, if_neg (fun h => absurd h.2 (by show ¬ 16 + l.val < 12; omega)), if_neg (by show ¬ 16 + l.val < 16; omega)]

/-- The keys' array after the run. -/
theorem fk_final (c : Dev nD) (X : Vec Ideal S65536x512 .f32)
    (hX : ∀ n (k : Fin 512), X (ix2 n k) = col m c n ⟨512 + k.val, by omega⟩) : (dats m 0 c).arrAt 7 cfg0.N = X := by
  refine (dats m 0 c).arrAt_eq_of_covers 7 _ (by decide +kernel) fun t hf y => ?_
  rw [after0_7]
  have hb : ∀ (r : Fin 256) (k : Fin 512), k0_pay16 (prod m c t) (ix2 r k) = X (ix2 (row t r) k) :=
    fun r k => ((fk_at _ r k).trans (prod_col m c t r _ _ fun i => fk_col m c i k)).trans (hX _ _).symm
  change k0_pay16 (prod m c t) y = _
  generalize k0_pay16 (prod m c t) = Y at hb ⊢
  have hy : (y : S256x512.Idx) = ix2 (y 0) (y 1) := by
    funext a
    fin_cases a <;> rfl
  rw [hy]
  refine (hb (y 0) (y 1)).trans ?_
  unfold row
  blk_ext [idx t]

/-- The values' array after the run. -/
theorem fv_final (c : Dev nD) (X : Vec Ideal S65536x512 .f32)
    (hX : ∀ n (k : Fin 512), X (ix2 n k) = col m c n ⟨1024 + k.val, by omega⟩) : (dats m 0 c).arrAt 8 cfg0.N = X := by
  refine (dats m 0 c).arrAt_eq_of_covers 8 _ (by decide +kernel) fun t hf y => ?_
  rw [after0_8]
  have hb : ∀ (r : Fin 256) (k : Fin 512), k0_pay17 (prod m c t) (ix2 r k) = X (ix2 (row t r) k) :=
    fun r k => ((fv_at _ r k).trans (prod_col m c t r _ _ fun i => fv_col m c i k)).trans (hX _ _).symm
  change k0_pay17 (prod m c t) y = _
  generalize k0_pay17 (prod m c t) = Y at hb ⊢
  have hy : (y : S256x512.Idx) = ix2 (y 0) (y 1) := by
    funext a
    fin_cases a <;> rfl
  rw [hy]
  refine (hb (y 0) (y 1)).trans ?_
  unfold row
  blk_ext [idx t]

/-- The matrix memory's values after the run. -/
theorem mv_final (c : Dev nD) (X : Vec Ideal S65536x512 .bf16)
    (hX : ∀ n (k : Fin 512), X (ix2 n k) = col m c n ⟨2056 + k.val, by omega⟩) : (dats m 0 c).arrAt 12 cfg0.N = X := by
  refine (dats m 0 c).arrAt_eq_of_covers 12 _ (by decide +kernel) fun t hf y => ?_
  rw [after0_12]
  have hb : ∀ (r : Fin 256) (k : Fin 512), k0_pay1 (prod m c t) (ix2 r k) = X (ix2 (row t r) k) :=
    fun r k => ((mv_at _ r k).trans (prod_col m c t r _ _ fun i => mv_col m c i k)).trans (hX _ _).symm
  change k0_pay1 (prod m c t) y = _
  generalize k0_pay1 (prod m c t) = Y at hb ⊢
  have hy : (y : S256x512.Idx) = ix2 (y 0) (y 1) := by
    funext a
    fin_cases a <;> rfl
  rw [hy]
  refine (hb (y 0) (y 1)).trans ?_
  unfold row
  blk_ext [idx t]

/-- The output gate's projections after the run. -/
theorem mo_final (c : Dev nD) (X : Vec Ideal S65536x512 .bf16)
    (hX : ∀ n (k : Fin 512), X (ix2 n k) = col m c n ⟨2568 + k.val, by omega⟩) : (dats m 0 c).arrAt 13 cfg0.N = X := by
  refine (dats m 0 c).arrAt_eq_of_covers 13 _ (by decide +kernel) fun t hf y => ?_
  rw [after0_13]
  have hb : ∀ (r : Fin 256) (k : Fin 512), k0_pay2 (prod m c t) (ix2 r k) = X (ix2 (row t r) k) :=
    fun r k => ((mo_at _ r k).trans (prod_col m c t r _ _ fun i => mo_col m c i k)).trans (hX _ _).symm
  change k0_pay2 (prod m c t) y = _
  generalize k0_pay2 (prod m c t) = Y at hb ⊢
  have hy : (y : S256x512.Idx) = ix2 (y 0) (y 1) := by
    funext a
    fin_cases a <;> rfl
  rw [hy]
  refine (hb (y 0) (y 1)).trans ?_
  unfold row
  blk_ext [idx t]

/-- The gates' array after the run. -/
theorem gates_final (c : Dev nD) (X : Vec Ideal S65536x128 .f32)
    (hX : ∀ t (r : Fin 256) (l : Fin 128), gate m c t (ix2 r l) = X (ix2 (row t r) l)) : (dats m 0 c).arrAt 14 cfg0.N = X := by
  refine (dats m 0 c).arrAt_eq_of_covers 14 _ (by decide +kernel) fun t hf y => ?_
  rw [after0_14]
  have hb := hX t
  change gate m c t y = _
  generalize gate m c t = Y at hb ⊢
  have hy : (y : S256x128.Idx) = ix2 (y 0) (y 1) := by
    funext a
    fin_cases a <;> rfl
  rw [hy]
  refine (hb (y 0) (y 1)).trans ?_
  unfold row
  blk_ext [idx t]

end Cert.Kernel4Ideal.Even

end
-- ==== Proof.EvenTie.lean ====
/-
  The projections of the even layer on the prompts: the kernel's five named result arrays are the reference's five results
  of the same arguments.
-/
module

public import proofs.«01_k».proof.Proof.EvenRef
public import proofs.«01_k».proof.Proof.EvenValue

@[expose] public section

set_option maxRecDepth 16384

noncomputable section

namespace Cert.EvenTie

open Idealize.ShloMosaic Idealize.ShloMosaic.TcCoe
open Cert.Kernel4Ideal.Even

variable (m : (ℓ : Loc Cert.Kernel4Ideal.nD Cert.Kernel4Ideal.τ Cert.Kernel4Ideal.sig) → Buf (Elt Ideal) ℓ) (c : Dev Cert.Kernel4Ideal.nD)

theorem fk : (Cert.Kernel4Ideal.Gen.dats m 0 c).arrAt 7 Cert.Kernel4Ideal.cfg0.N
    = Cert.Reference4Ideal.Read.val_main_v43 (F := Ideal) (xA m c) (gA m c) (wA m c) :=
  fk_final m c _ fun n k => Cert.Reference4Ideal.Even.fk_at _ _ _ n k

theorem fv : (Cert.Kernel4Ideal.Gen.dats m 0 c).arrAt 8 Cert.Kernel4Ideal.cfg0.N
    = Cert.Reference4Ideal.Read.val_main_v44 (F := Ideal) (xA m c) (gA m c) (wA m c) :=
  fv_final m c _ fun n k => Cert.Reference4Ideal.Even.fv_at _ _ _ n k

theorem mv : (Cert.Kernel4Ideal.Gen.dats m 0 c).arrAt 12 Cert.Kernel4Ideal.cfg0.N
    = Cert.Reference4Ideal.Read.val_main_v46 (F := Ideal) (xA m c) (gA m c) (wA m c) :=
  mv_final m c _ fun n k => Cert.Reference4Ideal.Even.mv_at _ _ _ n k

theorem mo : (Cert.Kernel4Ideal.Gen.dats m 0 c).arrAt 13 Cert.Kernel4Ideal.cfg0.N
    = Cert.Reference4Ideal.Read.val_main_v48 (F := Ideal) (xA m c) (gA m c) (wA m c) :=
  mo_final m c _ fun n k => Cert.Reference4Ideal.Even.mo_at _ _ _ n k

theorem gates : (Cert.Kernel4Ideal.Gen.dats m 0 c).arrAt 14 Cert.Kernel4Ideal.cfg0.N
    = Cert.Reference4Ideal.Read.val_main_v49 (F := Ideal) (xA m c) (gA m c) (wA m c) (fA m c) (iA m c) (mA m c) := by
  refine gates_final m c _ fun t r l => ?_
  by_cases h8 : l.val < 8
  · exact (gate_ff m c t r ⟨l.val, h8⟩).trans (Cert.Reference4Ideal.Even.gates_ff _ _ _ _ _ _ (row t r) ⟨l.val, h8⟩).symm
  by_cases h12 : l.val < 12
  · obtain ⟨k, rfl⟩ : ∃ k : Fin 4, l = ⟨8 + k.val, by clear h8 h12; omega⟩ :=
      ⟨⟨l.val - 8, by omega⟩, Fin.ext (by show l.val = 8 + (l.val - 8); omega)⟩
    exact (gate_mi m c t r k).trans (Cert.Reference4Ideal.Even.gates_mi _ _ _ _ _ _ (row t r) k).symm
  by_cases h16 : l.val < 16
  · obtain ⟨k, rfl⟩ : ∃ k : Fin 4, l = ⟨12 + k.val, by clear h8 h12 h16; omega⟩ :=
      ⟨⟨l.val - 12, by omega⟩, Fin.ext (by show l.val = 12 + (l.val - 12); omega)⟩
    exact (gate_mf m c t r k).trans (Cert.Reference4Ideal.Even.gates_mf _ _ _ _ _ _ (row t r) k).symm
  · obtain ⟨k, rfl⟩ : ∃ k : Fin 112, l = ⟨16 + k.val, by clear h8 h12 h16; omega⟩ :=
      ⟨⟨l.val - 16, by omega⟩, Fin.ext (by show l.val = 16 + (l.val - 16); omega)⟩
    exact (gate_none m c t r k).trans (Cert.Reference4Ideal.Even.gates_none _ _ _ _ _ _ (row t r) k).symm

end Cert.EvenTie

end
-- ==== Proof.Conv.lean ====
/-
  The convolution mixer's arithmetic over the extended reals: the gated input of a token, the tape the three taps read (two
  rows of history, then one row for each token), and the mixer's output.
-/
module

public import proofs.«01_k».proof.Proof.Layer

@[expose] public section

set_option maxRecDepth 16384

noncomputable section

namespace Cert.Layer

open Idealize.ShloMosaic

/-- Channel `f` of what a token puts on the tape: the product of the second and the third part of its projection. -/
def hid (x g : Fin 1024 → EReal) (w : Fin 1024 → Fin 3072 → EReal) (f : Fin 1024) : EReal :=
  proj x g w ⟨1024 + f.val, by omega⟩ * proj x g w ⟨2048 + f.val, by omega⟩

/-- Row `p` of a sequence's tape: the history `P` in rows 0 and 1, token `n` in row `n + 2`. -/
def tape {T : ℕ} (P : Fin 2 → Fin 1024 → EReal) (x : Fin T → Fin 1024 → EReal) (g : Fin 1024 → EReal)
    (w : Fin 1024 → Fin 3072 → EReal) (p : ℕ) (f : Fin 1024) : EReal :=
  if h : p < 2 then P ⟨p, h⟩ f else if h' : p - 2 < T then hid (x ⟨p - 2, h'⟩) g w f else 0

/-- The mixer's output at token `n` and channel `c`: the token plus the gated three-tap sum of the tape, projected. -/
def mix {T : ℕ} (P : Fin 2 → Fin 1024 → EReal) (x : Fin T → Fin 1024 → EReal) (g : Fin 1024 → EReal)
    (w : Fin 1024 → Fin 3072 → EReal) (cw : Fin 3 → Fin 1024 → EReal) (wo : Fin 1024 → Fin 1024 → EReal)
    (n : Fin T) (c : Fin 1024) : EReal :=
  x n c + ∑ f : Fin 1024, proj (x n) g w ⟨f.val, by omega⟩
    * (cw 0 f * tape P x g w n.val f + cw 1 f * tape P x g w (n.val + 1) f + cw 2 f * tape P x g w (n.val + 2) f) * wo f c

theorem tape_past {T : ℕ} (P : Fin 2 → Fin 1024 → EReal) (x : Fin T → Fin 1024 → EReal) (g : Fin 1024 → EReal)
    (w : Fin 1024 → Fin 3072 → EReal) (p : ℕ) (h : p < 2) (f : Fin 1024) : tape P x g w p f = P ⟨p, h⟩ f := dif_pos h

theorem tape_token {T : ℕ} (P : Fin 2 → Fin 1024 → EReal) (x : Fin T → Fin 1024 → EReal) (g : Fin 1024 → EReal)
    (w : Fin 1024 → Fin 3072 → EReal) (n : Fin T) (p : ℕ) (h : p = n.val + 2) (f : Fin 1024) :
    tape P x g w p f = hid (x n) g w f := by
  subst h
  have h' : n.val + 2 - 2 < T := n.isLt
  rw [tape, dif_neg (by omega), dif_pos h']
  rfl

end Cert.Layer

end
-- ==== Proof.OddRef.lean ====
/-
  The convolution mixer's reference on the prompts, read at one sequence, token and channel.
-/
module

public import proofs.«01_k».proof.Proof.Conv
public import proofs.«01_k».proof.Proof.Gen.Reference5Ideal.Read

@[expose] public section

set_option maxRecDepth 16384

noncomputable section

namespace Cert.Reference5Ideal.Odd

open Idealize.ShloMosaic Idealize.ShloMosaic.TcCoe
open Cert.Reference5Ideal Cert.Reference5Ideal.Read Cert.Layer

variable (x : FVec Ideal S16x4096x1024 .f32) (g : FVec Ideal S2x1024 .f32) (w : FVec Ideal S1x1024x3072 .f32)
  (cw : FVec Ideal S1x3x1024 .f32) (wo : FVec Ideal S1x1024x1024 .f32)

/-- The normalised tokens. -/
theorem norm_at (b : Fin 16) (n : Fin 4096) (k : Fin 1024) :
    val_main_v15 (F := Ideal) x g (ix3 b n k) = rms (fun i => x (ix3 b n i)) (fun i => g (ix2 1 i)) k := by
  pointwise [val_main_v15, val_main_v14, val_main_v13, val_main_v12, val_main_v11, val_main_v10, val_main_v9, val_main_v8, val_main_v7, val_main_v6, val_main_v5, val_main_v4, val_main_v3, val_main_v2, val_main_v1, val_main_cst_0, val_main_cst_1, val_main_cst_2]
  simp only [rms, scale, zero_add]

/-- The tokens' projections. -/
theorem proj_at (b : Fin 16) (n : Fin 4096) (j : Fin 3072) :
    val_main_v19 (F := Ideal) x g w (ix3 b n j) = proj (fun i => x (ix3 b n i)) (fun i => g (ix2 1 i)) (fun k j => w (ix3 0 k j)) j := by
  have e : val_main_v19 (F := Ideal) x g w (ix3 b n j)
      = ∑ k : Fin 1024, val_main_v15 (F := Ideal) x g (ix3 b n k) * w (ix3 0 k j) := by
    pointwise [val_main_v19, val_main_v16]
  rw [e]
  simp only [norm_at, proj]

/-- What each token puts on the tape. -/
theorem hid_at (b : Fin 16) (n : Fin 4096) (f : Fin 1024) :
    val_main_v23 (F := Ideal) x g w (ix3 b n f) = hid (fun i => x (ix3 b n i)) (fun i => g (ix2 1 i)) (fun k j => w (ix3 0 k j)) f := by
  have e : val_main_v23 (F := Ideal) x g w (ix3 b n f)
      = val_main_v19 (F := Ideal) x g w (ix3 b n ⟨1024 + f.val, by omega⟩)
        * val_main_v19 (F := Ideal) x g w (ix3 b n ⟨2048 + f.val, by omega⟩) := by
    pointwise [val_main_v23, val_main_v22, val_main_v21]
  rw [e]
  simp only [proj_at, hid]

/-- The tape: two rows of history, then the tokens. -/
theorem tape_at (b : Fin 16) (p : Fin 4098) (f : Fin 1024) :
    val_main_v24 (F := Ideal) x g w (ix3 b p f) = tape (fun _ _ => 0) (fun n i => x (ix3 b n i)) (fun i => g (ix2 1 i)) (fun k j => w (ix3 0 k j)) p.val f := by
  by_cases h : p.val < 2
  · rw [tape_past _ _ _ _ _ h]
    pointwise [val_main_v24, val_main_v0, val_main_cst]
    exact dif_pos h
  · rw [tape_token _ _ _ _ ⟨p.val - 2, by omega⟩ _ (by show p.val = p.val - 2 + 2; omega), ← hid_at]
    pointwise [val_main_v24]
    exact dif_neg h

/-- The three taps' sum. -/
theorem taps_at (b : Fin 16) (n : Fin 4096) (f : Fin 1024) :
    val_main_v44 (F := Ideal) x g w cw (ix3 b n f)
      = cw (ix3 0 0 f) * tape (fun _ _ => 0) (fun n i => x (ix3 b n i)) (fun i => g (ix2 1 i)) (fun k j => w (ix3 0 k j)) n.val f
        + cw (ix3 0 1 f) * tape (fun _ _ => 0) (fun n i => x (ix3 b n i)) (fun i => g (ix2 1 i)) (fun k j => w (ix3 0 k j)) (n.val + 1) f
        + cw (ix3 0 2 f) * tape (fun _ _ => 0) (fun n i => x (ix3 b n i)) (fun i => g (ix2 1 i)) (fun k j => w (ix3 0 k j)) (n.val + 2) f := by
  have e : val_main_v44 (F := Ideal) x g w cw (ix3 b n f)
      = cw (ix3 0 0 f) * val_main_v24 (F := Ideal) x g w (ix3 b ⟨n.val, by omega⟩ f)
        + cw (ix3 0 1 f) * val_main_v24 (F := Ideal) x g w (ix3 b ⟨1 + n.val, by omega⟩ f)
        + cw (ix3 0 2 f) * val_main_v24 (F := Ideal) x g w (ix3 b ⟨2 + n.val, by omega⟩ f) := by
    pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v17]
  rw [e]
  simp only [tape_at, Nat.add_comm]

/-- The mixer's output. -/
theorem out_at (b : Fin 16) (n : Fin 4096) (c : Fin 1024) :
    val_main_v48 (F := Ideal) x g w cw wo (ix3 b n c)
      = mix (fun _ _ => 0) (fun n i => x (ix3 b n i)) (fun i => g (ix2 1 i)) (fun k j => w (ix3 0 k j)) (fun q f => cw (ix3 0 q f)) (fun f c => wo (ix3 0 f c)) n c := by
  have e : val_main_v48 (F := Ideal) x g w cw wo (ix3 b n c)
      = x (ix3 b n c) + ∑ f : Fin 1024, (val_main_v19 (F := Ideal) x g w (ix3 b n ⟨f.val, by omega⟩)
          * val_main_v44 (F := Ideal) x g w cw (ix3 b n f)) * wo (ix3 0 f c) := by
    pointwise [val_main_v48, val_main_v46, val_main_v45, val_main_v20, val_main_v18]
  rw [e]
  simp only [taps_at, proj_at, mix]

/-- The tape's last eight rows. -/
theorem last_at (b : Fin 16) (q : Fin 8) (f : Fin 1024) :
    val_main_v47 (F := Ideal) x g w (ix3 b q f) = tape (fun _ _ => 0) (fun n i => x (ix3 b n i)) (fun i => g (ix2 1 i)) (fun k j => w (ix3 0 k j)) (4090 + q.val) f := by
  have e : val_main_v47 (F := Ideal) x g w (ix3 b q f)
      = val_main_v24 (F := Ideal) x g w (ix3 b ⟨4090 + q.val, by omega⟩ f) := by
    pointwise [val_main_v47]
  rw [e, tape_at]

end Cert.Reference5Ideal.Odd

end
-- ==== Proof.OddBlock.lean ====
/-
  The convolution mixer's kernel on the prompts, one tile: its stored values and its scratch at an index.
-/
module

public import proofs.«01_k».proof.Proof.Conv
public import proofs.«01_k».proof.Proof.Gen.Kernel5Ideal.Value

@[expose] public section

set_option maxRecDepth 16384

noncomputable section

namespace Cert.Kernel5Ideal.Odd

open Idealize.ShloMosaic Idealize.ShloMosaic.TcCoe
open Cert.Kernel5Ideal Cert.Kernel5Ideal.Gen Cert.Layer

variable (x : Vec Ideal S1x256x1024 .f32) (g : Vec Ideal S1x1024 .f32) (w : Vec Ideal S1024x3072 .bf16)

theorem token_at (r : Fin 256) (k : Fin 1024) : k0_pay5 (F := Ideal) x (ix2 r k) = x (ix3 0 r k) := by
  pointwise [k0_pay5]

theorem proj_at (r : Fin 256) (j : Fin 3072) :
    k0_pay6 (F := Ideal) x g w (ix2 r j)
      = proj (fun i => x (ix3 0 r i)) (fun i => g (ix2 0 i)) (fun k j => w (ix2 k j)) j := by
  pointwise [k0_pay6]
  simp only [token_at]
  rfl

theorem gate_at (r : Fin 256) (f : Fin 1024) :
    k0_pay7 (F := Ideal) x g w (ix2 r f)
      = proj (fun i => x (ix3 0 r i)) (fun i => g (ix2 0 i)) (fun k j => w (ix2 k j)) ⟨f.val, by omega⟩ := by
  rw [← proj_at]
  pointwise [k0_pay7]

theorem hid_at (r : Fin 256) (f : Fin 1024) :
    k0_pay8 (F := Ideal) x g w (ix2 r f)
      = hid (fun i => x (ix3 0 r i)) (fun i => g (ix2 0 i)) (fun k j => w (ix2 k j)) f := by
  unfold hid
  rw [← proj_at, ← proj_at]
  pointwise [k0_pay8]

theorem stored_at (r : Fin 256) (f : Fin 1024) :
    k0_pay9 (F := Ideal) x g w (ix2 r f)
      = hid (fun i => x (ix3 0 r i)) (fun i => g (ix2 0 i)) (fun k j => w (ix2 k j)) f := by
  rw [← hid_at]
  pointwise [k0_pay9]

theorem tap_at (v : Vec Ideal S1x1024 .f32) (k : Fin 1024) : k0_pay10 (F := Ideal) v (ix2 0 k) = v (ix2 0 k) := by
  pointwise [k0_pay10]

/-- The history a sequence starts from. -/
theorem past_at (v : Vec Ideal S1x8x1024 .f32) (q : Fin 8) (k : Fin 1024) :
    k0_pay3 (F := Ideal) v (ix2 q k) = v (ix3 0 q k) := by
  pointwise [k0_pay3]

/-- The rows carried from one tile to the next. -/
theorem carry_at (v : Vec Ideal S8x1024 .f32) (q : Fin 8) (k : Fin 1024) :
    k0_pay4 (F := Ideal) v (ix2 q k) = v (ix2 q k) := by
  pointwise [k0_pay4]

/-- The rows returned as the state. -/
theorem state_at (v : Vec Ideal S8x1024 .f32) (q : Fin 8) (k : Fin 1024) :
    k0_pay2 (F := Ideal) v (ix3 0 q k) = v (ix2 q k) := by
  pointwise [k0_pay2]

/-- The stored output at a token and a channel. -/
theorem out_at (v7 v26 v29 : FVec Ideal S256x1024 .f32) (v34 : FVec Ideal S1x1024 .f32) (v35 : Vec Ideal S256x1024 .f32)
    (v38 : Vec Ideal S1x1024 .f32) (v40 : Vec Ideal S256x1024 .f32) (v44 : Vec Ideal S1x1024 .f32)
    (v51 : Vec Ideal S1024x1024 .bf16) (r : Fin 256) (k : Fin 1024) :
    k0_pay1 (F := Ideal) v7 v26 v29 v34 v35 v38 v40 v44 v51 (ix3 0 r k)
      = v7 (ix2 r k) + ∑ f : Fin 1024, (v26 (ix2 r f) * (v34 (ix2 0 f) * v35 (ix2 r f) + v38 (ix2 0 f) * v40 (ix2 r f)
          + v44 (ix2 0 f) * v29 (ix2 r f))) * v51 (ix2 f k) := by
  pointwise [k0_pay1]

/-- The scratch: eight rows of history `p`, then a tile's rows `u`. -/
def padded (u : Vec Ideal S256x1024 .f32) (p : Vec Ideal S8x1024 .f32) : Vec Ideal S264x1024 .f32 := fun y =>
  if h : (y 0).val < 8 then p (ix2 ⟨(y 0).val, h⟩ (y 1))
  else u (ix2 ⟨(y 0).val - 8, by have : (y 0).val < 264 := (y 0).isLt; omega⟩ (y 1))

theorem padded_low (u : Vec Ideal S256x1024 .f32) (p : Vec Ideal S8x1024 .f32) (y : Fin 264) (h : y.val < 8) (f : Fin 1024) :
    padded u p (ix2 y f) = p (ix2 ⟨y.val, h⟩ f) := dif_pos h

theorem padded_high (u : Vec Ideal S256x1024 .f32) (p : Vec Ideal S8x1024 .f32) (y : Fin 264) (r : Fin 256) (h : y.val = r.val + 8)
    (f : Fin 1024) : padded u p (ix2 y f) = u (ix2 r f) := by
  refine (dif_neg (show ¬y.val < 8 by omega)).trans ?_
  refine congrArg (fun r => u (ix2 r f)) (Fin.ext ?_)
  show y.val - 8 = r.val
  omega

/-- A tile's rows stored above the history are the padded tile. -/
theorem canon_padded (u : Vec Ideal S256x1024 .f32) (p : Vec Ideal S8x1024 .f32) :
    View.canon (Val := Elt Ideal) (s := S264x1024) (e := .f32)
      [⟨Rect.unit ![8, 0] ![256, 1024] inb_S264x1024_S256x1024_8_0, u⟩,
        ⟨Rect.unit ![0, 0] ![8, 1024] inb_S264x1024_S8x1024_0_0, p⟩] = padded u p := by
  funext y
  have hy : y = ix2 (y 0) (y 1) := by funext a; fin_cases a <;> rfl
  canon_tiles z h using View.cover_of_tiledBy _ ![8, 1024] (by sl_kernel_rfl) y
  · refine Eq.trans ?_ ((congrArg (padded u p) hy).trans (padded_high u p (y 0) (z 0) (by omega) (y 1))).symm
    refine congrArg u ?_
    funext a
    fin_cases a
    · rfl
    · exact Fin.ext h1.symm
  · have h8 : (y 0).val < 8 := by omega
    refine Eq.trans ?_ ((congrArg (padded u p) hy).trans (padded_low u p (y 0) h8 (y 1))).symm
    refine congrArg p ?_
    funext a
    fin_cases a
    · exact Fin.ext h0.symm
    · exact Fin.ext h1.symm

end Cert.Kernel5Ideal.Odd

end
-- ==== Proof.OddSteps.lean ====
/-
  The convolution mixer's kernel on the prompts over its grid: what each step leaves.
-/
module

public import proofs.«01_k».proof.Proof.OddBlock
public import Idealize.ShloMosaic.Lib.Pipeline.ReadBack

@[expose] public section

set_option maxRecDepth 16384

noncomputable section

namespace Cert.Kernel5Ideal.Odd

open Idealize.ShloMosaic Idealize.ShloMosaic.TcCoe Idealize.SL.Sem
open Idealize.ShloMosaic.Pipeline (Dat)
open Cert.Kernel5Ideal Cert.Kernel5Ideal.Gen Cert.Layer

variable (m : (ℓ : Loc nD τ sig) → Buf (Elt Ideal) ℓ)

/-- The staged blocks, at their arrays' types. -/
def xB (c : Dev nD) (t : Fin cfg0.N) : Vec Ideal S1x256x1024 .f32 := iblk m c 0 t
def gB (c : Dev nD) (t : Fin cfg0.N) : Vec Ideal S1x1024 .f32 := iblk m c 1 t
def wB (c : Dev nD) (t : Fin cfg0.N) : Vec Ideal S1024x3072 .bf16 := iblk m c 2 t
def tB (c : Dev nD) (t : Fin cfg0.N) : Vec Ideal S8x1024 .f32 := iblk m c 3 t
def oB (c : Dev nD) (t : Fin cfg0.N) : Vec Ideal S1024x1024 .bf16 := iblk m c 4 t
def pB (c : Dev nD) (t : Fin cfg0.N) : Vec Ideal S1x8x1024 .f32 := iblk m c 5 t

/-- The step before. -/
abbrev before (t : Fin cfg0.N) : t.val - 1 < cfg0.N := Nat.lt_of_le_of_lt (Nat.sub_le _ _) t.isLt

/-- The eight rows below a tile: the sequence's history for its first tile, else the last rows of the tile before. -/
def low (c : Dev nD) (t : Fin cfg0.N) : Vec Ideal S8x1024 .f32 :=
  if t.val % 16 = 0 then k0_pay3 (F := Ideal) (pB m c t)
  else k0_pay4 (F := Ideal) (View.ld (outsAt0 m c (t.val - 1) (before t)).2.2
    (Rect.unit ![256, 0] ![8, 1024] inb_S264x1024_S8x1024_256_0))

/-- The scratch after a step. -/
def scB (c : Dev nD) (t : Fin cfg0.N) : Vec Ideal S264x1024 .f32 :=
  padded (k0_pay9 (F := Ideal) (xB m c t) (gB m c t) (wB m c t)) (low m c t)

/-- The scratch's last eight rows. -/
def lastB (sc : Vec Ideal S264x1024 .f32) : Vec Ideal S8x1024 .f32 :=
  fun j => sc ((Rect.unit (s := S264x1024) ![256, 0] ![8, 1024] inb_S264x1024_S8x1024_256_0).toLoadRect.idx j)

/-- A tile's output, given the scratch. -/
def outB (c : Dev nD) (t : Fin cfg0.N) (sc : Vec Ideal S264x1024 .f32) : FVec Ideal S1x256x1024 .f32 :=
  k0_pay1 (F := Ideal) (k0_pay5 (xB m c t)) (k0_pay7 (xB m c t) (gB m c t) (wB m c t))
    (k0_pay8 (xB m c t) (gB m c t) (wB m c t))
    (k0_pay10 (View.ld (tB m c t) (Rect.unit ![0, 0] ![1, 1024] inb_S8x1024_S1x1024_0_0)))
    (fun j => sc ((Rect.unit (s := S264x1024) ![6, 0] ![256, 1024] inb_S264x1024_S256x1024_6_0).toLoadRect.idx j))
    (View.ld (tB m c t) (Rect.unit ![1, 0] ![1, 1024] inb_S8x1024_S1x1024_1_0))
    (fun j => sc ((Rect.unit (s := S264x1024) ![7, 0] ![256, 1024] inb_S264x1024_S256x1024_7_0).toLoadRect.idx j))
    (View.ld (tB m c t) (Rect.unit ![2, 0] ![1, 1024] inb_S8x1024_S1x1024_2_0)) (oB m c t)

/-- Every step leaves the padded tile in the scratch. -/
theorem scratch_eq (c : Dev nD) (t : Fin cfg0.N) : (outsAt0 m c t.val t.isLt).2.2 = scB m c t := by
  by_cases h : t.val % 16 = 0
  · rw [outsAt0_A m c t h (by omega) (by omega)]; frame_out
    rw [canon_padded]
    unfold scB low
    rw [if_pos h]
    rfl
  · by_cases h1 : t.val % 16 = 15
    · rw [outsAt0_C m c t h (by omega) h1]; frame_out
      rw [read_unread_whole]
      rw [canon_padded]
      unfold scB low
      rw [if_neg h]
      rfl
    · rw [outsAt0_B m c t h (by omega) h1]; frame_out
      rw [read_unread_whole]
      rw [canon_padded]
      unfold scB low
      rw [if_neg h]
      rfl

/-- Every step stores its tile's output. -/
theorem out_eq (c : Dev nD) (t : Fin cfg0.N) : (outsAt0 m c t.val t.isLt).1 = outB m c t (scB m c t) := by
  by_cases h : t.val % 16 = 0
  · rw [outsAt0_A m c t h (by omega) (by omega)]; frame_out
    simp only [View.readCov_eq_canon', canon_padded]
    unfold outB scB low
    rw [if_pos h]
    rfl
  · by_cases h1 : t.val % 16 = 15
    · rw [outsAt0_C m c t h (by omega) h1]; frame_out
      rw [read_unread_whole]
      simp only [View.readCov_eq_canon', canon_padded]
      unfold outB scB low
      rw [if_neg h]
      rfl
    · rw [outsAt0_B m c t h (by omega) h1]; frame_out
      rw [read_unread_whole]
      simp only [View.readCov_eq_canon', canon_padded]
      unfold outB scB low
      rw [if_neg h]
      rfl

/-- A sequence's last step stores the scratch's last eight rows. -/
theorem state_eq (c : Dev nD) (t : Fin cfg0.N) (h1 : t.val % 16 = 15) :
    (outsAt0 m c t.val t.isLt).2.1 = k0_pay2 (F := Ideal) (lastB (scB m c t)) := by
  have h : ¬t.val % 16 = 0 := by omega
  rw [outsAt0_C m c t h (by omega) h1]; frame_out
  rw [read_unread_whole]
  simp only [View.readCov_eq_canon', canon_padded]
  unfold scB low
  rw [if_neg h]
  rfl

end Cert.Kernel5Ideal.Odd

end
-- ==== Proof.OddReads.lean ====
/-
  The convolution mixer's kernel on the prompts: what each staged block holds of the arguments.
-/
module

public import proofs.«01_k».proof.Proof.OddSteps

@[expose] public section

set_option maxRecDepth 16384

noncomputable section

namespace Cert.Kernel5Ideal.Odd

open Idealize.ShloMosaic Idealize.ShloMosaic.TcCoe Idealize.SL.Sem
open Idealize.ShloMosaic.Pipeline (Dat)
open Cert.Kernel5Ideal Cert.Kernel5Ideal.Gen Cert.Layer

/-- Where each window's block lies. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![t.val / 16, 0, 0]
    ∧ win0_6.index t = ![t.val / 16, t.val % 16, 0] ∧ win0_7.index t = ![t.val / 16, 0, 0] :=
  (by decide +kernel : ∀ t : Fin grid0.N, _)

variable (m : (ℓ : Loc nD τ sig) → Buf (Elt Ideal) ℓ)

/-- The step's sequence. -/
def seq (t : Fin cfg0.N) : Fin 16 := ⟨t.val / 16, by have := (show t.val < 256 from t.isLt); omega⟩

/-- The token that row `r` of the step's tile is. -/
def tok (t : Fin cfg0.N) (r : Fin 256) : Fin 4096 := ⟨t.val % 16 * 256 + r.val, by omega⟩

/-- The arguments, at their types. -/
abbrev hA (c : Dev nD) : Vec Ideal S16x4096x1024 .f32 := m ((c : Thread nD τ).loc main_arg0)
abbrev gA (c : Dev nD) : Vec Ideal S2x1024 .f32 := m ((c : Thread nD τ).loc main_arg1)
abbrev wA (c : Dev nD) : Vec Ideal S1x1024x3072 .f32 := m ((c : Thread nD τ).loc main_arg2)
abbrev tA (c : Dev nD) : Vec Ideal S1x3x1024 .f32 := m ((c : Thread nD τ).loc main_arg3)
abbrev oA (c : Dev nD) : Vec Ideal S1x1024x1024 .f32 := m ((c : Thread nD τ).loc main_arg4)

theorem xB_at (c : Dev nD) (t : Fin cfg0.N) (r : Fin 256) (k : Fin 1024) :
    xB m c t (ix3 0 r k) = hA m c (ix3 (seq t) (tok t r) k) := by
  unfold xB hA seq tok
  blk_point [iblk, V, idx t]

/-- The host's rows before the call, one by one. -/
theorem gain_row (c : Dev nD) (k : Fin 1024) : (V m c main_v6 : Vec Ideal S1x1024 .f32) (ix2 0 k) = gA m c (ix2 1 k) := by
  entry_read
  pointwise

theorem in_row (c : Dev nD) (k : Fin 1024) (j : Fin 3072) :
    (V m c main_v8 : Vec Ideal S1024x3072 .bf16) (ix2 k j) = wA m c (ix3 0 k j) := by
  entry_read
  pointwise

theorem out_row (c : Dev nD) (f k : Fin 1024) :
    (V m c main_v10 : Vec Ideal S1024x1024 .bf16) (ix2 f k) = oA m c (ix3 0 f k) := by
  entry_read
  pointwise

/-- The padded taps: the first three rows are the convolution's. -/
theorem taps_row (c : Dev nD) (q : Fin 3) (f : Fin 1024) :
    (V m c main_v2 : Vec Ideal S8x1024 .f32) (ix2 ⟨q.val, by omega⟩ f) = tA m c (ix3 0 q f) := by
  entry_read
  pointwise

theorem gB_at (c : Dev nD) (t : Fin cfg0.N) (k : Fin 1024) : gB m c t (ix2 0 k) = gA m c (ix2 1 k) := by
  refine Eq.trans ?_ (gain_row m c k)
  unfold gB iblk
  blk_ext [idx t]

theorem wB_at (c : Dev nD) (t : Fin cfg0.N) (k : Fin 1024) (j : Fin 3072) : wB m c t (ix2 k j) = wA m c (ix3 0 k j) := by
  refine Eq.trans ?_ (in_row m c k j)
  unfold wB iblk
  blk_ext [idx t]

theorem oB_at (c : Dev nD) (t : Fin cfg0.N) (f k : Fin 1024) : oB m c t (ix2 f k) = oA m c (ix3 0 f k) := by
  refine Eq.trans ?_ (out_row m c f k)
  unfold oB iblk
  blk_ext [idx t]

theorem tB_at (c : Dev nD) (t : Fin cfg0.N) (q : Fin 3) (f : Fin 1024) :
    tB m c t (ix2 ⟨q.val, by omega⟩ f) = tA m c (ix3 0 q f) := by
  refine Eq.trans ?_ (taps_row m c q f)
  unfold tB iblk
  blk_ext [idx t]

theorem past_zero (c : Dev nD) (b : Fin 16) (q : Fin 8) (f : Fin 1024) :
    (V m c main_v3 : Vec Ideal S16x8x1024 .f32) (ix3 b q f) = (0 : EReal) := by
  entry_read
  pointwise

/-- A prompt has no history. -/
theorem pB_at (c : Dev nD) (t : Fin cfg0.N) (q : Fin 2) (f : Fin 1024) :
    pB m c t (ix3 0 ⟨6 + q.val, by omega⟩ f) = 0 := by
  refine Eq.trans ?_ (past_zero m c (seq t) ⟨6 + q.val, by omega⟩ f)
  unfold pB iblk seq
  blk_ext [idx t]

end Cert.Kernel5Ideal.Odd

end
-- ==== Proof.OddValue.lean ====
/-
  The convolution mixer's kernel on the prompts: its result arrays at every sequence, token and channel.
-/
module

public import proofs.«01_k».proof.Proof.OddReads

@[expose] public section

set_option maxRecDepth 16384

noncomputable section

namespace Cert.Kernel5Ideal.Odd

open Idealize.ShloMosaic Idealize.ShloMosaic.TcCoe Idealize.SL.Sem
open Idealize.ShloMosaic.Pipeline (Dat)
open Cert.Kernel5Ideal Cert.Kernel5Ideal.Gen Cert.Layer

variable (m : (ℓ : Loc nD τ sig) → Buf (Elt Ideal) ℓ)

/-- A sequence's history, its tokens, and the layer's weights. -/
def past (c : Dev nD) (b : Fin 16) : Fin 2 → Fin 1024 → EReal := fun _ _ => 0
def toks (c : Dev nD) (b : Fin 16) : Fin 4096 → Fin 1024 → EReal := fun n i => hA m c (ix3 b n i)
def gain (c : Dev nD) : Fin 1024 → EReal := fun i => gA m c (ix2 1 i)
def win (c : Dev nD) : Fin 1024 → Fin 3072 → EReal := fun k j => wA m c (ix3 0 k j)

/-- The sequence's tape. -/
def line (c : Dev nD) (b : Fin 16) (p : ℕ) (f : Fin 1024) : EReal :=
  tape (past c b) (toks m c b) (gain m c) (win m c) p f

theorem token_proj (c : Dev nD) (t : Fin cfg0.N) (r : Fin 256) (j : Fin 3072) :
    proj (fun i => xB m c t (ix3 0 r i)) (fun i => gB m c t (ix2 0 i)) (fun k j => wB m c t (ix2 k j)) j
      = proj (toks m c (seq t) (tok t r)) (gain m c) (win m c) j := by
  simp only [xB_at, gB_at, wB_at]
  rfl

theorem token_hid (c : Dev nD) (t : Fin cfg0.N) (r : Fin 256) (f : Fin 1024) :
    hid (fun i => xB m c t (ix3 0 r i)) (fun i => gB m c t (ix2 0 i)) (fun k j => wB m c t (ix2 k j)) f
      = hid (toks m c (seq t) (tok t r)) (gain m c) (win m c) f := by
  unfold hid
  rw [token_proj, token_proj]

/-- A tile's rows in the scratch are its tokens' rows of the tape. -/
theorem scB_high (c : Dev nD) (t : Fin cfg0.N) (y : Fin 264) (r : Fin 256) (h : y.val = r.val + 8) (f : Fin 1024) :
    scB m c t (ix2 y f) = line m c (seq t) ((tok t r).val + 2) f := by
  unfold scB
  rw [padded_high _ _ y r h, stored_at, token_hid]
  exact (tape_token _ _ _ _ (tok t r) _ rfl f).symm

/-- The two rows below them are the two rows of the tape before. -/
theorem scB_low (c : Dev nD) (t : Fin cfg0.N) (y : Fin 264) (h6 : 6 ≤ y.val) (h8 : y.val < 8) (f : Fin 1024) :
    scB m c t (ix2 y f) = line m c (seq t) (t.val % 16 * 256 + (y.val - 6)) f := by
  unfold scB
  rw [padded_low _ _ y h8]
  unfold low
  by_cases h : t.val % 16 = 0
  · rw [if_pos h, past_at]
    have e : (⟨y.val, h8⟩ : Fin 8) = ⟨6 + (⟨y.val - 6, by omega⟩ : Fin 2).val, by omega⟩ :=
      Fin.ext (by show y.val = 6 + (y.val - 6); omega)
    rw [e, pB_at]
    exact (tape_past (past c (seq t)) (toks m c (seq t)) (gain m c) (win m c) _
      (show t.val % 16 * 256 + (y.val - 6) < 2 by omega) f).symm
  · rw [if_neg h, carry_at, View.ld_apply]
    have e : (Rect.unit (s := S264x1024) ![256, 0] ![8, 1024] inb_S264x1024_S8x1024_256_0).idx (ix2 (⟨y.val, h8⟩ : Fin 8) f)
        = ix2 (⟨256 + y.val, by omega⟩ : Fin 264) f := by
      funext a
      fin_cases a
      · exact Fin.ext (by show 256 + 1 * y.val = 256 + y.val; omega)
      · exact Fin.ext (by show 0 + 1 * f.val = f.val; omega)
    rw [e, scratch_eq m c ⟨t.val - 1, before t⟩,
      scB_high m c ⟨t.val - 1, before t⟩ ⟨256 + y.val, by omega⟩ ⟨248 + y.val, by omega⟩ (by show 256 + y.val = 248 + y.val + 8; omega)]
    have e0 : seq ⟨t.val - 1, before t⟩ = seq t := Fin.ext (by show (t.val - 1) / 16 = t.val / 16; omega)
    have e1 : (tok ⟨t.val - 1, before t⟩ ⟨248 + y.val, by omega⟩).val + 2 = t.val % 16 * 256 + (y.val - 6) := by
      show (t.val - 1) % 16 * 256 + (248 + y.val) + 2 = _
      omega
    rw [e0, e1]

theorem scB_row (c : Dev nD) (t : Fin cfg0.N) (y : Fin 264) (p : ℕ) (h6 : 6 ≤ y.val) (hp : p = t.val % 16 * 256 + (y.val - 6))
    (f : Fin 1024) : scB m c t (ix2 y f) = line m c (seq t) p f := by
  subst hp
  by_cases h8 : y.val < 8
  · exact scB_low m c t y h6 h8 f
  · rw [scB_high m c t y ⟨y.val - 8, by omega⟩ (by show y.val = y.val - 8 + 8; omega)]
    refine congrArg (fun p => line m c (seq t) p f) ?_
    show t.val % 16 * 256 + (y.val - 8) + 2 = _
    omega

/-- The rows the first two taps read. -/
theorem read6 (c : Dev nD) (t : Fin cfg0.N) (r : Fin 256) (f : Fin 1024) :
    scB m c t ((Rect.unit (s := S264x1024) ![6, 0] ![256, 1024] inb_S264x1024_S256x1024_6_0).toLoadRect.idx (ix2 r f))
      = line m c (seq t) (tok t r).val f := by
  refine Eq.trans (congrArg (scB m c t) ?_) (scB_row m c t ⟨6 + r.val, by omega⟩ _ (by show 6 ≤ 6 + r.val; omega) ?_ f)
  · funext a
    fin_cases a
    · exact Fin.ext (by show 6 + 1 * r.val = 6 + r.val; omega)
    · exact Fin.ext (by show 0 + 1 * f.val = f.val; omega)
  · show t.val % 16 * 256 + r.val = t.val % 16 * 256 + (6 + r.val - 6)
    omega

theorem read7 (c : Dev nD) (t : Fin cfg0.N) (r : Fin 256) (f : Fin 1024) :
    scB m c t ((Rect.unit (s := S264x1024) ![7, 0] ![256, 1024] inb_S264x1024_S256x1024_7_0).toLoadRect.idx (ix2 r f))
      = line m c (seq t) ((tok t r).val + 1) f := by
  refine Eq.trans (congrArg (scB m c t) ?_) (scB_row m c t ⟨7 + r.val, by omega⟩ _ (by show 6 ≤ 7 + r.val; omega) ?_ f)
  · funext a
    fin_cases a
    · exact Fin.ext (by show 7 + 1 * r.val = 7 + r.val; omega)
    · exact Fin.ext (by show 0 + 1 * f.val = f.val; omega)
  · show t.val % 16 * 256 + r.val + 1 = t.val % 16 * 256 + (7 + r.val - 6)
    omega

/-- The three taps. -/
theorem tap0 (c : Dev nD) (t : Fin cfg0.N) (f : Fin 1024) :
    (View.ld (tB m c t) (Rect.unit ![0, 0] ![1, 1024] inb_S8x1024_S1x1024_0_0) : Vec Ideal S1x1024 .f32) (ix2 0 f)
      = tA m c (ix3 0 0 f) := by
  refine Eq.trans (congrArg (tB m c t) ?_) (tB_at m c t 0 f)
  funext a
  fin_cases a
  · rfl
  · exact Fin.ext (by show 0 + 1 * f.val = f.val; omega)

theorem tap1 (c : Dev nD) (t : Fin cfg0.N) (f : Fin 1024) :
    (View.ld (tB m c t) (Rect.unit ![1, 0] ![1, 1024] inb_S8x1024_S1x1024_1_0) : Vec Ideal S1x1024 .f32) (ix2 0 f)
      = tA m c (ix3 0 1 f) := by
  refine Eq.trans (congrArg (tB m c t) ?_) (tB_at m c t 1 f)
  funext a
  fin_cases a
  · rfl
  · exact Fin.ext (by show 0 + 1 * f.val = f.val; omega)

theorem tap2 (c : Dev nD) (t : Fin cfg0.N) (f : Fin 1024) :
    (View.ld (tB m c t) (Rect.unit ![2, 0] ![1, 1024] inb_S8x1024_S1x1024_2_0) : Vec Ideal S1x1024 .f32) (ix2 0 f)
      = tA m c (ix3 0 2 f) := by
  refine Eq.trans (congrArg (tB m c t) ?_) (tB_at m c t 2 f)
  funext a
  fin_cases a
  · rfl
  · exact Fin.ext (by show 0 + 1 * f.val = f.val; omega)

/-- A stored tile holds the mixer's output of its tokens. -/
theorem block_at (c : Dev nD) (t : Fin cfg0.N) (r : Fin 256) (k : Fin 1024) :
    outB m c t (scB m c t) (ix3 0 r k)
      = mix (past c (seq t)) (toks m c (seq t)) (gain m c) (win m c) (fun q f => tA m c (ix3 0 q f))
          (fun f k => oA m c (ix3 0 f k)) (tok t r) k := by
  unfold outB mix
  rw [out_at, token_at, xB_at]
  refine congrArg (fun s => hA m c (ix3 (seq t) (tok t r) k) + s) (Finset.sum_congr rfl fun f _ => ?_)
  rw [gate_at, hid_at, tap_at, token_proj, token_hid, oB_at, tap0, tap1, tap2, read6, read7,
    ← tape_token (past c (seq t)) (toks m c (seq t)) (gain m c) (win m c) (tok t r) _ rfl f]
  rfl

/-- The stored state holds the tape's last eight rows. -/
theorem last_at (c : Dev nD) (t : Fin cfg0.N) (h : t.val % 16 = 15) (q : Fin 8) (k : Fin 1024) :
    k0_pay2 (F := Ideal) (lastB (scB m c t)) (ix3 0 q k) = line m c (seq t) (4090 + q.val) k := by
  rw [state_at]
  refine Eq.trans (congrArg (scB m c t) ?_) (scB_row m c t ⟨256 + q.val, by omega⟩ _ (by show 6 ≤ 256 + q.val; omega) ?_ k)
  · funext a
    fin_cases a
    · exact Fin.ext (by show 256 + 1 * q.val = 256 + q.val; omega)
    · exact Fin.ext (by show 0 + 1 * k.val = k.val; omega)
  · show 4090 + q.val = t.val % 16 * 256 + (256 + q.val - 6)
    omega

/-- The output array after the run. -/
theorem out_final (c : Dev nD) (X : Vec Ideal S16x4096x1024 .f32)
    (hX : ∀ b n k, X (ix3 b n k) = mix (past c b) (toks m c b) (gain m c) (win m c) (fun q f => tA m c (ix3 0 q f))
          (fun f k => oA m c (ix3 0 f k)) n k) :
    (dats m 0 c).arrAt 6 (cfgs 0).N = X := by
  refine (dats m 0 c).arrAt_eq_of_covers 6 _ (by decide +kernel) fun t hf y => ?_
  rw [after0_6, out_eq m c t]
  have hy : (y : S1x256x1024.Idx) = ix3 0 (y 1) (y 2) := by
    funext a
    fin_cases a
    · exact Subsingleton.elim (α := Fin 1) _ _
    · rfl
    · rfl
  rw [hy]
  refine (block_at m c t (y 1) (y 2)).trans ?_
  refine (hX (seq t) (tok t (y 1)) (y 2)).symm.trans ?_
  unfold seq tok
  blk_ext [idx t]

/-- The state array after the run. -/
theorem state_final (c : Dev nD) (X : Vec Ideal S16x8x1024 .f32)
    (hX : ∀ b q k, X (ix3 b q k) = line m c b (4090 + q.val) k) :
    (dats m 0 c).arrAt 7 (cfgs 0).N = X := by
  refine (dats m 0 c).arrAt_eq_of_covers 7 _ (by decide +kernel) fun t hf y => ?_
  have h := (flush0_7 t).mp hf
  rw [after0_7, state_eq m c t h]
  have hy : (y : S1x8x1024.Idx) = ix3 0 (y 1) (y 2) := by
    funext a
    fin_cases a
    · exact Subsingleton.elim (α := Fin 1) _ _
    · rfl
    · rfl
  rw [hy]
  refine (last_at m c t h (y 1) (y 2)).trans ?_
  refine (hX (seq t) (y 1) (y 2)).symm.trans ?_
  unfold seq
  blk_ext [idx t]

end Cert.Kernel5Ideal.Odd

end
-- ==== Proof.OddTie.lean ====
/-
  The convolution mixer on the prompts: the kernel's two result arrays are the reference's two results of the same arguments.
-/
module

public import proofs.«01_k».proof.Proof.OddRef
public import proofs.«01_k».proof.Proof.OddValue

@[expose] public section

set_option maxRecDepth 16384

noncomputable section

namespace Cert.OddTie

open Idealize.ShloMosaic Idealize.ShloMosaic.TcCoe
open Cert.Kernel5Ideal.Odd

variable (m : (ℓ : Loc Cert.Kernel5Ideal.nD Cert.Kernel5Ideal.τ Cert.Kernel5Ideal.sig) → Buf (Elt Ideal) ℓ) (c : Dev Cert.Kernel5Ideal.nD)

/-- The tokens the kernel's run leaves are the reference's function of the kernel's arguments. -/
theorem out : Cert.Kernel5Ideal.Value.G6 (F := Ideal) m c
    = Cert.Reference5Ideal.Read.val_main_v48 (F := Ideal) (hA m c) (gA m c) (wA m c) (tA m c) (oA m c) := by
  refine (Cert.Kernel5Ideal.Value.final6 m c).symm.trans ?_
  exact Cert.Kernel5Ideal.Odd.out_final m c _ fun b n k => Cert.Reference5Ideal.Odd.out_at _ _ _ _ _ b n k

/-- The state the kernel's run leaves is the reference's function of the kernel's arguments. -/
theorem state : Cert.Kernel5Ideal.Value.G7 (F := Ideal) m c
    = Cert.Reference5Ideal.Read.val_main_v47 (F := Ideal) (hA m c) (gA m c) (wA m c) := by
  refine (Cert.Kernel5Ideal.Value.final7 m c).symm.trans ?_
  exact Cert.Kernel5Ideal.Odd.state_final m c _ fun b q k => Cert.Reference5Ideal.Odd.last_at _ _ _ b q k

end Cert.OddTie

end
-- ==== Proof.SampleEvenRef.lean ====
/-
  The projections of the even layer on the samples: the reference's five results, read at one token and one channel.
-/
module

public import proofs.«01_k».proof.Proof.EvenGate
public import proofs.«01_k».proof.Proof.Gen.Reference6Ideal.Read

@[expose] public section

set_option maxRecDepth 16384

noncomputable section

namespace Cert.Reference6Ideal.Even

open Idealize.ShloMosaic Idealize.ShloMosaic.TcCoe
open Cert.Reference6Ideal Cert.Reference6Ideal.Read Cert.Layer

variable (x : FVec Ideal S8x16x1024 .f32) (g : FVec Ideal S2x1024 .f32) (w : FVec Ideal S1x1024x3088 .f32)
  (bf : FVec Ideal S1x8 .f32) (bi bm : FVec Ideal S1x4 .f32)

/-- The sequence and the token of a row. -/
def seq (n : Fin 128) : Fin 8 := ⟨n.val / 16, by omega⟩
def tok (n : Fin 128) : Fin 16 := ⟨n.val % 16, by omega⟩

/-- The normalised tokens. -/
theorem norm_at (b : Fin 8) (n : Fin 16) (k : Fin 1024) :
    val_main_v14 (F := Ideal) x g (ix3 b n k) = rms (fun i => x (ix3 b n i)) (fun i => g (ix2 0 i)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [rms, scale, zero_add]

/-- The tokens' projections. -/
theorem proj_at (b : Fin 8) (n : Fin 16) (j : Fin 3088) :
    val_main_v16 (F := Ideal) x g w (ix3 b n j)
      = proj (fun i => x (ix3 b n i)) (fun i => g (ix2 0 i)) (fun k j => w (ix3 0 k j)) j := by
  have e : val_main_v16 (F := Ideal) x g w (ix3 b n j)
      = ∑ k : Fin 1024, val_main_v14 (F := Ideal) x g (ix3 b n k) * w (ix3 0 k j) := by
    pointwise [val_main_v16, val_main_v15]
  rw [e]
  simp only [norm_at, proj]

/-- One projection of a row's token. -/
abbrev col (n : Fin 128) (j : Fin 3088) : EReal :=
  proj (fun i => x (ix3 (seq n) (tok n) i)) (fun i => g (ix2 0 i)) (fun k j => w (ix3 0 k j)) j

theorem fk_at (n : Fin 128) (k : Fin 512) :
    val_main_v43 (F := Ideal) x g w (ix2 n k) = col x g w n ⟨512 + k.val, by omega⟩ := by
  refine Eq.trans ?_ (proj_at x g w (seq n) (tok n) ⟨512 + k.val, by omega⟩)
  unfold seq tok
  pointwise [val_main_v43, val_main_v18]

theorem fv_at (n : Fin 128) (k : Fin 512) :
    val_main_v44 (F := Ideal) x g w (ix2 n k) = col x g w n ⟨1024 + k.val, by omega⟩ := by
  refine Eq.trans ?_ (proj_at x g w (seq n) (tok n) ⟨1024 + k.val, by omega⟩)
  unfold seq tok
  pointwise [val_main_v44, val_main_v19]

theorem mv_at (n : Fin 128) (k : Fin 512) :
    val_main_v46 (F := Ideal) x g w (ix2 n k) = col x g w n ⟨2056 + k.val, by omega⟩ := by
  refine Eq.trans ?_ (proj_at x g w (seq n) (tok n) ⟨2056 + k.val, by omega⟩)
  unfold seq tok
  pointwise [val_main_v46, val_main_v45, val_main_v23]

theorem mo_at (n : Fin 128) (k : Fin 512) :
    val_main_v48 (F := Ideal) x g w (ix2 n k) = col x g w n ⟨2568 + k.val, by omega⟩ := by
  refine Eq.trans ?_ (proj_at x g w (seq n) (tok n) ⟨2568 + k.val, by omega⟩)
  unfold seq tok
  pointwise [val_main_v48, val_main_v47, val_main_v24]

/-- A gate's pre-activation. -/
theorem ff_at (b : Fin 8) (n : Fin 16) (k : Fin 8) :
    val_main_v30 (F := Ideal) x g w bf (ix3 b n k)
      = proj (fun i => x (ix3 b n i)) (fun i => g (ix2 0 i)) (fun k j => w (ix3 0 k j)) ⟨1536 + k.val, by omega⟩
        + bf (ix2 0 k) := by
  rw [← proj_at]
  pointwise [val_main_v30, val_main_v29, val_main_v28, val_main_v27, val_main_v20]

/-- A gate's pre-activation. -/
theorem mi_at (b : Fin 8) (n : Fin 16) (k : Fin 4) :
    val_main_v35 (F := Ideal) x g w bi (ix3 b n k)
      = proj (fun i => x (ix3 b n i)) (fun i => g (ix2 0 i)) (fun k j => w (ix3 0 k j)) ⟨3080 + k.val, by omega⟩
        + bi (ix2 0 k) := by
  rw [← proj_at]
  pointwise [val_main_v35, val_main_v34, val_main_v33, val_main_v32, val_main_v25]

/-- A gate's pre-activation. -/
theorem mf_at (b : Fin 8) (n : Fin 16) (k : Fin 4) :
    val_main_v39 (F := Ideal) x g w bm (ix3 b n k)
      = proj (fun i => x (ix3 b n i)) (fun i => g (ix2 0 i)) (fun k j => w (ix3 0 k j)) ⟨3084 + k.val, by omega⟩
        + bm (ix2 0 k) := by
  rw [← proj_at]
  pointwise [val_main_v39, val_main_v38, val_main_v37, val_main_v36, val_main_v26]

/-- The logistic's logarithm of a gate's pre-activation. -/
theorem logf_at (b : Fin 8) (n : Fin 16) (k : Fin 8) :
    val_main_v31 (F := Ideal) x g w bf (ix3 b n k) = lsig (val_main_v30 (F := Ideal) x g w bf (ix3 b n k)) := by
  refine Eq.trans ?_ (lsig_softplus _)
  pointwise [val_main_v31, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  simp [Ideal.cmp]
  rfl

/-- The logistic's logarithm of a gate's pre-activation. -/
theorem logm_at (b : Fin 8) (n : Fin 16) (k : Fin 4) :
    val_main_v40 (F := Ideal) x g w bm (ix3 b n k) = lsig (val_main_v39 (F := Ideal) x g w bm (ix3 b n k)) := by
  refine Eq.trans ?_ (lsig_softplus _)
  pointwise [val_main_v40, val_main_call1_v1, val_main_call1_v0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst]
  simp [Ideal.cmp]
  rfl

/-- The gates of a row, lane by lane. -/
theorem gates_ff (n : Fin 128) (l : Fin 8) :
    val_main_v49 (F := Ideal) x g w bf bi bm (ix2 n ⟨l.val, by omega⟩)
      = lsig (col x g w n ⟨1536 + l.val, by omega⟩ + bf (ix2 0 l)) := by
  rw [← ff_at, ← logf_at]
  unfold seq tok
  pointwise [val_main_v49, val_main_v42]

theorem gates_mi (n : Fin 128) (l : Fin 4) :
    val_main_v49 (F := Ideal) x g w bf bi bm (ix2 n ⟨8 + l.val, by omega⟩)
      = col x g w n ⟨3080 + l.val, by omega⟩ + bi (ix2 0 l) := by
  rw [← mi_at]
  unfold seq tok
  pointwise [val_main_v49, val_main_v42]

theorem gates_mf (n : Fin 128) (l : Fin 4) :
    val_main_v49 (F := Ideal) x g w bf bi bm (ix2 n ⟨12 + l.val, by omega⟩)
      = lsig (col x g w n ⟨3084 + l.val, by omega⟩ + bm (ix2 0 l)) := by
  rw [← mf_at, ← logm_at]
  unfold seq tok
  pointwise [val_main_v49, val_main_v42]
  rw [dif_neg (by omega), dif_neg (by omega), dif_pos (by omega)]
  exact congrArg (fun q => val_main_v40 (F := Ideal) x g w bm (ix3 _ _ q)) (Fin.ext (by show 12 + l.val - 8 - 4 = l.val; omega))

theorem gates_none (n : Fin 128) (l : Fin 112) :
    val_main_v49 (F := Ideal) x g w bf bi bm (ix2 n ⟨16 + l.val, by omega⟩) = 0 := by
  pointwise [val_main_v49, val_main_v42, val_main_v41, val_main_cst_2]
  rw [dif_neg (by omega), dif_neg (by omega), dif_neg (by omega)]

end Cert.Reference6Ideal.Even

end
-- ==== Proof.SampleEvenIdealRun.lean ====
/-
  The projections of the even layer on the samples: its body's run on any
  staging buffers. The two wide results the body stores only in half of their columns, the values' short copy and the
  two padded head blocks are left at whatever they hold; of the remaining five results and the inputs it says what they hold.
-/
module

public import proofs.«01_k».proof.Proof.Gen.Kernel6Ideal.Frame
public import proofs.«01_k».proof.Proof.Gen.Kernel6Ideal.Skeleton
public import Idealize.ShloMosaic.Lib.Pipeline.ValueKit
public import Idealize.ShloMosaic.Lib.VecWindow

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gates a point stores: the last 128 columns of the product and the bias. -/
def gates (x0 : Vec F S16x1024 .f32) (x1 : Vec F S1x1024 .f32) (x2 : Vec F S1024x3200 .bf16) (x3 : Vec F S1x128 .f32) :
    FVec F S16x128 .f32 :=
  k0_pay11 (iota .tc S16x128 32 [1] iota_S16x128_d1_w32) (k0_pay7 x0 x1 x2) (k0_pay8 x3)

/-- The point starts a sequence: the body's one condition on the grid. -/
abbrev fresh (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 (i 0).val) (Scalar.select (Scalar.cmpi .eq 1#32 0#32) 1#32 1#32)) 0#32)) (Scalar.addi (Scalar.remsi (BitVec.ofNat 32 (i 0).val) (Scalar.select (Scalar.cmpi .eq 1#32 0#32) 1#32 1#32)) (Scalar.select (Scalar.cmpi .eq 1#32 0#32) 1#32 1#32)) (Scalar.remsi (BitVec.ofNat 32 (i 0).val) (Scalar.select (Scalar.cmpi .eq 1#32 0#32) 1#32 1#32))) 0#32)) 0#32) = 1#1

set_option maxHeartbeats 4000000 in
/-- The body from whole staging buffers: it leaves the inputs as they were and the five results at their payloads, the
    running sum and the other results at something. Whether it takes the running sum's first value from its argument
    decides nothing of this. -/
theorem body_run (c : Dev nD) (i : grid0.Coords) (arg1 : Memref sig .tc .vmem S16x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x128 .f32) (harg4 : arg4.IsWhole) (arg5 : Memref sig .tc .vmem S1x1x128 .f32) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .bf16) (harg10 : arg10.IsWhole) (arg11 : Memref sig .tc .vmem S16x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S16x512 .bf16) (harg14 : arg14.IsWhole) (arg15 : Memref sig .tc .vmem S16x128 .f32) (harg15 : arg15.IsWhole) (arg16 : Memref sig .tc .vmem S1x128 .f32) (harg16 : arg16.IsWhole)
    (x0 : Vec F S16x1024 .f32) (x1 : Vec F S1x1024 .f32) (x2 : Vec F S1024x3200 .bf16) (x3 : Vec F S1x128 .f32) (x4 : Vec F S1x1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare (k0_pay18 (k0_pay6 x0 x1 x2)) ∗ owns (c : Thread nD τ) arg9 fullShare (k0_pay19 (k0_pay6 x0 x1 x2)) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (k0_pay3 (k0_pay6 x0 x1 x2)) ∗ owns (c : Thread nD τ) arg14 fullShare (k0_pay4 (k0_pay6 x0 x1 x2)) ∗ owns (c : Thread nD τ) arg15 fullShare (gates x0 x1 x2 x3) ∗ (∃ d, owns (c : Thread nD τ) arg16 fullShare d)) -∗ K ⟨⟩))
      ⊢ wp frame (wpE (defs₀ (F := F)) Variants.none c none) E (cc0_even_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_even_in_eq_skeleton]; unfold cc0_even_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  by_cases hc : fresh i
  all_goals
    · sl_exec (disch := first | sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; iexists _; isplitr
        swap; · iexact H5
        ipureintro; exact rfl
      isplitl [H6]
      · iexists _; iexists _; isplitr
        swap; · iexact H6
        ipureintro; exact rfl
      isplitl [H7]
      · iexists _; isplitr
        swap; · iexact H7
        ipureintro; rw [View.read_writes_full]; frame_out; try rfl
      isplitl [H8]
      · iexists _; isplitr
        swap; · iexact H8
        ipureintro; rw [View.read_writes_full]; frame_out; try rfl
      isplitl [H9]
      · iexists _; iexists _; isplitr
        swap; · iexact H9
        ipureintro; exact rfl
      isplitl [H10]
      · iexists _; iexists _; isplitr
        swap; · iexact H10
        ipureintro; exact rfl
      isplitl [H11]
      · iexists _; iexists _; isplitr
        swap; · iexact H11
        ipureintro; exact rfl
      isplitl [H12]
      · iexists _; isplitr
        swap; · iexact H12
        ipureintro; rw [View.read_writes_full]; frame_out; try rfl
      isplitl [H13]
      · iexists _; isplitr
        swap; · iexact H13
        ipureintro; rw [View.read_writes_full]; frame_out; try rfl
      isplitl [H14]
      · iexists _; isplitr
        swap; · iexact H14
        ipureintro; rw [View.read_writes_full]; frame_out; try rfl
      iexists _; iexists _; isplitr
      swap; · iexact HS0
      ipureintro; exact rfl

end Cert.Kernel6Ideal.Gen
-- ==== Proof.SampleEvenBlock.lean ====
/-
  The projections of the even layer on the samples: what a grid point stores, entry by entry, of its staged blocks.
-/
module

public import proofs.«01_k».proof.Proof.EvenGate
public import proofs.«01_k».proof.Proof.SampleEvenIdealRun

@[expose] public section

set_option maxRecDepth 16384

noncomputable section

namespace Cert.Kernel6Ideal.Even

open Idealize.ShloMosaic Idealize.ShloMosaic.TcCoe Idealize.SL.Sem
open Cert.Kernel6Ideal Cert.Kernel6Ideal.Gen Cert.Layer

/-- The product a point forms of its tokens' norms and all the projections' weights. -/
theorem prod_at (x : Vec Ideal S16x1024 .f32) (g : Vec Ideal S1x1024 .f32) (w : Vec Ideal S1024x3200 .bf16)
    (r : Fin 16) (j : Fin 3200) :
    k0_pay6 (F := Ideal) x g w (ix2 r j)
      = proj (fun i => x (ix2 r i)) (fun i => g (ix2 0 i)) (fun k j => w (ix2 k j)) j := by
  pointwise [k0_pay6]
  rfl

theorem fk_at (p : FVec Ideal S16x3200 .f32) (r : Fin 16) (k : Fin 512) :
    k0_pay18 (F := Ideal) p (ix2 r k) = p (ix2 r ⟨512 + k.val, by omega⟩) := by
  pointwise [k0_pay18]

theorem fv_at (p : FVec Ideal S16x3200 .f32) (r : Fin 16) (k : Fin 512) :
    k0_pay19 (F := Ideal) p (ix2 r k) = p (ix2 r ⟨1024 + k.val, by omega⟩) := by
  pointwise [k0_pay19]

theorem mv_at (p : FVec Ideal S16x3200 .f32) (r : Fin 16) (k : Fin 512) :
    k0_pay3 (F := Ideal) p (ix2 r k) = p (ix2 r ⟨2048 + k.val, by omega⟩) := by
  pointwise [k0_pay3]

theorem mo_at (p : FVec Ideal S16x3200 .f32) (r : Fin 16) (k : Fin 512) :
    k0_pay4 (F := Ideal) p (ix2 r k) = p (ix2 r ⟨2560 + k.val, by omega⟩) := by
  pointwise [k0_pay4]

/-- A gate's pre-activation. -/
theorem pre_at (x : Vec Ideal S16x1024 .f32) (g : Vec Ideal S1x1024 .f32) (w : Vec Ideal S1024x3200 .bf16)
    (b : Vec Ideal S1x128 .f32) (r : Fin 16) (l : Fin 128) :
    k0_pay9 (F := Ideal) (k0_pay7 x g w) (k0_pay8 b) (ix2 r l)
      = k0_pay6 (F := Ideal) x g w (ix2 r ⟨3072 + l.val, by omega⟩) + b (ix2 0 l) := by
  pointwise [k0_pay9, k0_pay7, k0_pay8]

/-- The logistic's logarithm of a pre-activation. -/
theorem log_at (p q : FVec Ideal S16x128 .f32) (r : Fin 16) (l : Fin 128) :
    k0_pay10 (F := Ideal) p q (ix2 r l) = lsig (k0_pay9 (F := Ideal) p q (ix2 r l)) := by
  pointwise [k0_pay10]
  simp only [lsig, corr, zero_sub]
  rfl

/-- What a lane of the gates holds, of its pre-activation and that one's logarithm. -/
theorem lane_at (p q : FVec Ideal S16x128 .f32) (r : Fin 16) (l : Fin 128) :
    k0_pay11 (F := Ideal) (iota .tc S16x128 32 [1] iota_S16x128_d1_w32) p q (ix2 r l)
      = if 8 ≤ l.val ∧ l.val < 12 then k0_pay9 (F := Ideal) p q (ix2 r l)
        else if l.val < 16 then k0_pay10 (F := Ideal) p q (ix2 r l) else 0 := by
  pointwise [k0_pay11]
  have h1 : ∀ l : Fin 128, IntOp.andi (IntOp.cmpi CmpIPredicate.sge (BitVec.ofNat 32 l.val) 8#32)
      (IntOp.cmpi CmpIPredicate.slt (BitVec.ofNat 32 l.val) 12#32) = if 8 ≤ l.val ∧ l.val < 12 then 1#1 else 0#1 := by
    decide +kernel
  have h2 : ∀ l : Fin 128, IntOp.cmpi CmpIPredicate.slt (BitVec.ofNat 32 l.val) 16#32
      = if l.val < 16 then 1#1 else 0#1 := by
    decide +kernel
  rw [h1, h2]
  split_ifs <;> rfl

end Cert.Kernel6Ideal.Even

end
-- ==== Proof.SampleEvenIdealFrame.lean ====
/-
  The projections of the even layer on the samples: the run over its grid. Five of its
  ten results are named after every point; of the other five, and of the running sum the body carries between points,
  nothing is said.
-/
module

public import proofs.«01_k».proof.Proof.SampleEvenIdealRun

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said. -/
def left : Fin 15 → Bool := fun w => w.val == 5 || w.val == 6 || w.val == 9 || w.val == 10 || w.val == 11

/-- The region's invariant: the running sum's buffer at something, and the generator's register at something. -/
theorem inv_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The pipeline's data: the arrays as the region finds them; after a point the inputs' blocks as they were and the named
    results' at the body's payloads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => k0_pay18 (k0_pay6 (iblk m c 0 t) (iblk m c 1 t) (iblk m c 2 t))
    | ⟨8, _⟩ => k0_pay19 (k0_pay6 (iblk m c 0 t) (iblk m c 1 t) (iblk m c 2 t))
    | ⟨9, _⟩ => fun _ => Classical.arbitrary _
    | ⟨10, _⟩ => fun _ => Classical.arbitrary _
    | ⟨11, _⟩ => fun _ => Classical.arbitrary _
    | ⟨12, _⟩ => k0_pay3 (k0_pay6 (iblk m c 0 t) (iblk m c 1 t) (iblk m c 2 t))
    | ⟨13, _⟩ => k0_pay4 (k0_pay6 (iblk m c 0 t) (iblk m c 1 t) (iblk m c 2 t))
    | ⟨14, _⟩ => gates (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_7 (c : Dev nD) (t : Fin cfg0.N) : (dats m 0 c).after 7 t = k0_pay18 (k0_pay6 (iblk m c 0 t) (iblk m c 1 t) (iblk m c 2 t)) := by dsimp only [dats]
theorem after0_8 (c : Dev nD) (t : Fin cfg0.N) : (dats m 0 c).after 8 t = k0_pay19 (k0_pay6 (iblk m c 0 t) (iblk m c 1 t) (iblk m c 2 t)) := by dsimp only [dats]
theorem after0_12 (c : Dev nD) (t : Fin cfg0.N) : (dats m 0 c).after 12 t = k0_pay3 (k0_pay6 (iblk m c 0 t) (iblk m c 1 t) (iblk m c 2 t)) := by dsimp only [dats]
theorem after0_13 (c : Dev nD) (t : Fin cfg0.N) : (dats m 0 c).after 13 t = k0_pay4 (k0_pay6 (iblk m c 0 t) (iblk m c 1 t) (iblk m c 2 t)) := by dsimp only [dats]
theorem after0_14 (c : Dev nD) (t : Fin cfg0.N) : (dats m 0 c).after 14 t = gates (iblk m c 0 t) (iblk m c 1 t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ X, owns (c : Thread nD τ) (win0_5.stage (cfg0.slots t 5)) fullShare X)
    ∗ (∃ X, owns (c : Thread nD τ) (win0_6.stage (cfg0.slots t 6)) fullShare X)
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- and what it gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ X, owns (c : Thread nD τ) (win0_5.stage (cfg0.slots t 5)) fullShare X)
    ∗ (∃ X, owns (c : Thread nD τ) (win0_6.stage (cfg0.slots t 6)) fullShare X)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_7, after0_8, after0_12, after0_13, after0_14]
  rw [show (dats m 0 c).Φ t.succ = Pipeline.ΦA spec0 c from rfl, show (dats m 0 c).Φ t.castSucc = Pipeline.ΦA spec0 c from rfl,
    inv_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  iintro ⟨H0, H1, H2, H3, H4, H5, H6, H7, H8, H9, H10, H11, H12, H13, H14, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ left := fun t => by
  rw [bigSep_W0, bigSep_W0, defs₀_row]
  exact triple_restated (sound_body m c t) rfl .rfl fun _ => .rfl

set_option backward.isDefEq.respectTransparency.types false in
/-- The launch runs through, and ends with every counter at zero. -/
theorem run_main_quiescent : θ_run defs (onTc (τ := τ) (main (F := F))) (s₀ m ρ)
    (fun r => (Pipeline.RDat.FramePost cfg0 (fun c => (dats m 0 c).toRForget left) (V m)) r ∧ r.2.sem = fun _ => 0) :=
  Pipeline.θ_run_frame_forget (Q' := _) cfgs (dats m) (0 : Fin 1) launch0 defs₀ Variants.none left m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ)
    (Pipeline.RDat.FramePost cfg0 (fun c => (dats m 0 c).toRForget left) (V m)) :=
  (θ_run defs _ _).mono (fun _ h => h.1) (run_main_quiescent m ρ)

/-- A named window's array after the run. -/
theorem final_of {r : PUnit × MemSt nD τ sig (Elt F)}
    (h : Pipeline.RDat.FramePost cfg0 (fun c => (dats m 0 c).toRForget left) (V m) r) (c : Dev nD)
    (w : Fin 15) (hw : left w = false) :
    r.2.mem ((cfg0.spec w).arr.view.loc (c.tc : Thread nD τ)) = (dats m 0 c).arrAt w cfg0.N :=
  ((dats m 0 c).toRForget_arrAt_iff hw _ _).mp ((h c).1 w)

/-- Result window 7's array after the run. -/
theorem final_7 {r : PUnit × MemSt nD τ sig (Elt F)}
    (h : Pipeline.RDat.FramePost cfg0 (fun c => (dats m 0 c).toRForget left) (V m) r) (c : Dev nD) :
    r.2.mem ((cfg0.spec 7).arr.view.loc (c.tc : Thread nD τ)) = (dats m 0 c).arrAt 7 cfg0.N :=
  final_of m h c 7 (by decide)

/-- Result window 8's array after the run. -/
theorem final_8 {r : PUnit × MemSt nD τ sig (Elt F)}
    (h : Pipeline.RDat.FramePost cfg0 (fun c => (dats m 0 c).toRForget left) (V m) r) (c : Dev nD) :
    r.2.mem ((cfg0.spec 8).arr.view.loc (c.tc : Thread nD τ)) = (dats m 0 c).arrAt 8 cfg0.N :=
  final_of m h c 8 (by decide)

/-- Result window 12's array after the run. -/
theorem final_12 {r : PUnit × MemSt nD τ sig (Elt F)}
    (h : Pipeline.RDat.FramePost cfg0 (fun c => (dats m 0 c).toRForget left) (V m) r) (c : Dev nD) :
    r.2.mem ((cfg0.spec 12).arr.view.loc (c.tc : Thread nD τ)) = (dats m 0 c).arrAt 12 cfg0.N :=
  final_of m h c 12 (by decide)

/-- Result window 13's array after the run. -/
theorem final_13 {r : PUnit × MemSt nD τ sig (Elt F)}
    (h : Pipeline.RDat.FramePost cfg0 (fun c => (dats m 0 c).toRForget left) (V m) r) (c : Dev nD) :
    r.2.mem ((cfg0.spec 13).arr.view.loc (c.tc : Thread nD τ)) = (dats m 0 c).arrAt 13 cfg0.N :=
  final_of m h c 13 (by decide)

/-- Result window 14's array after the run. -/
theorem final_14 {r : PUnit × MemSt nD τ sig (Elt F)}
    (h : Pipeline.RDat.FramePost cfg0 (fun c => (dats m 0 c).toRForget left) (V m) r) (c : Dev nD) :
    r.2.mem ((cfg0.spec 14).arr.view.loc (c.tc : Thread nD τ)) = (dats m 0 c).arrAt 14 cfg0.N :=
  final_of m h c 14 (by decide)

/-- The arguments end as they were. -/
theorem args_kept {r : PUnit × MemSt nD τ sig (Elt F)}
    (h : Pipeline.RDat.FramePost cfg0 (fun c => (dats m 0 c).toRForget left) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c),
    (final_of m h c 4 (by decide)).trans (((dats m 0 c).arrAt_in 4 rfl _).trans ((A_eq m c 4).trans (V_main_arg6 m c)))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m h.1 c, h.2⟩) (run_main_quiescent m ρ)

end Cert.Kernel6Ideal.Gen
-- ==== Proof.SampleEvenReads.lean ====
/-
  The projections of the even layer on the samples: what each staged block holds of the arguments. The host puts the
  projections' columns in another order and the gates' columns and biases side by side.
-/
module

public import proofs.«01_k».proof.Proof.SampleEvenBlock
public import proofs.«01_k».proof.Proof.SampleEvenIdealFrame
public import Idealize.ShloMosaic.Lib.Pipeline.ReadBack
public import Idealize.ShloMosaic.Lib.Claim
public import Idealize.ShloMosaic.Lib.StableHlo.RunRead

@[expose] public section

set_option maxRecDepth 16384

noncomputable section

namespace Cert.Kernel6Ideal.Even

open Idealize.ShloMosaic Idealize.ShloMosaic.TcCoe Idealize.SL.Sem
open Idealize.ShloMosaic.Pipeline (Dat)
open Cert.Kernel6Ideal Cert.Kernel6Ideal.Gen Cert.Layer

/-- Where each named window's block lies. -/
theorem idx : ∀ t : Fin cfg0.N, win0_0.index t = ![t.val, 0] ∧ win0_1.index t = ![0, 0] ∧ win0_2.index t = ![0, 0]
    ∧ win0_3.index t = ![0, 0] ∧ win0_7.index t = ![t.val, 0] ∧ win0_8.index t = ![t.val, 0]
    ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ)

/-- The staged blocks, at their arrays' types. -/
def xB (c : Dev nD) (t : Fin cfg0.N) : Vec Ideal S16x1024 .f32 := iblk m c 0 t
def gB (c : Dev nD) (t : Fin cfg0.N) : Vec Ideal S1x1024 .f32 := iblk m c 1 t
def wB (c : Dev nD) (t : Fin cfg0.N) : Vec Ideal S1024x3200 .bf16 := iblk m c 2 t
def bB (c : Dev nD) (t : Fin cfg0.N) : Vec Ideal S1x128 .f32 := iblk m c 3 t

/-- The arguments, at their types. -/
abbrev xA (c : Dev nD) : Vec Ideal S8x16x1024 .f32 := m ((c : Thread nD τ).loc main_arg0)
abbrev gA (c : Dev nD) : Vec Ideal S2x1024 .f32 := m ((c : Thread nD τ).loc main_arg1)
abbrev wA (c : Dev nD) : Vec Ideal S1x1024x3088 .f32 := m ((c : Thread nD τ).loc main_arg2)
abbrev fA (c : Dev nD) : Vec Ideal S1x8 .f32 := m ((c : Thread nD τ).loc main_arg3)
abbrev iA (c : Dev nD) : Vec Ideal S1x4 .f32 := m ((c : Thread nD τ).loc main_arg4)
abbrev mA (c : Dev nD) : Vec Ideal S1x4 .f32 := m ((c : Thread nD τ).loc main_arg5)

/-- The row that a point's row `r` is, and a row's sequence and token. -/
def row (t : Fin cfg0.N) (r : Fin 16) : Fin 128 :=
  ⟨t.val * 16 + r.val, by have := (show t.val < 8 from t.isLt); omega⟩
def seq (n : Fin 128) : Fin 8 := ⟨n.val / 16, by omega⟩
def tok (n : Fin 128) : Fin 16 := ⟨n.val % 16, by omega⟩

/-- The host's arrays before the call, entry by entry. -/
theorem x_row (c : Dev nD) (n : Fin 128) (k : Fin 1024) :
    (V m c main_v20 : Vec Ideal S128x1024 .f32) (ix2 n k) = xA m c (ix3 (seq n) (tok n) k) := by
  unfold seq tok
  entry_read
  pointwise

theorem gain_row (c : Dev nD) (k : Fin 1024) : (V m c main_v23 : Vec Ideal S1x1024 .f32) (ix2 0 k) = gA m c (ix2 0 k) := by
  entry_read
  pointwise

/-- The host's row of weights, column by column: which piece a column lies in. -/
theorem cat_fk (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨512 + j.val, by omega⟩) = b (ix2 k j) := by
  pointwise

theorem cat_fv (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨1024 + j.val, by omega⟩) = c (ix2 k j) := by
  pointwise
  rw [dif_neg (by omega), dif_neg (by omega), dif_pos (by omega)]
  exact congrArg (fun q => c (ix2 k q)) (Fin.ext (by show 1024 + j.val - 512 - 512 = j.val; omega))

theorem cat_mv (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨2048 + j.val, by omega⟩) = f (ix2 k j) := by
  pointwise
  rw [dif_neg (by omega), dif_neg (by omega), dif_neg (by omega), dif_neg (by omega), dif_neg (by omega), dif_pos (by omega)]
  exact congrArg (fun q => f (ix2 k q)) (Fin.ext (by show 2048 + j.val - 512 - 512 - 512 - 256 - 256 = j.val; omega))

theorem cat_mo (a b c : FVec Ideal S1024x512 .f32) (d e : FVec Ideal S1024x256 .f32) (f g : FVec Ideal S1024x512 .f32) (h : FVec Ideal S1024x128 .f32)
    (k : Fin 1024) (j : Fin 512) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨2560 + j.val, by omega⟩) = g (ix2 k j) := by
  pointwise
  rw [dif_neg (by omega), dif_neg (by omega), dif_neg (by omega), dif_neg (by omega), dif_neg (by omega), dif_neg (by omega), dif_pos (by omega)]
  exact congrArg (fun q => g (ix2 k q)) (Fin.ext (by show 2560 + j.val - 512 - 512 - 512 - 256 - 256 - 512 = j.val; omega))

theorem cat_gate (a b c : FVec Ideal S1024x512 .f32) (d e : FVec Ideal S1024x256 .f32) (f g : FVec Ideal S1024x512 .f32) (h : FVec Ideal S1024x128 .f32)
    (k : Fin 1024) (j : Fin 128) :
    truncf (F := Ideal) .bf16 (concatenate S1024x3200 1 [⟨S1024x512, a⟩, ⟨S1024x512, b⟩, ⟨S1024x512, c⟩, ⟨S1024x256, d⟩, ⟨S1024x256, e⟩,
      ⟨S1024x512, f⟩, ⟨S1024x512, g⟩, ⟨S1024x128, h⟩] concatenates_S1024x512_S1024x512_S1024x512_S1024x256_S1024x256_S1024x512_S1024x512_S1024x128_S1024x3200_d1) bitsLt_bf16_f32
      (ix2 k ⟨3072 + j.val, by omega⟩) = h (ix2 k j) := by
  pointwise
  rw [dif_neg (by omega), dif_neg (by omega), dif_neg (by omega), dif_neg (by omega), dif_neg (by omega), dif_neg (by omega), dif_neg (by omega)]
  exact congrArg (fun q => h (ix2 k q)) (Fin.ext (by show 3072 + j.val - 512 - 512 - 512 - 256 - 256 - 512 - 512 = j.val; omega))

/-- The gates' columns, likewise. -/
theorem cat_ff (a : FVec Ideal S1024x8 .f32) (b c : FVec Ideal S1024x4 .f32) (d : FVec Ideal S1024x112 .f32)
    (k : Fin 1024) (j : Fin 8) :
    concatenate S1024x128 1 [⟨S1024x8, a⟩, ⟨S1024x4, b⟩, ⟨S1024x4, c⟩, ⟨S1024x112, d⟩] concatenates_S1024x8_S1024x4_S1024x4_S1024x112_S1024x128_d1
      (ix2 k ⟨j.val, by omega⟩) = a (ix2 k j) := by
  pointwise

theorem cat_mi (a : FVec Ideal S1024x8 .f32) (b c : FVec Ideal S1024x4 .f32) (d : FVec Ideal S1024x112 .f32)
    (k : Fin 1024) (j : Fin 4) :
    concatenate S1024x128 1 [⟨S1024x8, a⟩, ⟨S1024x4, b⟩, ⟨S1024x4, c⟩, ⟨S1024x112, d⟩] concatenates_S1024x8_S1024x4_S1024x4_S1024x112_S1024x128_d1
      (ix2 k ⟨8 + j.val, by omega⟩) = b (ix2 k j) := by
  pointwise

theorem cat_mf (a : FVec Ideal S1024x8 .f32) (b c : FVec Ideal S1024x4 .f32) (d : FVec Ideal S1024x112 .f32)
    (k : Fin 1024) (j : Fin 4) :
    concatenate S1024x128 1 [⟨S1024x8, a⟩, ⟨S1024x4, b⟩, ⟨S1024x4, c⟩, ⟨S1024x112, d⟩] concatenates_S1024x8_S1024x4_S1024x4_S1024x112_S1024x128_d1
      (ix2 k ⟨12 + j.val, by omega⟩) = c (ix2 k j) := by
  pointwise
  rw [dif_neg (by omega), dif_neg (by omega), dif_pos (by omega)]
  exact congrArg (fun q => c (ix2 k q)) (Fin.ext (by show 12 + j.val - 8 - 4 = j.val; omega))

/-- The columns of the weights. -/
theorem fk_col (c : Dev nD) (k : Fin 1024) (j : Fin 512) :
    (V m c main_v19 : Vec Ideal S1024x3200 .bf16) (ix2 k ⟨512 + j.val, by omega⟩) = wA m c (ix3 0 k ⟨512 + j.val, by omega⟩) := by
  unfold V
  after_reads_simp
  refine (cat_fk _ _ _ _ _ _ _ _ k j).trans ?_
  show StableHlo.upto hostOps0 (fun b => m (c, b)) _ (Proc.tc.devRef main_v2) (ix2 k j) = _
  after_reads_simp
  pointwise

theorem fv_col (c : Dev nD) (k : Fin 1024) (j : Fin 512) :
    (V m c main_v19 : Vec Ideal S1024x3200 .bf16) (ix2 k ⟨1024 + j.val, by omega⟩) = wA m c (ix3 0 k ⟨1024 + j.val, by omega⟩) := by
  unfold V
  after_reads_simp
  refine (cat_fv _ _ _ _ _ _ _ _ k j).trans ?_
  show StableHlo.upto hostOps0 (fun b => m (c, b)) _ (Proc.tc.devRef main_v3) (ix2 k j) = _
  after_reads_simp
  pointwise

theorem mv_col (c : Dev nD) (k : Fin 1024) (j : Fin 512) :
    (V m c main_v19 : Vec Ideal S1024x3200 .bf16) (ix2 k ⟨2048 + j.val, by omega⟩) = wA m c (ix3 0 k ⟨2056 + j.val, by omega⟩) := by
  unfold V
  after_reads_simp
  refine (cat_mv _ _ _ _ _ _ _ _ k j).trans ?_
  show StableHlo.upto hostOps0 (fun b => m (c, b)) _ (Proc.tc.devRef main_v7) (ix2 k j) = _
  after_reads_simp
  pointwise

theorem mo_col (c : Dev nD) (k : Fin 1024) (j : Fin 512) :
    (V m c main_v19 : Vec Ideal S1024x3200 .bf16) (ix2 k ⟨2560 + j.val, by omega⟩) = wA m c (ix3 0 k ⟨2568 + j.val, by omega⟩) := by
  unfold V
  after_reads_simp
  refine (cat_mo _ _ _ _ _ _ _ _ k j).trans ?_
  show StableHlo.upto hostOps0 (fun b => m (c, b)) _ (Proc.tc.devRef main_v8) (ix2 k j) = _
  after_reads_simp
  pointwise

theorem ff_col (c : Dev nD) (k : Fin 1024) (j : Fin 8) :
    (V m c main_v19 : Vec Ideal S1024x3200 .bf16) (ix2 k ⟨3072 + j.val, by omega⟩) = wA m c (ix3 0 k ⟨1536 + j.val, by omega⟩) := by
  unfold V
  after_reads_simp
  refine (cat_gate _ _ _ _ _ _ _ _ k ⟨j.val, by omega⟩).trans ?_
  show StableHlo.upto hostOps0 (fun b => m (c, b)) _ (Proc.tc.devRef main_v12) (ix2 k ⟨j.val, by omega⟩) = _
  after_reads_simp
  refine (cat_ff _ _ _ _ k j).trans ?_
  show (StableHlo.unary main_v0 main_v4 (fun x => extractStridedSlice S1024x8 ![0, 1536] x slices_S1024x3088_S1024x8_0_1536) _ _).result
    _ (Proc.tc.devRef main_v4) (ix2 k j) = _
  after_reads_simp
  pointwise

theorem mi_col (c : Dev nD) (k : Fin 1024) (j : Fin 4) :
    (V m c main_v19 : Vec Ideal S1024x3200 .bf16) (ix2 k ⟨3072 + (8 + j.val), by omega⟩) = wA m c (ix3 0 k ⟨3080 + j.val, by omega⟩) := by
  unfold V
  after_reads_simp
  refine (cat_gate _ _ _ _ _ _ _ _ k ⟨8 + j.val, by omega⟩).trans ?_
  show StableHlo.upto hostOps0 (fun b => m (c, b)) _ (Proc.tc.devRef main_v12) (ix2 k ⟨8 + j.val, by omega⟩) = _
  after_reads_simp
  refine (cat_mi _ _ _ _ k j).trans ?_
  show (StableHlo.unary main_v0 main_v9 (fun x => extractStridedSlice S1024x4 ![0, 3080] x slices_S1024x3088_S1024x4_0_3080) _ _).result
    _ (Proc.tc.devRef main_v9) (ix2 k j) = _
  after_reads_simp
  pointwise

theorem mf_col (c : Dev nD) (k : Fin 1024) (j : Fin 4) :
    (V m c main_v19 : Vec Ideal S1024x3200 .bf16) (ix2 k ⟨3072 + (12 + j.val), by omega⟩) = wA m c (ix3 0 k ⟨3084 + j.val, by omega⟩) := by
  unfold V
  after_reads_simp
  refine (cat_gate _ _ _ _ _ _ _ _ k ⟨12 + j.val, by omega⟩).trans ?_
  show StableHlo.upto hostOps0 (fun b => m (c, b)) _ (Proc.tc.devRef main_v12) (ix2 k ⟨12 + j.val, by omega⟩) = _
  after_reads_simp
  refine (cat_mf _ _ _ _ k j).trans ?_
  show (StableHlo.unary main_v0 main_v10 (fun x => extractStridedSlice S1024x4 ![0, 3084] x slices_S1024x3088_S1024x4_0_3084) _ _).result
    _ (Proc.tc.devRef main_v10) (ix2 k j) = _
  after_reads_simp
  pointwise

theorem ff_bias (c : Dev nD) (j : Fin 8) :
    (V m c main_v24 : Vec Ideal S1x128 .f32) (ix2 0 ⟨j.val, by omega⟩) = fA m c (ix2 0 j) := by
  unfold V
  after_reads_simp
  pointwise
  after_reads_simp
  pointwise

theorem mi_bias (c : Dev nD) (j : Fin 4) :
    (V m c main_v24 : Vec Ideal S1x128 .f32) (ix2 0 ⟨8 + j.val, by omega⟩) = iA m c (ix2 0 j) := by
  unfold V
  after_reads_simp
  pointwise
  after_reads_simp
  pointwise

theorem mf_bias (c : Dev nD) (j : Fin 4) :
    (V m c main_v24 : Vec Ideal S1x128 .f32) (ix2 0 ⟨12 + j.val, by omega⟩) = mA m c (ix2 0 j) := by
  unfold V
  after_reads_simp
  pointwise
  rw [dif_neg (by omega), dif_neg (by omega), dif_pos (by omega)]
  after_reads_simp
  pointwise
  exact congrArg (fun q => mA m c (ix2 0 q)) (Fin.ext (by show 12 + j.val - 8 - 4 = j.val; omega))

/-- The blocks are the host's arrays' parts. -/
theorem xB_at (c : Dev nD) (t : Fin cfg0.N) (r : Fin 16) (k : Fin 1024) :
    xB m c t (ix2 r k) = xA m c (ix3 (seq (row t r)) (tok (row t r)) k) := by
  refine Eq.trans ?_ (x_row m c (row t r) k)
  unfold xB iblk row
  blk_ext [idx t]

theorem gB_at (c : Dev nD) (t : Fin cfg0.N) (k : Fin 1024) : gB m c t (ix2 0 k) = gA m c (ix2 0 k) := by
  refine Eq.trans ?_ (gain_row m c k)
  unfold gB iblk
  blk_ext [idx t]

theorem wB_at (c : Dev nD) (t : Fin cfg0.N) (k : Fin 1024) (j : Fin 3200) :
    wB m c t (ix2 k j) = (V m c main_v19 : Vec Ideal S1024x3200 .bf16) (ix2 k j) := by
  unfold wB iblk
  blk_ext [idx t]

theorem bB_at (c : Dev nD) (t : Fin cfg0.N) (l : Fin 128) :
    bB m c t (ix2 0 l) = (V m c main_v24 : Vec Ideal S1x128 .f32) (ix2 0 l) := by
  unfold bB iblk
  blk_ext [idx t]

end Cert.Kernel6Ideal.Even

end
-- ==== Proof.SampleEvenValue.lean ====
/-
  The projections of the even layer on the samples: the five named result arrays of the kernel after its run.
-/
module

public import proofs.«01_k».proof.Proof.SampleEvenReads

@[expose] public section

set_option maxRecDepth 16384

noncomputable section

namespace Cert.Kernel6Ideal.Even

open Idealize.ShloMosaic Idealize.ShloMosaic.TcCoe Idealize.SL.Sem
open Idealize.ShloMosaic.Pipeline (Dat)
open Cert.Kernel6Ideal Cert.Kernel6Ideal.Gen Cert.Layer

variable (m : (ℓ : Loc nD τ sig) → Buf (Elt Ideal) ℓ)

/-- One projection of a row's token, in the arguments' order of columns. -/
def col (c : Dev nD) (n : Fin 128) (j : Fin 3088) : EReal :=
  proj (fun i => xA m c (ix3 (seq n) (tok n) i)) (fun i => gA m c (ix2 0 i)) (fun k j => wA m c (ix3 0 k j)) j

/-- The product a point forms, of its staged blocks. -/
def prod (c : Dev nD) (t : Fin cfg0.N) : FVec Ideal S16x3200 .f32 :=
  k0_pay6 (F := Ideal) (xB m c t) (gB m c t) (wB m c t)

/-- Where the host's column `j` is the arguments' column `i`, the product's entry is that projection. -/
theorem prod_col (c : Dev nD) (t : Fin cfg0.N) (r : Fin 16) (j : Fin 3200) (i : Fin 3088)
    (h : ∀ k : Fin 1024, (V m c main_v19 : Vec Ideal S1024x3200 .bf16) (ix2 k j) = wA m c (ix3 0 k i)) :
    prod m c t (ix2 r j) = col m c (row t r) i := by
  unfold prod col
  rw [prod_at]
  simp only [proj, xB_at, gB_at, wB_at, h]

/-- A pre-activation of a gate. -/
theorem pre_col (c : Dev nD) (t : Fin cfg0.N) (r : Fin 16) (l : Fin 128) (i : Fin 3088) (b : EReal)
    (h : ∀ k : Fin 1024, (V m c main_v19 : Vec Ideal S1024x3200 .bf16) (ix2 k ⟨3072 + l.val, by omega⟩) = wA m c (ix3 0 k i))
    (hb : (V m c main_v24 : Vec Ideal S1x128 .f32) (ix2 0 l) = b) :
    k0_pay9 (F := Ideal) (k0_pay7 (xB m c t) (gB m c t) (wB m c t)) (k0_pay8 (bB m c t)) (ix2 r l)
      = col m c (row t r) i + b := by
  rw [pre_at, bB_at, hb]
  exact congrArg (· + b) (prod_col m c t r _ i h)

/-- The gates a point stores, of its staged blocks. -/
def gate (c : Dev nD) (t : Fin cfg0.N) : FVec Ideal S16x128 .f32 :=
  gates (F := Ideal) (xB m c t) (gB m c t) (wB m c t) (bB m c t)

theorem gate_ff (c : Dev nD) (t : Fin cfg0.N) (r : Fin 16) (l : Fin 8) :
    gate m c t (ix2 r ⟨l.val, by omega⟩) = lsig (col m c (row t r) ⟨1536 + l.val, by omega⟩ + fA m c (ix2 0 l)) := by
  unfold gate gates
  rw [lane_at, if_neg (fun h => absurd h.1 (by show ¬ 8 ≤ l.val; omega)), if_pos (by show l.val < 16; omega), log_at,
    pre_col m c t r _ _ _ (fun k => ff_col m c k l) (ff_bias m c l)]

theorem gate_mi (c : Dev nD) (t : Fin cfg0.N) (r : Fin 16) (l : Fin 4) :
    gate m c t (ix2 r ⟨8 + l.val, by omega⟩) = col m c (row t r) ⟨3080 + l.val, by omega⟩ + iA m c (ix2 0 l) := by
  unfold gate gates
  rw [lane_at, if_pos (by show 8 ≤ 8 + l.val ∧ 8 + l.val < 12; omega),
    pre_col m c t r _ _ _ (fun k => mi_col m c k l) (mi_bias m c l)]

theorem gate_mf (c : Dev nD) (t : Fin cfg0.N) (r : Fin 16) (l : Fin 4) :
    gate m c t (ix2 r ⟨12 + l.val, by omega⟩)
      = lsig (col m c (row t r) ⟨3084 + l.val, by omega⟩ + mA m c (ix2 0 l)) := by
  unfold gate gates
  rw [lane_at, if_neg (fun h => absurd h.2 (by show ¬ 12 + l.val < 12; omega)), if_pos (by show 12 + l.val < 16; omega),
    log_at, pre_col m c t r _ _ _ (fun k => mf_col m c k l) (mf_bias m c l)]

theorem gate_none (c : Dev nD) (t : Fin cfg0.N) (r : Fin 16) (l : Fin 112) :
    gate m c t (ix2 r ⟨16 + l.val, by omega⟩) = 0 := by
  unfold gate gates
  rw [lane_at, if_neg (fun h => absurd h.2 (by show ¬ 16 + l.val < 12; omega)), if_neg (by show ¬ 16 + l.val < 16; omega)]

/-- The keys' array after the run. -/
theorem fk_final (c : Dev nD) (X : Vec Ideal S128x512 .f32)
    (hX : ∀ n (k : Fin 512), X (ix2 n k) = col m c n ⟨512 + k.val, by omega⟩) : (dats m 0 c).arrAt 7 cfg0.N = X := by
  refine (dats m 0 c).arrAt_eq_of_covers 7 _ (by decide +kernel) fun t hf y => ?_
  rw [after0_7]
  have hb : ∀ (r : Fin 16) (k : Fin 512), k0_pay18 (prod m c t) (ix2 r k) = X (ix2 (row t r) k) :=
    fun r k => ((fk_at _ r k).trans (prod_col m c t r _ _ fun i => fk_col m c i k)).trans (hX _ _).symm
  change k0_pay18 (prod m c t) y = _
  generalize k0_pay18 (prod m c t) = Y at hb ⊢
  have hy : (y : S16x512.Idx) = ix2 (y 0) (y 1) := by
    funext a
    fin_cases a <;> rfl
  rw [hy]
  refine (hb (y 0) (y 1)).trans ?_
  unfold row
  blk_ext [idx t]

/-- The values' array after the run. -/
theorem fv_final (c : Dev nD) (X : Vec Ideal S128x512 .f32)
    (hX : ∀ n (k : Fin 512), X (ix2 n k) = col m c n ⟨1024 + k.val, by omega⟩) : (dats m 0 c).arrAt 8 cfg0.N = X := by
  refine (dats m 0 c).arrAt_eq_of_covers 8 _ (by decide +kernel) fun t hf y => ?_
  rw [after0_8]
  have hb : ∀ (r : Fin 16) (k : Fin 512), k0_pay19 (prod m c t) (ix2 r k) = X (ix2 (row t r) k) :=
    fun r k => ((fv_at _ r k).trans (prod_col m c t r _ _ fun i => fv_col m c i k)).trans (hX _ _).symm
  change k0_pay19 (prod m c t) y = _
  generalize k0_pay19 (prod m c t) = Y at hb ⊢
  have hy : (y : S16x512.Idx) = ix2 (y 0) (y 1) := by
    funext a
    fin_cases a <;> rfl
  rw [hy]
  refine (hb (y 0) (y 1)).trans ?_
  unfold row
  blk_ext [idx t]

/-- The matrix memory's values after the run. -/
theorem mv_final (c : Dev nD) (X : Vec Ideal S128x512 .bf16)
    (hX : ∀ n (k : Fin 512), X (ix2 n k) = col m c n ⟨2056 + k.val, by omega⟩) : (dats m 0 c).arrAt 12 cfg0.N = X := by
  refine (dats m 0 c).arrAt_eq_of_covers 12 _ (by decide +kernel) fun t hf y => ?_
  rw [after0_12]
  have hb : ∀ (r : Fin 16) (k : Fin 512), k0_pay3 (prod m c t) (ix2 r k) = X (ix2 (row t r) k) :=
    fun r k => ((mv_at _ r k).trans (prod_col m c t r _ _ fun i => mv_col m c i k)).trans (hX _ _).symm
  change k0_pay3 (prod m c t) y = _
  generalize k0_pay3 (prod m c t) = Y at hb ⊢
  have hy : (y : S16x512.Idx) = ix2 (y 0) (y 1) := by
    funext a
    fin_cases a <;> rfl
  rw [hy]
  refine (hb (y 0) (y 1)).trans ?_
  unfold row
  blk_ext [idx t]

/-- The output gate's projections after the run. -/
theorem mo_final (c : Dev nD) (X : Vec Ideal S128x512 .bf16)
    (hX : ∀ n (k : Fin 512), X (ix2 n k) = col m c n ⟨2568 + k.val, by omega⟩) : (dats m 0 c).arrAt 13 cfg0.N = X := by
  refine (dats m 0 c).arrAt_eq_of_covers 13 _ (by decide +kernel) fun t hf y => ?_
  rw [after0_13]
  have hb : ∀ (r : Fin 16) (k : Fin 512), k0_pay4 (prod m c t) (ix2 r k) = X (ix2 (row t r) k) :=
    fun r k => ((mo_at _ r k).trans (prod_col m c t r _ _ fun i => mo_col m c i k)).trans (hX _ _).symm
  change k0_pay4 (prod m c t) y = _
  generalize k0_pay4 (prod m c t) = Y at hb ⊢
  have hy : (y : S16x512.Idx) = ix2 (y 0) (y 1) := by
    funext a
    fin_cases a <;> rfl
  rw [hy]
  refine (hb (y 0) (y 1)).trans ?_
  unfold row
  blk_ext [idx t]

/-- The gates' array after the run. -/
theorem gates_final (c : Dev nD) (X : Vec Ideal S128x128 .f32)
    (hX : ∀ t (r : Fin 16) (l : Fin 128), gate m c t (ix2 r l) = X (ix2 (row t r) l)) : (dats m 0 c).arrAt 14 cfg0.N = X := by
  refine (dats m 0 c).arrAt_eq_of_covers 14 _ (by decide +kernel) fun t hf y => ?_
  rw [after0_14]
  have hb := hX t
  change gate m c t y = _
  generalize gate m c t = Y at hb ⊢
  have hy : (y : S16x128.Idx) = ix2 (y 0) (y 1) := by
    funext a
    fin_cases a <;> rfl
  rw [hy]
  refine (hb (y 0) (y 1)).trans ?_
  unfold row
  blk_ext [idx t]

end Cert.Kernel6Ideal.Even

end
-- ==== Proof.SampleEvenTie.lean ====
/-
  The projections of the even layer on the samples: the kernel's five named result arrays are the reference's five results
  of the same arguments.
-/
module

public import proofs.«01_k».proof.Proof.SampleEvenRef
public import proofs.«01_k».proof.Proof.SampleEvenValue

@[expose] public section

set_option maxRecDepth 16384

noncomputable section

namespace Cert.SampleEvenTie

open Idealize.ShloMosaic Idealize.ShloMosaic.TcCoe
open Cert.Kernel6Ideal.Even

variable (m : (ℓ : Loc Cert.Kernel6Ideal.nD Cert.Kernel6Ideal.τ Cert.Kernel6Ideal.sig) → Buf (Elt Ideal) ℓ) (c : Dev Cert.Kernel6Ideal.nD)

theorem fk : (Cert.Kernel6Ideal.Gen.dats m 0 c).arrAt 7 Cert.Kernel6Ideal.cfg0.N
    = Cert.Reference6Ideal.Read.val_main_v43 (F := Ideal) (xA m c) (gA m c) (wA m c) :=
  fk_final m c _ fun n k => Cert.Reference6Ideal.Even.fk_at _ _ _ n k

theorem fv : (Cert.Kernel6Ideal.Gen.dats m 0 c).arrAt 8 Cert.Kernel6Ideal.cfg0.N
    = Cert.Reference6Ideal.Read.val_main_v44 (F := Ideal) (xA m c) (gA m c) (wA m c) :=
  fv_final m c _ fun n k => Cert.Reference6Ideal.Even.fv_at _ _ _ n k

theorem mv : (Cert.Kernel6Ideal.Gen.dats m 0 c).arrAt 12 Cert.Kernel6Ideal.cfg0.N
    = Cert.Reference6Ideal.Read.val_main_v46 (F := Ideal) (xA m c) (gA m c) (wA m c) :=
  mv_final m c _ fun n k => Cert.Reference6Ideal.Even.mv_at _ _ _ n k

theorem mo : (Cert.Kernel6Ideal.Gen.dats m 0 c).arrAt 13 Cert.Kernel6Ideal.cfg0.N
    = Cert.Reference6Ideal.Read.val_main_v48 (F := Ideal) (xA m c) (gA m c) (wA m c) :=
  mo_final m c _ fun n k => Cert.Reference6Ideal.Even.mo_at _ _ _ n k

theorem gates : (Cert.Kernel6Ideal.Gen.dats m 0 c).arrAt 14 Cert.Kernel6Ideal.cfg0.N
    = Cert.Reference6Ideal.Read.val_main_v49 (F := Ideal) (xA m c) (gA m c) (wA m c) (fA m c) (iA m c) (mA m c) := by
  refine gates_final m c _ fun t r l => ?_
  by_cases h8 : l.val < 8
  · exact (gate_ff m c t r ⟨l.val, h8⟩).trans (Cert.Reference6Ideal.Even.gates_ff _ _ _ _ _ _ (row t r) ⟨l.val, h8⟩).symm
  by_cases h12 : l.val < 12
  · obtain ⟨k, rfl⟩ : ∃ k : Fin 4, l = ⟨8 + k.val, by clear h8 h12; omega⟩ :=
      ⟨⟨l.val - 8, by omega⟩, Fin.ext (by show l.val = 8 + (l.val - 8); omega)⟩
    exact (gate_mi m c t r k).trans (Cert.Reference6Ideal.Even.gates_mi _ _ _ _ _ _ (row t r) k).symm
  by_cases h16 : l.val < 16
  · obtain ⟨k, rfl⟩ : ∃ k : Fin 4, l = ⟨12 + k.val, by clear h8 h12 h16; omega⟩ :=
      ⟨⟨l.val - 12, by omega⟩, Fin.ext (by show l.val = 12 + (l.val - 12); omega)⟩
    exact (gate_mf m c t r k).trans (Cert.Reference6Ideal.Even.gates_mf _ _ _ _ _ _ (row t r) k).symm
  · obtain ⟨k, rfl⟩ : ∃ k : Fin 112, l = ⟨16 + k.val, by clear h8 h12 h16; omega⟩ :=
      ⟨⟨l.val - 16, by omega⟩, Fin.ext (by show l.val = 16 + (l.val - 16); omega)⟩
    exact (gate_none m c t r k).trans (Cert.Reference6Ideal.Even.gates_none _ _ _ _ _ _ (row t r) k).symm

end Cert.SampleEvenTie

end
-- ==== Proof.SampleOddRef.lean ====
/-
  The convolution mixer's reference on the samples, read at one sequence, token and channel.
-/
module

public import proofs.«01_k».proof.Proof.Conv
public import proofs.«01_k».proof.Proof.Gen.Reference7Ideal.Read

@[expose] public section

set_option maxRecDepth 16384

noncomputable section

namespace Cert.Reference7Ideal.Odd

open Idealize.ShloMosaic Idealize.ShloMosaic.TcCoe
open Cert.Reference7Ideal Cert.Reference7Ideal.Read Cert.Layer

variable (x : FVec Ideal S8x16x1024 .f32) (g : FVec Ideal S2x1024 .f32) (w : FVec Ideal S1x1024x3072 .f32)
  (cw : FVec Ideal S1x3x1024 .f32) (wo : FVec Ideal S1x1024x1024 .f32) (s : FVec Ideal S1x8x2x1024 .f32)

/-- The normalised tokens. -/
theorem norm_at (b : Fin 8) (n : Fin 16) (k : Fin 1024) :
    val_main_v14 (F := Ideal) x g (ix3 b n k) = rms (fun i => x (ix3 b n i)) (fun i => g (ix2 1 i)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [rms, scale, zero_add]

/-- The tokens' projections. -/
theorem proj_at (b : Fin 8) (n : Fin 16) (j : Fin 3072) :
    val_main_v19 (F := Ideal) x g w (ix3 b n j) = proj (fun i => x (ix3 b n i)) (fun i => g (ix2 1 i)) (fun k j => w (ix3 0 k j)) j := by
  have e : val_main_v19 (F := Ideal) x g w (ix3 b n j)
      = ∑ k : Fin 1024, val_main_v14 (F := Ideal) x g (ix3 b n k) * w (ix3 0 k j) := by
    pointwise [val_main_v19, val_main_v15]
  rw [e]
  simp only [norm_at, proj]

/-- What each token puts on the tape. -/
theorem hid_at (b : Fin 8) (n : Fin 16) (f : Fin 1024) :
    val_main_v23 (F := Ideal) x g w (ix3 b n f) = hid (fun i => x (ix3 b n i)) (fun i => g (ix2 1 i)) (fun k j => w (ix3 0 k j)) f := by
  have e : val_main_v23 (F := Ideal) x g w (ix3 b n f)
      = val_main_v19 (F := Ideal) x g w (ix3 b n ⟨1024 + f.val, by omega⟩)
        * val_main_v19 (F := Ideal) x g w (ix3 b n ⟨2048 + f.val, by omega⟩) := by
    pointwise [val_main_v23, val_main_v22, val_main_v21]
  rw [e]
  simp only [proj_at, hid]

/-- The tape: two rows of history, then the tokens. -/
theorem tape_at (b : Fin 8) (p : Fin 18) (f : Fin 1024) :
    val_main_v24 (F := Ideal) x g w s (ix3 b p f) = tape (fun q f => s (ix4 0 b q f)) (fun n i => x (ix3 b n i)) (fun i => g (ix2 1 i)) (fun k j => w (ix3 0 k j)) p.val f := by
  by_cases h : p.val < 2
  · rw [tape_past _ _ _ _ _ h]
    pointwise [val_main_v24, val_main_v18]
    exact dif_pos h
  · rw [tape_token _ _ _ _ ⟨p.val - 2, by omega⟩ _ (by show p.val = p.val - 2 + 2; omega), ← hid_at]
    pointwise [val_main_v24]
    exact dif_neg h

/-- The three taps' sum. -/
theorem taps_at (b : Fin 8) (n : Fin 16) (f : Fin 1024) :
    val_main_v44 (F := Ideal) x g w cw s (ix3 b n f)
      = cw (ix3 0 0 f) * tape (fun q f => s (ix4 0 b q f)) (fun n i => x (ix3 b n i)) (fun i => g (ix2 1 i)) (fun k j => w (ix3 0 k j)) n.val f
        + cw (ix3 0 1 f) * tape (fun q f => s (ix4 0 b q f)) (fun n i => x (ix3 b n i)) (fun i => g (ix2 1 i)) (fun k j => w (ix3 0 k j)) (n.val + 1) f
        + cw (ix3 0 2 f) * tape (fun q f => s (ix4 0 b q f)) (fun n i => x (ix3 b n i)) (fun i => g (ix2 1 i)) (fun k j => w (ix3 0 k j)) (n.val + 2) f := by
  have e : val_main_v44 (F := Ideal) x g w cw s (ix3 b n f)
      = cw (ix3 0 0 f) * val_main_v24 (F := Ideal) x g w s (ix3 b ⟨n.val, by omega⟩ f)
        + cw (ix3 0 1 f) * val_main_v24 (F := Ideal) x g w s (ix3 b ⟨1 + n.val, by omega⟩ f)
        + cw (ix3 0 2 f) * val_main_v24 (F := Ideal) x g w s (ix3 b ⟨2 + n.val, by omega⟩ f) := by
    pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v16]
  rw [e]
  simp only [tape_at, Nat.add_comm]

/-- The mixer's output. -/
theorem out_at (b : Fin 8) (n : Fin 16) (c : Fin 1024) :
    val_main_v48 (F := Ideal) x g w cw wo s (ix3 b n c)
      = mix (fun q f => s (ix4 0 b q f)) (fun n i => x (ix3 b n i)) (fun i => g (ix2 1 i)) (fun k j => w (ix3 0 k j)) (fun q f => cw (ix3 0 q f)) (fun f c => wo (ix3 0 f c)) n c := by
  have e : val_main_v48 (F := Ideal) x g w cw wo s (ix3 b n c)
      = x (ix3 b n c) + ∑ f : Fin 1024, (val_main_v19 (F := Ideal) x g w (ix3 b n ⟨f.val, by omega⟩)
          * val_main_v44 (F := Ideal) x g w cw s (ix3 b n f)) * wo (ix3 0 f c) := by
    pointwise [val_main_v48, val_main_v46, val_main_v45, val_main_v20, val_main_v17]
  rw [e]
  simp only [taps_at, proj_at, mix]

/-- The tape's last eight rows. -/
theorem last_at (b : Fin 8) (q : Fin 8) (f : Fin 1024) :
    val_main_v47 (F := Ideal) x g w s (ix3 b q f) = tape (fun q f => s (ix4 0 b q f)) (fun n i => x (ix3 b n i)) (fun i => g (ix2 1 i)) (fun k j => w (ix3 0 k j)) (10 + q.val) f := by
  have e : val_main_v47 (F := Ideal) x g w s (ix3 b q f)
      = val_main_v24 (F := Ideal) x g w s (ix3 b ⟨10 + q.val, by omega⟩ f) := by
    pointwise [val_main_v47]
  rw [e, tape_at]

end Cert.Reference7Ideal.Odd

end
-- ==== Proof.SampleOddBlock.lean ====
/-
  The convolution mixer's kernel on the samples, one tile: its stored values and its scratch at an index.
-/
module

public import proofs.«01_k».proof.Proof.Conv
public import proofs.«01_k».proof.Proof.Gen.Kernel7Ideal.Value

@[expose] public section

set_option maxRecDepth 16384

noncomputable section

namespace Cert.Kernel7Ideal.Odd

open Idealize.ShloMosaic Idealize.ShloMosaic.TcCoe
open Cert.Kernel7Ideal Cert.Kernel7Ideal.Gen Cert.Layer

variable (x : Vec Ideal S1x16x1024 .f32) (g : Vec Ideal S1x1024 .f32) (w : Vec Ideal S1024x3072 .bf16)

theorem token_at (r : Fin 16) (k : Fin 1024) : k0_pay5 (F := Ideal) x (ix2 r k) = x (ix3 0 r k) := by
  pointwise [k0_pay5]

theorem proj_at (r : Fin 16) (j : Fin 3072) :
    k0_pay6 (F := Ideal) x g w (ix2 r j)
      = proj (fun i => x (ix3 0 r i)) (fun i => g (ix2 0 i)) (fun k j => w (ix2 k j)) j := by
  pointwise [k0_pay6]
  simp only [token_at]
  rfl

theorem gate_at (r : Fin 16) (f : Fin 1024) :
    k0_pay7 (F := Ideal) x g w (ix2 r f)
      = proj (fun i => x (ix3 0 r i)) (fun i => g (ix2 0 i)) (fun k j => w (ix2 k j)) ⟨f.val, by omega⟩ := by
  rw [← proj_at]
  pointwise [k0_pay7]

theorem hid_at (r : Fin 16) (f : Fin 1024) :
    k0_pay8 (F := Ideal) x g w (ix2 r f)
      = hid (fun i => x (ix3 0 r i)) (fun i => g (ix2 0 i)) (fun k j => w (ix2 k j)) f := by
  unfold hid
  rw [← proj_at, ← proj_at]
  pointwise [k0_pay8]

theorem stored_at (r : Fin 16) (f : Fin 1024) :
    k0_pay9 (F := Ideal) x g w (ix2 r f)
      = hid (fun i => x (ix3 0 r i)) (fun i => g (ix2 0 i)) (fun k j => w (ix2 k j)) f := by
  rw [← hid_at]
  pointwise [k0_pay9]

theorem tap_at (v : Vec Ideal S1x1024 .f32) (k : Fin 1024) : k0_pay10 (F := Ideal) v (ix2 0 k) = v (ix2 0 k) := by
  pointwise [k0_pay10]

/-- The history a sequence starts from. -/
theorem past_at (v : Vec Ideal S1x8x1024 .f32) (q : Fin 8) (k : Fin 1024) :
    k0_pay3 (F := Ideal) v (ix2 q k) = v (ix3 0 q k) := by
  pointwise [k0_pay3]

/-- The rows carried from one tile to the next. -/
theorem carry_at (v : Vec Ideal S8x1024 .f32) (q : Fin 8) (k : Fin 1024) :
    k0_pay4 (F := Ideal) v (ix2 q k) = v (ix2 q k) := by
  pointwise [k0_pay4]

/-- The rows returned as the state. -/
theorem state_at (v : Vec Ideal S8x1024 .f32) (q : Fin 8) (k : Fin 1024) :
    k0_pay2 (F := Ideal) v (ix3 0 q k) = v (ix2 q k) := by
  pointwise [k0_pay2]

/-- The stored output at a token and a channel. -/
theorem out_at (v7 v26 v29 : FVec Ideal S16x1024 .f32) (v34 : FVec Ideal S1x1024 .f32) (v35 : Vec Ideal S16x1024 .f32)
    (v38 : Vec Ideal S1x1024 .f32) (v40 : Vec Ideal S16x1024 .f32) (v44 : Vec Ideal S1x1024 .f32)
    (v51 : Vec Ideal S1024x1024 .bf16) (r : Fin 16) (k : Fin 1024) :
    k0_pay1 (F := Ideal) v7 v26 v29 v34 v35 v38 v40 v44 v51 (ix3 0 r k)
      = v7 (ix2 r k) + ∑ f : Fin 1024, (v26 (ix2 r f) * (v34 (ix2 0 f) * v35 (ix2 r f) + v38 (ix2 0 f) * v40 (ix2 r f)
          + v44 (ix2 0 f) * v29 (ix2 r f))) * v51 (ix2 f k) := by
  pointwise [k0_pay1]

/-- The scratch: eight rows of history `p`, then a tile's rows `u`. -/
def padded (u : Vec Ideal S16x1024 .f32) (p : Vec Ideal S8x1024 .f32) : Vec Ideal S24x1024 .f32 := fun y =>
  if h : (y 0).val < 8 then p (ix2 ⟨(y 0).val, h⟩ (y 1))
  else u (ix2 ⟨(y 0).val - 8, by have : (y 0).val < 24 := (y 0).isLt; omega⟩ (y 1))

theorem padded_low (u : Vec Ideal S16x1024 .f32) (p : Vec Ideal S8x1024 .f32) (y : Fin 24) (h : y.val < 8) (f : Fin 1024) :
    padded u p (ix2 y f) = p (ix2 ⟨y.val, h⟩ f) := dif_pos h

theorem padded_high (u : Vec Ideal S16x1024 .f32) (p : Vec Ideal S8x1024 .f32) (y : Fin 24) (r : Fin 16) (h : y.val = r.val + 8)
    (f : Fin 1024) : padded u p (ix2 y f) = u (ix2 r f) := by
  refine (dif_neg (show ¬y.val < 8 by omega)).trans ?_
  refine congrArg (fun r => u (ix2 r f)) (Fin.ext ?_)
  show y.val - 8 = r.val
  omega

/-- A tile's rows stored above the history are the padded tile. -/
theorem canon_padded (u : Vec Ideal S16x1024 .f32) (p : Vec Ideal S8x1024 .f32) :
    View.canon (Val := Elt Ideal) (s := S24x1024) (e := .f32)
      [⟨Rect.unit ![8, 0] ![16, 1024] inb_S24x1024_S16x1024_8_0, u⟩,
        ⟨Rect.unit ![0, 0] ![8, 1024] inb_S24x1024_S8x1024_0_0, p⟩] = padded u p := by
  funext y
  have hy : y = ix2 (y 0) (y 1) := by funext a; fin_cases a <;> rfl
  canon_tiles z h using View.cover_of_tiledBy _ ![8, 1024] (by sl_kernel_rfl) y
  · refine Eq.trans ?_ ((congrArg (padded u p) hy).trans (padded_high u p (y 0) (z 0) (by omega) (y 1))).symm
    refine congrArg u ?_
    funext a
    fin_cases a
    · rfl
    · exact Fin.ext h1.symm
  · have h8 : (y 0).val < 8 := by omega
    refine Eq.trans ?_ ((congrArg (padded u p) hy).trans (padded_low u p (y 0) h8 (y 1))).symm
    refine congrArg p ?_
    funext a
    fin_cases a
    · exact Fin.ext h0.symm
    · exact Fin.ext h1.symm

end Cert.Kernel7Ideal.Odd

end
-- ==== Proof.SampleOddSteps.lean ====
/-
  The convolution mixer's kernel on the samples over its grid: what each step leaves.
-/
module

public import proofs.«01_k».proof.Proof.SampleOddBlock
public import Idealize.ShloMosaic.Lib.Pipeline.ReadBack

@[expose] public section

set_option maxRecDepth 16384

noncomputable section

namespace Cert.Kernel7Ideal.Odd

open Idealize.ShloMosaic Idealize.ShloMosaic.TcCoe Idealize.SL.Sem
open Idealize.ShloMosaic.Pipeline (Dat)
open Cert.Kernel7Ideal Cert.Kernel7Ideal.Gen Cert.Layer

variable (m : (ℓ : Loc nD τ sig) → Buf (Elt Ideal) ℓ)

/-- The staged blocks, at their arrays' types. -/
def xB (c : Dev nD) (t : Fin cfg0.N) : Vec Ideal S1x16x1024 .f32 := iblk m c 0 t
def gB (c : Dev nD) (t : Fin cfg0.N) : Vec Ideal S1x1024 .f32 := iblk m c 1 t
def wB (c : Dev nD) (t : Fin cfg0.N) : Vec Ideal S1024x3072 .bf16 := iblk m c 2 t
def tB (c : Dev nD) (t : Fin cfg0.N) : Vec Ideal S8x1024 .f32 := iblk m c 3 t
def oB (c : Dev nD) (t : Fin cfg0.N) : Vec Ideal S1024x1024 .bf16 := iblk m c 4 t
def pB (c : Dev nD) (t : Fin cfg0.N) : Vec Ideal S1x8x1024 .f32 := iblk m c 5 t

/-- The eight rows below a tile: the sequence's history. -/
def low (c : Dev nD) (t : Fin cfg0.N) : Vec Ideal S8x1024 .f32 := k0_pay3 (F := Ideal) (pB m c t)

/-- The scratch after a step. -/
def scB (c : Dev nD) (t : Fin cfg0.N) : Vec Ideal S24x1024 .f32 :=
  padded (k0_pay9 (F := Ideal) (xB m c t) (gB m c t) (wB m c t)) (low m c t)

/-- The scratch's last eight rows. -/
def lastB (sc : Vec Ideal S24x1024 .f32) : Vec Ideal S8x1024 .f32 :=
  fun j => sc ((Rect.unit (s := S24x1024) ![16, 0] ![8, 1024] inb_S24x1024_S8x1024_16_0).toLoadRect.idx j)

/-- A tile's output, given the scratch. -/
def outB (c : Dev nD) (t : Fin cfg0.N) (sc : Vec Ideal S24x1024 .f32) : FVec Ideal S1x16x1024 .f32 :=
  k0_pay1 (F := Ideal) (k0_pay5 (xB m c t)) (k0_pay7 (xB m c t) (gB m c t) (wB m c t))
    (k0_pay8 (xB m c t) (gB m c t) (wB m c t))
    (k0_pay10 (View.ld (tB m c t) (Rect.unit ![0, 0] ![1, 1024] inb_S8x1024_S1x1024_0_0)))
    (fun j => sc ((Rect.unit (s := S24x1024) ![6, 0] ![16, 1024] inb_S24x1024_S16x1024_6_0).toLoadRect.idx j))
    (View.ld (tB m c t) (Rect.unit ![1, 0] ![1, 1024] inb_S8x1024_S1x1024_1_0))
    (fun j => sc ((Rect.unit (s := S24x1024) ![7, 0] ![16, 1024] inb_S24x1024_S16x1024_7_0).toLoadRect.idx j))
    (View.ld (tB m c t) (Rect.unit ![2, 0] ![1, 1024] inb_S8x1024_S1x1024_2_0)) (oB m c t)

/-- Every step stores its sequence's output. -/
theorem out_eq (c : Dev nD) (t : Fin cfg0.N) : (outsAt0 m c t).1 = outB m c t (scB m c t) := by
  unfold outsAt0
  frame_out
  simp only [View.readCov_eq_canon', canon_padded]
  rfl

/-- Every step stores the scratch's last eight rows. -/
theorem state_eq (c : Dev nD) (t : Fin cfg0.N) : (outsAt0 m c t).2 = k0_pay2 (F := Ideal) (lastB (scB m c t)) := by
  unfold outsAt0
  frame_out
  simp only [View.readCov_eq_canon', canon_padded]
  rfl

end Cert.Kernel7Ideal.Odd

end
-- ==== Proof.SampleOddReads.lean ====
/-
  The convolution mixer's kernel on the samples: what each staged block holds of the arguments.
-/
module

public import proofs.«01_k».proof.Proof.SampleOddSteps

@[expose] public section

set_option maxRecDepth 16384

noncomputable section

namespace Cert.Kernel7Ideal.Odd

open Idealize.ShloMosaic Idealize.ShloMosaic.TcCoe Idealize.SL.Sem
open Idealize.ShloMosaic.Pipeline (Dat)
open Cert.Kernel7Ideal Cert.Kernel7Ideal.Gen Cert.Layer

/-- Where each window's block lies. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0]
    ∧ win0_6.index t = ![t.val, 0, 0] ∧ win0_7.index t = ![t.val, 0, 0] :=
  (by decide +kernel : ∀ t : Fin grid0.N, _)

variable (m : (ℓ : Loc nD τ sig) → Buf (Elt Ideal) ℓ)

/-- The step's sequence. -/
def seq (t : Fin cfg0.N) : Fin 8 := ⟨t.val, by have := (show t.val < 8 from t.isLt); omega⟩

/-- The token that row `r` of the step's tile is. -/
def tok (t : Fin cfg0.N) (r : Fin 16) : Fin 16 := ⟨0 * 16 + r.val, by omega⟩

/-- The arguments, at their types. -/
abbrev hA (c : Dev nD) : Vec Ideal S8x16x1024 .f32 := m ((c : Thread nD τ).loc main_arg0)
abbrev gA (c : Dev nD) : Vec Ideal S2x1024 .f32 := m ((c : Thread nD τ).loc main_arg1)
abbrev wA (c : Dev nD) : Vec Ideal S1x1024x3072 .f32 := m ((c : Thread nD τ).loc main_arg2)
abbrev tA (c : Dev nD) : Vec Ideal S1x3x1024 .f32 := m ((c : Thread nD τ).loc main_arg3)
abbrev oA (c : Dev nD) : Vec Ideal S1x1024x1024 .f32 := m ((c : Thread nD τ).loc main_arg4)
abbrev sA (c : Dev nD) : Vec Ideal S1x8x2x1024 .f32 := m ((c : Thread nD τ).loc main_arg5)

theorem xB_at (c : Dev nD) (t : Fin cfg0.N) (r : Fin 16) (k : Fin 1024) :
    xB m c t (ix3 0 r k) = hA m c (ix3 (seq t) (tok t r) k) := by
  unfold xB hA seq tok
  blk_point [iblk, V, idx t]

/-- The host's rows before the call, one by one. -/
theorem gain_row (c : Dev nD) (k : Fin 1024) : (V m c main_v7 : Vec Ideal S1x1024 .f32) (ix2 0 k) = gA m c (ix2 1 k) := by
  show StableHlo.after (List.flatten [hostOps0, hostOps0_1, hostOps0_2]) _ _ _ = _
  simp only [hostOps0, hostOps0_1, hostOps0_2, List.flatten_cons, List.flatten_nil, List.append_nil, List.cons_append,
    List.nil_append]
  entry_read
  pointwise

theorem in_row (c : Dev nD) (k : Fin 1024) (j : Fin 3072) :
    (V m c main_v9 : Vec Ideal S1024x3072 .bf16) (ix2 k j) = wA m c (ix3 0 k j) := by
  show StableHlo.after (List.flatten [hostOps0, hostOps0_1, hostOps0_2]) _ _ _ = _
  simp only [hostOps0, hostOps0_1, hostOps0_2, List.flatten_cons, List.flatten_nil, List.append_nil, List.cons_append,
    List.nil_append]
  entry_read
  pointwise

theorem out_row (c : Dev nD) (f k : Fin 1024) :
    (V m c main_v11 : Vec Ideal S1024x1024 .bf16) (ix2 f k) = oA m c (ix3 0 f k) := by
  show StableHlo.after (List.flatten [hostOps0, hostOps0_1, hostOps0_2]) _ _ _ = _
  simp only [hostOps0, hostOps0_1, hostOps0_2, List.flatten_cons, List.flatten_nil, List.append_nil, List.cons_append,
    List.nil_append]
  entry_read
  pointwise

/-- The padded taps: the first three rows are the convolution's. -/
theorem taps_row (c : Dev nD) (q : Fin 3) (f : Fin 1024) :
    (V m c main_v2 : Vec Ideal S8x1024 .f32) (ix2 ⟨q.val, by omega⟩ f) = tA m c (ix3 0 q f) := by
  show StableHlo.after (List.flatten [hostOps0, hostOps0_1, hostOps0_2]) _ _ _ = _
  simp only [hostOps0, hostOps0_1, hostOps0_2, List.flatten_cons, List.flatten_nil, List.append_nil, List.cons_append,
    List.nil_append]
  entry_read
  pointwise

theorem gB_at (c : Dev nD) (t : Fin cfg0.N) (k : Fin 1024) : gB m c t (ix2 0 k) = gA m c (ix2 1 k) := by
  refine Eq.trans ?_ (gain_row m c k)
  unfold gB iblk
  blk_ext [idx t]

theorem wB_at (c : Dev nD) (t : Fin cfg0.N) (k : Fin 1024) (j : Fin 3072) : wB m c t (ix2 k j) = wA m c (ix3 0 k j) := by
  refine Eq.trans ?_ (in_row m c k j)
  unfold wB iblk
  blk_ext [idx t]

theorem oB_at (c : Dev nD) (t : Fin cfg0.N) (f k : Fin 1024) : oB m c t (ix2 f k) = oA m c (ix3 0 f k) := by
  refine Eq.trans ?_ (out_row m c f k)
  unfold oB iblk
  blk_ext [idx t]

theorem tB_at (c : Dev nD) (t : Fin cfg0.N) (q : Fin 3) (f : Fin 1024) :
    tB m c t (ix2 ⟨q.val, by omega⟩ f) = tA m c (ix3 0 q f) := by
  refine Eq.trans ?_ (taps_row m c q f)
  unfold tB iblk
  blk_ext [idx t]

theorem past_row (c : Dev nD) (b : Fin 8) (q : Fin 2) (f : Fin 1024) :
    (V m c main_v4 : Vec Ideal S8x8x1024 .f32) (ix3 b ⟨6 + q.val, by omega⟩ f) = sA m c (ix4 0 b q f) := by
  show StableHlo.after (List.flatten [hostOps0, hostOps0_1, hostOps0_2]) _ _ _ = _
  simp only [hostOps0, hostOps0_1, hostOps0_2, List.flatten_cons, List.flatten_nil, List.append_nil, List.cons_append,
    List.nil_append]
  entry_read
  show pad S8x8x1024 ![0, 6, 0] ![0, 0, 0] ![0, 0, 0] (shapeCast S8x2x1024 (sA m c) shapeCasts_S1x8x2x1024_S8x2x1024)
    (sitofp (F := Ideal) .f32 (constantI S_ 32 0#32)) pads_S8x2x1024_S8x8x1024_000_600_000 h_S_ (ix3 b ⟨6 + q.val, by omega⟩ f) = _
  pointwise

/-- A sample's history is the state's two rows. -/
theorem pB_at (c : Dev nD) (t : Fin cfg0.N) (q : Fin 2) (f : Fin 1024) :
    pB m c t (ix3 0 ⟨6 + q.val, by omega⟩ f) = sA m c (ix4 0 (seq t) q f) := by
  refine Eq.trans ?_ (past_row m c (seq t) q f)
  unfold pB iblk seq
  blk_ext [idx t]

end Cert.Kernel7Ideal.Odd

end
-- ==== Proof.SampleOddValue.lean ====
/-
  The convolution mixer's kernel on the samples: its result arrays at every sequence, token and channel.
-/
module

public import proofs.«01_k».proof.Proof.SampleOddReads

@[expose] public section

set_option maxRecDepth 16384

noncomputable section

namespace Cert.Kernel7Ideal.Odd

open Idealize.ShloMosaic Idealize.ShloMosaic.TcCoe Idealize.SL.Sem
open Idealize.ShloMosaic.Pipeline (Dat)
open Cert.Kernel7Ideal Cert.Kernel7Ideal.Gen Cert.Layer

variable (m : (ℓ : Loc nD τ sig) → Buf (Elt Ideal) ℓ)

/-- A sequence's history, its tokens, and the layer's weights. -/
def past (c : Dev nD) (b : Fin 8) : Fin 2 → Fin 1024 → EReal := fun q f => sA m c (ix4 0 b q f)
def toks (c : Dev nD) (b : Fin 8) : Fin 16 → Fin 1024 → EReal := fun n i => hA m c (ix3 b n i)
def gain (c : Dev nD) : Fin 1024 → EReal := fun i => gA m c (ix2 1 i)
def win (c : Dev nD) : Fin 1024 → Fin 3072 → EReal := fun k j => wA m c (ix3 0 k j)

/-- The sequence's tape. -/
def line (c : Dev nD) (b : Fin 8) (p : ℕ) (f : Fin 1024) : EReal :=
  tape (past m c b) (toks m c b) (gain m c) (win m c) p f

theorem token_proj (c : Dev nD) (t : Fin cfg0.N) (r : Fin 16) (j : Fin 3072) :
    proj (fun i => xB m c t (ix3 0 r i)) (fun i => gB m c t (ix2 0 i)) (fun k j => wB m c t (ix2 k j)) j
      = proj (toks m c (seq t) (tok t r)) (gain m c) (win m c) j := by
  simp only [xB_at, gB_at, wB_at]
  rfl

theorem token_hid (c : Dev nD) (t : Fin cfg0.N) (r : Fin 16) (f : Fin 1024) :
    hid (fun i => xB m c t (ix3 0 r i)) (fun i => gB m c t (ix2 0 i)) (fun k j => wB m c t (ix2 k j)) f
      = hid (toks m c (seq t) (tok t r)) (gain m c) (win m c) f := by
  unfold hid
  rw [token_proj, token_proj]

/-- A tile's rows in the scratch are its tokens' rows of the tape. -/
theorem scB_high (c : Dev nD) (t : Fin cfg0.N) (y : Fin 24) (r : Fin 16) (h : y.val = r.val + 8) (f : Fin 1024) :
    scB m c t (ix2 y f) = line m c (seq t) ((tok t r).val + 2) f := by
  unfold scB
  rw [padded_high _ _ y r h, stored_at, token_hid]
  exact (tape_token _ _ _ _ (tok t r) _ rfl f).symm

/-- The two rows below them are the two rows of the tape before. -/
theorem scB_low (c : Dev nD) (t : Fin cfg0.N) (y : Fin 24) (h6 : 6 ≤ y.val) (h8 : y.val < 8) (f : Fin 1024) :
    scB m c t (ix2 y f) = line m c (seq t) (0 + (y.val - 6)) f := by
  unfold scB
  rw [padded_low _ _ y h8]
  unfold low
  rw [past_at]
  have e : (⟨y.val, h8⟩ : Fin 8) = ⟨6 + (⟨y.val - 6, by omega⟩ : Fin 2).val, by omega⟩ :=
    Fin.ext (by show y.val = 6 + (y.val - 6); omega)
  rw [e, pB_at]
  refine Eq.trans ?_ (tape_past (past m c (seq t)) (toks m c (seq t)) (gain m c) (win m c) _
    (show 0 + (y.val - 6) < 2 by omega) f).symm
  exact congrArg (fun q => sA m c (ix4 0 (seq t) q f)) (Fin.ext (by show y.val - 6 = 0 + (y.val - 6); omega))

theorem scB_row (c : Dev nD) (t : Fin cfg0.N) (y : Fin 24) (p : ℕ) (h6 : 6 ≤ y.val) (hp : p = 0 + (y.val - 6))
    (f : Fin 1024) : scB m c t (ix2 y f) = line m c (seq t) p f := by
  subst hp
  by_cases h8 : y.val < 8
  · exact scB_low m c t y h6 h8 f
  · rw [scB_high m c t y ⟨y.val - 8, by omega⟩ (by show y.val = y.val - 8 + 8; omega)]
    refine congrArg (fun p => line m c (seq t) p f) ?_
    show 0 * 16 + (y.val - 8) + 2 = _
    omega

/-- The rows the first two taps read. -/
theorem read6 (c : Dev nD) (t : Fin cfg0.N) (r : Fin 16) (f : Fin 1024) :
    scB m c t ((Rect.unit (s := S24x1024) ![6, 0] ![16, 1024] inb_S24x1024_S16x1024_6_0).toLoadRect.idx (ix2 r f))
      = line m c (seq t) (tok t r).val f := by
  refine Eq.trans (congrArg (scB m c t) ?_) (scB_row m c t ⟨6 + r.val, by omega⟩ _ (by show 6 ≤ 6 + r.val; omega) ?_ f)
  · funext a
    fin_cases a
    · exact Fin.ext (by show 6 + 1 * r.val = 6 + r.val; omega)
    · exact Fin.ext (by show 0 + 1 * f.val = f.val; omega)
  · show 0 * 16 + r.val = 0 + (6 + r.val - 6)
    omega

theorem read7 (c : Dev nD) (t : Fin cfg0.N) (r : Fin 16) (f : Fin 1024) :
    scB m c t ((Rect.unit (s := S24x1024) ![7, 0] ![16, 1024] inb_S24x1024_S16x1024_7_0).toLoadRect.idx (ix2 r f))
      = line m c (seq t) ((tok t r).val + 1) f := by
  refine Eq.trans (congrArg (scB m c t) ?_) (scB_row m c t ⟨7 + r.val, by omega⟩ _ (by show 6 ≤ 7 + r.val; omega) ?_ f)
  · funext a
    fin_cases a
    · exact Fin.ext (by show 7 + 1 * r.val = 7 + r.val; omega)
    · exact Fin.ext (by show 0 + 1 * f.val = f.val; omega)
  · show 0 * 16 + r.val + 1 = 0 + (7 + r.val - 6)
    omega

/-- The three taps. -/
theorem tap0 (c : Dev nD) (t : Fin cfg0.N) (f : Fin 1024) :
    (View.ld (tB m c t) (Rect.unit ![0, 0] ![1, 1024] inb_S8x1024_S1x1024_0_0) : Vec Ideal S1x1024 .f32) (ix2 0 f)
      = tA m c (ix3 0 0 f) := by
  refine Eq.trans (congrArg (tB m c t) ?_) (tB_at m c t 0 f)
  funext a
  fin_cases a
  · rfl
  · exact Fin.ext (by show 0 + 1 * f.val = f.val; omega)

theorem tap1 (c : Dev nD) (t : Fin cfg0.N) (f : Fin 1024) :
    (View.ld (tB m c t) (Rect.unit ![1, 0] ![1, 1024] inb_S8x1024_S1x1024_1_0) : Vec Ideal S1x1024 .f32) (ix2 0 f)
      = tA m c (ix3 0 1 f) := by
  refine Eq.trans (congrArg (tB m c t) ?_) (tB_at m c t 1 f)
  funext a
  fin_cases a
  · rfl
  · exact Fin.ext (by show 0 + 1 * f.val = f.val; omega)

theorem tap2 (c : Dev nD) (t : Fin cfg0.N) (f : Fin 1024) :
    (View.ld (tB m c t) (Rect.unit ![2, 0] ![1, 1024] inb_S8x1024_S1x1024_2_0) : Vec Ideal S1x1024 .f32) (ix2 0 f)
      = tA m c (ix3 0 2 f) := by
  refine Eq.trans (congrArg (tB m c t) ?_) (tB_at m c t 2 f)
  funext a
  fin_cases a
  · rfl
  · exact Fin.ext (by show 0 + 1 * f.val = f.val; omega)

/-- A stored tile holds the mixer's output of its tokens. -/
theorem block_at (c : Dev nD) (t : Fin cfg0.N) (r : Fin 16) (k : Fin 1024) :
    outB m c t (scB m c t) (ix3 0 r k)
      = mix (past m c (seq t)) (toks m c (seq t)) (gain m c) (win m c) (fun q f => tA m c (ix3 0 q f))
          (fun f k => oA m c (ix3 0 f k)) (tok t r) k := by
  unfold outB mix
  rw [out_at, token_at, xB_at]
  refine congrArg (fun s => hA m c (ix3 (seq t) (tok t r) k) + s) (Finset.sum_congr rfl fun f _ => ?_)
  rw [gate_at, hid_at, tap_at, token_proj, token_hid, oB_at, tap0, tap1, tap2, read6, read7,
    ← tape_token (past m c (seq t)) (toks m c (seq t)) (gain m c) (win m c) (tok t r) _ rfl f]
  rfl

/-- The stored state holds the tape's last eight rows. -/
theorem last_at (c : Dev nD) (t : Fin cfg0.N)  (q : Fin 8) (k : Fin 1024) :
    k0_pay2 (F := Ideal) (lastB (scB m c t)) (ix3 0 q k) = line m c (seq t) (10 + q.val) k := by
  rw [state_at]
  refine Eq.trans (congrArg (scB m c t) ?_) (scB_row m c t ⟨16 + q.val, by omega⟩ _ (by show 6 ≤ 16 + q.val; omega) ?_ k)
  · funext a
    fin_cases a
    · exact Fin.ext (by show 16 + 1 * q.val = 16 + q.val; omega)
    · exact Fin.ext (by show 0 + 1 * k.val = k.val; omega)
  · show 10 + q.val = 0 + (16 + q.val - 6)
    omega

/-- The output array after the run. -/
theorem out_final (c : Dev nD) (X : Vec Ideal S8x16x1024 .f32)
    (hX : ∀ b n k, X (ix3 b n k) = mix (past m c b) (toks m c b) (gain m c) (win m c) (fun q f => tA m c (ix3 0 q f))
          (fun f k => oA m c (ix3 0 f k)) n k) :
    (dats m 0 c).arrAt 6 (cfgs 0).N = X := by
  refine (dats m 0 c).arrAt_eq_of_covers 6 _ (by decide +kernel) fun t hf y => ?_
  rw [after0_6, out_eq m c t]
  have hy : (y : S1x16x1024.Idx) = ix3 0 (y 1) (y 2) := by
    funext a
    fin_cases a
    · exact Subsingleton.elim (α := Fin 1) _ _
    · rfl
    · rfl
  rw [hy]
  refine (block_at m c t (y 1) (y 2)).trans ?_
  refine (hX (seq t) (tok t (y 1)) (y 2)).symm.trans ?_
  unfold seq tok
  blk_ext [idx t]

/-- The state array after the run. -/
theorem state_final (c : Dev nD) (X : Vec Ideal S8x8x1024 .f32)
    (hX : ∀ b q k, X (ix3 b q k) = line m c b (10 + q.val) k) :
    (dats m 0 c).arrAt 7 (cfgs 0).N = X := by
  refine (dats m 0 c).arrAt_eq_of_covers 7 _ (by decide +kernel) fun t hf y => ?_
  rw [after0_7, state_eq m c t]
  have hy : (y : S1x8x1024.Idx) = ix3 0 (y 1) (y 2) := by
    funext a
    fin_cases a
    · exact Subsingleton.elim (α := Fin 1) _ _
    · rfl
    · rfl
  rw [hy]
  refine (last_at m c t (y 1) (y 2)).trans ?_
  refine (hX (seq t) (y 1) (y 2)).symm.trans ?_
  unfold seq
  blk_ext [idx t]

end Cert.Kernel7Ideal.Odd

end
-- ==== Proof.SampleOddTie.lean ====
/-
  The convolution mixer on the samples: the kernel's two result arrays are the reference's two results of the same arguments.
-/
module

public import proofs.«01_k».proof.Proof.SampleOddRef
public import proofs.«01_k».proof.Proof.SampleOddValue

@[expose] public section

set_option maxRecDepth 16384

noncomputable section

namespace Cert.SampleOddTie

open Idealize.ShloMosaic Idealize.ShloMosaic.TcCoe
open Cert.Kernel7Ideal.Odd

variable (m : (ℓ : Loc Cert.Kernel7Ideal.nD Cert.Kernel7Ideal.τ Cert.Kernel7Ideal.sig) → Buf (Elt Ideal) ℓ) (c : Dev Cert.Kernel7Ideal.nD)

/-- The tokens the kernel's run leaves are the reference's function of the kernel's arguments. -/
theorem out : (Cert.Kernel7Ideal.Gen.dats (F := Ideal) m 0 c).arrAt 6 Cert.Kernel7Ideal.cfg0.N
    = Cert.Reference7Ideal.Read.val_main_v48 (F := Ideal) (hA m c) (gA m c) (wA m c) (tA m c) (oA m c) (sA m c) := by
  refine ?_
  exact Cert.Kernel7Ideal.Odd.out_final m c _ fun b n k => Cert.Reference7Ideal.Odd.out_at _ _ _ _ _ _ b n k

/-- The state the kernel's run leaves is the reference's function of the kernel's arguments. -/
theorem state : (Cert.Kernel7Ideal.Gen.dats (F := Ideal) m 0 c).arrAt 7 Cert.Kernel7Ideal.cfg0.N
    = Cert.Reference7Ideal.Read.val_main_v47 (F := Ideal) (hA m c) (gA m c) (wA m c) (sA m c) := by
  refine ?_
  exact Cert.Kernel7Ideal.Odd.state_final m c _ fun b q k => Cert.Reference7Ideal.Odd.last_at _ _ _ _ b q k

end Cert.SampleOddTie

end
-- ==== Proof.SampleMoeBlock.lean ====
/-
  One block of the MoE kernel, row by row: the norm of a token, its router logits, and one expert tile's part.
-/
module

public import proofs.«01_k».proof.Proof.Route
public import proofs.«01_k».proof.Proof.Gen.Kernel8Ideal.Value

@[expose] public section

set_option maxRecDepth 16384

noncomputable section

namespace Cert.Kernel8Ideal.Moe

open Idealize.ShloMosaic Idealize.ShloMosaic.TcCoe
open Cert.Kernel8Ideal Cert.Kernel8Ideal.Gen Cert.Layer

/-- The lane numbers the kernel compares with. -/
abbrev lanes : IVec S128x128 32 := iota .tc S128x128 32 [1] iota_S128x128_d1_w32

theorem norm_at (x : Vec Ideal S128x1024 .f32) (g : Vec Ideal S1x1024 .f32) (r : Fin 128) (k : Fin 1024) :
    k0_pay3 (F := Ideal) x g (ix2 r k) = rms (fun i => x (ix2 r i)) (fun i => g (ix2 0 i)) k := by
  pointwise [k0_pay3]
  rfl

theorem stored_norm_at (x : Vec Ideal S128x1024 .f32) (g : Vec Ideal S1x1024 .f32) (r : Fin 128) (k : Fin 1024) :
    k0_pay4 (F := Ideal) x g (ix2 r k) = rms (fun i => x (ix2 r i)) (fun i => g (ix2 0 i)) k := by
  pointwise [k0_pay4, norm_at]

theorem final_norm_at (x : Vec Ideal S128x1024 .f32) (g : Vec Ideal S1x1024 .f32) (r : Fin 128) (k : Fin 1024) :
    k0_pay2 (F := Ideal) x g (ix2 r k) = rms (fun i => x (ix2 r i)) (fun i => g (ix2 0 i)) k := by
  pointwise [k0_pay2]
  rfl

theorem step_at (y : FVec Ideal S128x1024 .f32) (w : FVec Ideal S128 .f32) (o : Vec Ideal S128x1024 .f32) (r : Fin 128) (k : Fin 1024) :
    k0_pay1 (F := Ideal) y w o (ix2 r k) = o (ix2 r k) + y (ix2 r k) * w (ix1 r) := by
  pointwise [k0_pay1]

theorem tile_at (xn : Vec Ideal S128x1024 .bf16) (wg wu : Vec Ideal S1x1024x512 .bf16) (wd : Vec Ideal S1x512x1024 .bf16)
    (r : Fin 128) (c : Fin 1024) :
    k0_pay12 (F := Ideal) xn wg wu wd (ix2 r c)
      = ∑ f : Fin 512, act (fun k => xn (ix2 r k)) (fun k f => wg (ix3 0 k f)) (fun k f => wu (ix3 0 k f)) f
          * wd (ix3 0 f c) := by
  pointwise [k0_pay12]
  simp only [act, gate, logi, zero_sub]

/-- An expert's weight of a row: the row's lane of that expert. -/
theorem weight_at (i : grid0.Coords) (w : Vec Ideal S128x128 .f32) (r : Fin 128) :
    k0_pay13 (F := Ideal) i w (ix1 r) = w (ix2 r (lane (i 1))) := by
  pointwise [k0_pay13]
  rw [Finset.sum_eq_single (lane (i 1))]
  · exact if_pos (by simp [lane, IntOp.cmpi])
  · intro b _ hb
    refine if_neg fun h => hb (Fin.ext ?_)
    have hi : (i 1).val < 8 := (i 1).isLt
    have hw : BitVec.ofNat 32 b.val = BitVec.ofNat 32 (i 1).val := by
      by_contra hne
      simp only [IntOp.cmpi] at h
      rw [beq_false_of_ne hne] at h
      exact absurd h (by decide)
    have := congrArg BitVec.toNat hw
    simp only [BitVec.toNat_ofNat] at this
    show b.val = (i 1).val
    omega
  · intro h; exact absurd (Finset.mem_univ _) h

theorem lane_at (r : Fin 128) (l : Fin 128) : k0_pay5 (F := Ideal) lanes (ix2 r l) = ((l.val : ℝ) : EReal) := by
  pointwise [k0_pay5, lanes]
  show (((BitVec.ofNat 32 l.val).toInt : ℝ) : EReal) = _
  rw [show (BitVec.ofNat 32 l.val).toInt = (l.val : ℤ) by
    rw [BitVec.toInt_eq_toNat_cond, BitVec.toNat_ofNat]; split <;> omega]
  norm_cast

theorem bits_eight : Ideal.ofBits .f32 0x41000000#32 = ((8 : ℝ) : EReal) := by
  simp [Ideal.ofBits, Ideal.ieee, -EReal.coe_mul]; norm_num

theorem bits_lanes : Ideal.ofBits .f32 0x43000000#32 = ((128 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

variable (x : Vec Ideal S128x1024 .f32) (g : Vec Ideal S1x1024 .f32) (w : Vec Ideal S1024x128 .bf16)

/-- The eight router logits of row `r`. -/
def rowLogits (r : Fin 128) : Fin 8 → EReal :=
  logits (rms (fun i => x (ix2 r i)) (fun i => g (ix2 0 i))) fun k e => w (ix2 k (lane e))

theorem logit_at (r : Fin 128) (l : Fin 128) :
    k0_pay6 (F := Ideal) lanes x g w (ix2 r l) = padded (rowLogits x g w r) l := by
  pointwise [k0_pay6, norm_at, lane_at]
  rw [bits_eight, bits_bot]
  unfold padded
  by_cases h : l.val < 8
  · rw [dif_pos h, if_pos (EReal.coe_lt_coe_iff.mpr (by exact_mod_cast h))]
    rfl
  · rw [dif_neg h, if_neg fun h' => h (by exact_mod_cast EReal.coe_lt_coe_iff.mp h')]

theorem max_at (r : Fin 128) :
    k0_pay7 (F := Ideal) lanes x g w (ix2 r 0) = rowLogits x g w r (top (rowLogits x g w r)) := by
  pointwise [k0_pay7, logit_at]
  rw [bits_bot]
  exact padded_max _

theorem arg_at (r : Fin 128) :
    k0_pay8 (F := Ideal) lanes x g w (ix2 r 0) = (((top (rowLogits x g w r)).val : ℝ) : EReal) := by
  pointwise [k0_pay8, lane_at, logit_at, max_at]
  rw [bits_top, bits_lanes]
  exact fold_min_eq (fun l => padded (rowLogits x g w r) l = rowLogits x g w r (top (rowLogits x g w r)))
    (lane (top (rowLogits x g w r))) (padded_lane _ _) (padded_first _)

theorem rest_at (r : Fin 128) (l : Fin 128) :
    k0_pay9 (F := Ideal) lanes x g w (ix2 r l) = rest (rowLogits x g w r) l := by
  pointwise [k0_pay9, lane_at, logit_at, arg_at]
  rw [bits_bot]
  simp only [lane_eq_iff]
  rfl

theorem max2_at (r : Fin 128) :
    k0_pay10 (F := Ideal) lanes x g w (ix1 r) = rowLogits x g w r (next (rowLogits x g w r)) := by
  pointwise [k0_pay10, rest_at]
  rw [bits_bot]
  exact rest_max _

/-- The stored weights: an expert's lane holds its share. -/
theorem comb_at (r : Fin 128) (hz : rowLogits x g w r (next (rowLogits x g w r)) ≠ ⊥) (e : Fin 8) :
    k0_pay11 (F := Ideal) (k0_pay5 lanes) (k0_pay7 lanes x g w) (k0_pay8 lanes x g w) (k0_pay9 lanes x g w)
      (k0_pay10 lanes x g w) (ix2 r (lane e)) = share (rowLogits x g w r) e := by
  pointwise [k0_pay11, lane_at, rest_at, max_at, max2_at, arg_at]
  have h2 := fold_min_eq (fun l => rest (rowLogits x g w r) l = rowLogits x g w r (next (rowLogits x g w r)))
    (lane (next (rowLogits x g w r))) (rest_next _) (rest_first _ hz)
  rw [bits_top, bits_lanes, h2]
  have h : ∀ a : Fin 8, (lane e = lane a ↔ e = a) := fun a => ⟨lane_inj, fun h => by rw [h]⟩
  have h3 : ((lane (next (rowLogits x g w r))).val : ℝ) = (next (rowLogits x g w r)).val := rfl
  rw [h3]
  simp only [lane_eq_iff, h]
  rfl

end Cert.Kernel8Ideal.Moe

end
-- ==== Proof.SampleMoeSteps.lean ====
/-
  The MoE kernel over its grid: what each step leaves. The block of all 128 tokens takes 56 consecutive steps, seven tiles
  of 512 hidden channels for each of eight experts. The first step stores the tokens' norms and their routing weights
  and starts the block from the residual, each step adds its tile's part of its expert's output by the expert's weight,
  and the last step norms the finished sum.
-/
module

public import proofs.«01_k».proof.Proof.SampleMoeBlock
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.Kernel8Ideal.Moe

open Idealize.ShloMosaic Idealize.ShloMosaic.TcCoe Idealize.SL.Sem
open Idealize.ShloMosaic.Pipeline (Dat)
open Cert.Kernel8Ideal Cert.Kernel8Ideal.Gen Cert.Layer

variable (m : (ℓ : Loc nD τ sig) → Buf (Elt Ideal) ℓ)

/-- The staged blocks, at their arrays' types. -/
def xB (c : Dev nD) (t : Fin cfg0.N) : Vec Ideal S128x1024 .f32 := iblk m c 0 t
def gB (c : Dev nD) (t : Fin cfg0.N) : Vec Ideal S1x1024 .f32 := iblk m c 1 t
def rB (c : Dev nD) (t : Fin cfg0.N) : Vec Ideal S1024x128 .bf16 := iblk m c 2 t
def wgB (c : Dev nD) (t : Fin cfg0.N) : Vec Ideal S1x1024x512 .bf16 := iblk m c 3 t
def wuB (c : Dev nD) (t : Fin cfg0.N) : Vec Ideal S1x1024x512 .bf16 := iblk m c 4 t
def wdB (c : Dev nD) (t : Fin cfg0.N) : Vec Ideal S1x512x1024 .bf16 := iblk m c 5 t
def fgB (c : Dev nD) (t : Fin cfg0.N) : Vec Ideal S1x1024 .f32 := iblk m c 6 t

/-- The step before. -/
abbrev before (t : Fin cfg0.N) : t.val - 1 < cfg0.N := Nat.lt_of_le_of_lt (Nat.sub_le _ _) t.isLt

/-- The routing weights of a block of tokens. -/
def combB (x : Vec Ideal S128x1024 .f32) (g : Vec Ideal S1x1024 .f32) (w : Vec Ideal S1024x128 .bf16) :
    FVec Ideal S128x128 .f32 :=
  k0_pay11 (F := Ideal) (k0_pay5 lanes) (k0_pay7 lanes x g w) (k0_pay8 lanes x g w) (k0_pay9 lanes x g w)
    (k0_pay10 lanes x g w)

/-- One step: the block so far plus the tile's part by the expert's weight. -/
def stepB (c : Dev nD) (t : Fin cfg0.N) (xn : Vec Ideal S128x1024 .bf16) (w : Vec Ideal S128x128 .f32)
    (o : Vec Ideal S128x1024 .f32) : FVec Ideal S128x1024 .f32 :=
  k0_pay1 (F := Ideal) (k0_pay12 xn (wgB m c t) (wuB m c t) (wdB m c t)) (k0_pay13 (grid0.coords t) w) o

theorem norm_first (c : Dev nD) (t : Fin cfg0.N) (h : t.val % 56 = 0) :
    (outsAt0 m c t.val t.isLt).2.1 = k0_pay4 (F := Ideal) (xB m c t) (gB m c t) := by
  rw [outsAt0_A m c t h (by omega)]; frame_out
  rfl

theorem comb_first (c : Dev nD) (t : Fin cfg0.N) (h : t.val % 56 = 0) :
    (outsAt0 m c t.val t.isLt).2.2 = combB (xB m c t) (gB m c t) (rB m c t) := by
  rw [outsAt0_A m c t h (by omega)]; frame_out
  rfl

theorem norm_next (c : Dev nD) (t : Fin cfg0.N) (h : ¬t.val % 56 = 0) :
    (outsAt0 m c t.val t.isLt).2.1 = (outsAt0 m c (t.val - 1) (before t)).2.1 := by
  by_cases h1 : t.val % 56 = 55
  · rw [outsAt0_C m c t h h1]; frame_out
    rfl
  · rw [outsAt0_B m c t h h1]; frame_out
    rfl

theorem comb_next (c : Dev nD) (t : Fin cfg0.N) (h : ¬t.val % 56 = 0) :
    (outsAt0 m c t.val t.isLt).2.2 = (outsAt0 m c (t.val - 1) (before t)).2.2 := by
  by_cases h1 : t.val % 56 = 55
  · rw [outsAt0_C m c t h h1]; frame_out
    rfl
  · rw [outsAt0_B m c t h h1]; frame_out
    rfl

/-- A row block's first step. -/
theorem out_first (c : Dev nD) (t : Fin cfg0.N) (h : t.val % 56 = 0) :
    (outsAt0 m c t.val t.isLt).1
      = stepB m c t (k0_pay4 (F := Ideal) (xB m c t) (gB m c t)) (combB (xB m c t) (gB m c t) (rB m c t)) (xB m c t) := by
  rw [outsAt0_A m c t h (by omega)]; frame_out
  rfl

/-- A later step, not the last. -/
theorem out_next (c : Dev nD) (t : Fin cfg0.N) (h : ¬t.val % 56 = 0) (h1 : ¬t.val % 56 = 55) :
    (outsAt0 m c t.val t.isLt).1
      = stepB m c t (outsAt0 m c (t.val - 1) (before t)).2.1 (outsAt0 m c (t.val - 1) (before t)).2.2
          (outsAt0 m c (t.val - 1) (before t)).1 := by
  rw [outsAt0_B m c t h h1]; frame_out
  rw [read_unread_whole, read_unread_whole]
  rfl

/-- The last step: a step as the others, then the final norm of every token. -/
theorem out_last (c : Dev nD) (t : Fin cfg0.N) (h1 : t.val % 56 = 55) :
    (outsAt0 m c t.val t.isLt).1
      = k0_pay2 (F := Ideal) (stepB m c t (outsAt0 m c (t.val - 1) (before t)).2.1 (outsAt0 m c (t.val - 1) (before t)).2.2
          (outsAt0 m c (t.val - 1) (before t)).1) (fgB m c t) := by
  rw [outsAt0_C m c t (by omega) h1]; frame_out
  rw [read_unread_whole, read_unread_whole]
  rfl

end Cert.Kernel8Ideal.Moe

end
-- ==== Proof.SampleMoeIndex.lean ====
/-
  Which block of its array each window of the MoE kernel stages at each step.
-/
module

public import proofs.«01_k».proof.Proof.SampleMoeSteps

@[expose] public section

set_option maxRecDepth 16384

noncomputable section

namespace Cert.Kernel8Ideal.Moe

open Idealize.ShloMosaic Idealize.ShloMosaic.TcCoe Idealize.SL.Sem
open Idealize.ShloMosaic.Pipeline (Dat)
open Cert.Kernel8Ideal Cert.Kernel8Ideal.Gen Cert.Layer

/-- Where each window's block lies, and the step's expert. -/
theorem idx : ∀ t : Fin cfg0.N, win0_0.index t = ![t.val / 56, 0] ∧ win0_1.index t = ![0, 0] ∧ win0_2.index t = ![0, 0]
    ∧ win0_3.index t = ![t.val / 7 % 8, 0, t.val % 7] ∧ win0_4.index t = ![t.val / 7 % 8, 0, t.val % 7]
    ∧ win0_5.index t = ![t.val / 7 % 8, t.val % 7, 0] ∧ win0_6.index t = ![0, 0] ∧ win0_7.index t = ![t.val / 56, 0]
    ∧ (grid0.coords t 1).val = t.val / 7 % 8 :=
  (by decide +kernel : ∀ t : Fin grid0.N, _)

end Cert.Kernel8Ideal.Moe

end
-- ==== Proof.SampleMoeReads.lean ====
/-
  Where the MoE kernel's staged blocks lie in its arguments.
-/
module

public import proofs.«01_k».proof.Proof.SampleMoeIndex

@[expose] public section

set_option maxRecDepth 16384

noncomputable section

namespace Cert.Kernel8Ideal.Moe

open Idealize.ShloMosaic Idealize.ShloMosaic.TcCoe Idealize.SL.Sem
open Idealize.ShloMosaic.Pipeline (Dat)
open Cert.Kernel8Ideal Cert.Kernel8Ideal.Gen Cert.Layer

variable (m : (ℓ : Loc nD τ sig) → Buf (Elt Ideal) ℓ)

/-- The token that row `r` of step `t`'s block is. -/
def tok (t : Fin cfg0.N) (r : Fin 128) : Fin 128 :=
  ⟨t.val / 56 * 128 + r.val, by have := (show t.val < 56 from t.isLt); omega⟩

/-- The hidden channel that channel `f` of step `t`'s tile is. -/
def chan (t : Fin cfg0.N) (f : Fin 512) : Fin 3584 := ⟨t.val % 7 * 512 + f.val, by omega⟩

/-- The step's expert. -/
def exq (t : Fin cfg0.N) : Fin 8 := ⟨t.val / 7 % 8, by omega⟩

/-- The arguments, at their types. -/
abbrev hA (c : Dev nD) : Vec Ideal S128x1024 .f32 := m ((c : Thread nD τ).loc main_arg0)
abbrev gA (c : Dev nD) : Vec Ideal S2x1024 .f32 := m ((c : Thread nD τ).loc main_arg1)
abbrev rA (c : Dev nD) : Vec Ideal S1x1024x8 .f32 := m ((c : Thread nD τ).loc main_arg2)
abbrev wgA (c : Dev nD) : Vec Ideal S1x8x1024x3584 .f32 := m ((c : Thread nD τ).loc main_arg3)
abbrev wuA (c : Dev nD) : Vec Ideal S1x8x1024x3584 .f32 := m ((c : Thread nD τ).loc main_arg4)
abbrev wdA (c : Dev nD) : Vec Ideal S1x8x3584x1024 .f32 := m ((c : Thread nD τ).loc main_arg5)
abbrev fgA (c : Dev nD) : Vec Ideal S1024 .f32 := m ((c : Thread nD τ).loc main_arg6)

theorem xB_at (c : Dev nD) (t : Fin cfg0.N) (r : Fin 128) (k : Fin 1024) : xB m c t (ix2 r k) = hA m c (ix2 (tok t r) k) := by
  unfold xB hA tok
  blk_point [iblk, V, idx t]

theorem gB_at (c : Dev nD) (t : Fin cfg0.N) (k : Fin 1024) : gB m c t (ix2 0 k) = gA m c (ix2 1 k) := by
  unfold gB gA
  blk_point [iblk, idx t]

/-- The padded router: the first eight lanes are the router's weights. -/
theorem pad_at (c : Dev nD) (k : Fin 1024) (e : Fin 8) :
    (V m c main_v3 : Vec Ideal S1024x128 .bf16) (ix2 k (lane e)) = rA m c (ix3 0 k e) := by
  entry_read
  pointwise
  exact dif_pos e.isLt

theorem rB_at (c : Dev nD) (t : Fin cfg0.N) (k : Fin 1024) (e : Fin 8) :
    rB m c t (ix2 k (lane e)) = rA m c (ix3 0 k e) := by
  refine Eq.trans ?_ (pad_at m c k e)
  unfold rB iblk
  blk_ext [idx t]

theorem wgB_at (c : Dev nD) (t : Fin cfg0.N) (k : Fin 1024) (f : Fin 512) :
    wgB m c t (ix3 0 k f) = wgA m c (ix4 0 (exq t) k (chan t f)) := by
  unfold wgB wgA chan exq
  blk_point [iblk, idx t]

theorem wuB_at (c : Dev nD) (t : Fin cfg0.N) (k : Fin 1024) (f : Fin 512) :
    wuB m c t (ix3 0 k f) = wuA m c (ix4 0 (exq t) k (chan t f)) := by
  unfold wuB wuA chan exq
  blk_point [iblk, idx t]

theorem wdB_at (c : Dev nD) (t : Fin cfg0.N) (f : Fin 512) (k : Fin 1024) :
    wdB m c t (ix3 0 f k) = wdA m c (ix4 0 (exq t) (chan t f) k) := by
  unfold wdB wdA chan exq
  blk_point [iblk, idx t]

theorem fgB_at (c : Dev nD) (t : Fin cfg0.N) (k : Fin 1024) : fgB m c t (ix2 0 k) = fgA m c (ix1 k) := by
  unfold fgB fgA
  blk_point [iblk, idx t]

end Cert.Kernel8Ideal.Moe

end
-- ==== Proof.SampleMoeValue.lean ====
/-
  The MoE kernel's result array, for finite router logits: at every token it holds the norm of the token plus its two
  experts' outputs by their weights.
-/
module

public import proofs.«01_k».proof.Proof.SampleMoeReads
public import proofs.«01_k».proof.Proof.Finite

@[expose] public section

set_option maxRecDepth 16384

noncomputable section

namespace Cert.Kernel8Ideal.Moe

open Idealize.ShloMosaic Idealize.ShloMosaic.TcCoe Idealize.SL.Sem
open Idealize.ShloMosaic.Pipeline (Dat)
open Cert.Kernel8Ideal Cert.Kernel8Ideal.Gen Cert.Layer

variable (m : (ℓ : Loc nD τ sig) → Buf (Elt Ideal) ℓ)

/-- The normed token `n`. -/
def xn (c : Dev nD) (n : Fin 128) : Fin 1024 → EReal := rms (fun k => hA m c (ix2 n k)) fun k => gA m c (ix2 1 k)

/-- The router logits of token `n`. -/
def zrow (c : Dev nD) (n : Fin 128) : Fin 8 → EReal := logits (xn m c n) fun k e => rA m c (ix3 0 k e)

/-- A row block's first step. -/
def start (t : Fin cfg0.N) : Fin cfg0.N := ⟨56 * (t.val / 56), Pipeline.run_start_lt t⟩

theorem tok_start (t : Fin cfg0.N) (r : Fin 128) : tok (start t) r = tok t r := by
  refine Fin.ext ?_
  simp only [tok, start]
  omega

theorem stored_norm (c : Dev nD) (t : Fin cfg0.N) (r : Fin 128) (k : Fin 1024) :
    k0_pay4 (F := Ideal) (xB m c t) (gB m c t) (ix2 r k) = xn m c (tok t r) k := by
  rw [stored_norm_at]
  simp only [gB_at, xB_at]
  rfl

theorem rowLogits_eq (c : Dev nD) (t : Fin cfg0.N) (r : Fin 128) :
    rowLogits (xB m c t) (gB m c t) (rB m c t) r = zrow m c (tok t r) := by
  unfold rowLogits zrow xn
  simp only [gB_at, xB_at, rB_at]

theorem stored_comb (c : Dev nD) (hz : ∀ n e, Num (zrow m c n e)) (t : Fin cfg0.N) (r : Fin 128) (e : Fin 8) :
    combB (xB m c t) (gB m c t) (rB m c t) (ix2 r (lane e)) = share (zrow m c (tok t r)) e := by
  unfold combB
  rw [comb_at _ _ _ _ (by rw [rowLogits_eq]; exact (hz _ _).ne_bot), rowLogits_eq]

/-- At every step the first scratch holds the norms of the block's tokens. -/
theorem norm_held (c : Dev nD) (t : Fin cfg0.N) (r : Fin 128) (k : Fin 1024) :
    (outsAt0 m c t.val t.isLt).2.1 (ix2 r k) = xn m c (tok t r) k := by
  rw [Pipeline.eq_of_write_hold (fun n h => (outsAt0 m c n h).2.1) 56 (fun t => k0_pay4 (F := Ideal) (xB m c t) (gB m c t))
    (norm_first m c) (norm_next m c) t]
  exact (stored_norm m c (start t) r k).trans (by rw [tok_start])

/-- At every step the second scratch holds the routing weights of the block's tokens. -/
theorem comb_held (c : Dev nD) (hz : ∀ n e, Num (zrow m c n e)) (t : Fin cfg0.N) (r : Fin 128) (e : Fin 8) :
    (outsAt0 m c t.val t.isLt).2.2 (ix2 r (lane e)) = share (zrow m c (tok t r)) e := by
  rw [Pipeline.eq_of_write_hold (fun n h => (outsAt0 m c n h).2.2) 56
    (fun t => combB (xB m c t) (gB m c t) (rB m c t)) (comb_first m c) (comb_next m c) t]
  exact (stored_comb m c hz (start t) r e).trans (by rw [tok_start])

/-- What step `t` adds at a row and a channel. -/
def part (c : Dev nD) (t : Fin cfg0.N) (i : S128x1024.Idx) : EReal :=
  (∑ f : Fin 512, act (xn m c (tok t (i 0))) (fun k f => wgA m c (ix4 0 (exq t) k f)) (fun k f => wuA m c (ix4 0 (exq t) k f))
    (chan t f) * wdA m c (ix4 0 (exq t) (chan t f) (i 1))) * share (zrow m c (tok t (i 0))) (exq t)

theorem part_at (c : Dev nD) (t : Fin cfg0.N) (r : Fin 128) (k : Fin 1024) : part m c t (ix2 r k)
    = (∑ f : Fin 512, act (xn m c (tok t r)) (fun k f => wgA m c (ix4 0 (exq t) k f)) (fun k f => wuA m c (ix4 0 (exq t) k f))
      (chan t f) * wdA m c (ix4 0 (exq t) (chan t f) k)) * share (zrow m c (tok t r)) (exq t) := rfl

theorem coord_exq (t : Fin cfg0.N) : (grid0.coords t 1 : Fin 8) = exq t := Fin.ext (idx t).2.2.2.2.2.2.2.2

/-- A step over the right norms and weights adds the step's part. -/
theorem stepB_at (c : Dev nD) (t : Fin cfg0.N) (xs : Vec Ideal S128x1024 .bf16) (w : Vec Ideal S128x128 .f32)
    (o : Vec Ideal S128x1024 .f32) (r : Fin 128) (k : Fin 1024) (hx : ∀ i, xs (ix2 r i) = xn m c (tok t r) i)
    (hw : ∀ e, w (ix2 r (lane e)) = share (zrow m c (tok t r)) e) :
    stepB m c t xs w o (ix2 r k) = o (ix2 r k) + part m c t (ix2 r k) := by
  unfold stepB
  have hw' : w (ix2 r (lane (grid0.coords t 1))) = share (zrow m c (tok t r)) (exq t) :=
    (congrArg (fun e => w (ix2 r (lane e))) (coord_exq t)).trans (hw _)
  rw [step_at, tile_at, weight_at, hw']
  simp only [hx]
  have e2 : (∑ f : Fin 512, act (fun k => xn m c (tok t r) k) (fun k f => wgB m c t (ix3 0 k f))
      (fun k f => wuB m c t (ix3 0 k f)) f * wdB m c t (ix3 0 f k))
      = ∑ f : Fin 512, act (xn m c (tok t r)) (fun k f => wgA m c (ix4 0 (exq t) k f))
          (fun k f => wuA m c (ix4 0 (exq t) k f)) (chan t f) * wdA m c (ix4 0 (exq t) (chan t f) k) := by
    refine Finset.sum_congr rfl fun f _ => ?_
    rw [wdB_at]
    simp only [act, wgB_at, wuB_at]
  rw [e2]
  rfl

/-- The block after step `n`, before the final norm. -/
def run (c : Dev nD) (n : ℕ) (h : n < cfg0.N) : S128x1024.Idx → EReal :=
  if n % 56 = 55 then
    stepB m c ⟨n, h⟩ (outsAt0 m c (n - 1) (before ⟨n, h⟩)).2.1 (outsAt0 m c (n - 1) (before ⟨n, h⟩)).2.2
      (outsAt0 m c (n - 1) (before ⟨n, h⟩)).1
  else (outsAt0 m c n h).1

theorem run_first (c : Dev nD) (hz : ∀ n e, Num (zrow m c n e)) (t : Fin cfg0.N) (h : t.val % 56 = 0)
    (i : S128x1024.Idx) : run m c t.val t.isLt i = hA m c (ix2 (tok t (i 0)) (i 1)) + part m c t i := by
  obtain ⟨r, k, rfl⟩ : ∃ r k, i = ix2 r k := ⟨i 0, i 1, by funext a; fin_cases a <;> rfl⟩
  rw [run, if_neg (by omega), out_first m c t h, stepB_at m c t _ _ _ r k (stored_norm m c t r) (stored_comb m c hz t r),
    xB_at]
  rfl

theorem run_next (c : Dev nD) (hz : ∀ n e, Num (zrow m c n e)) (t : Fin cfg0.N) (h : ¬t.val % 56 = 0)
    (i : S128x1024.Idx) : run m c t.val t.isLt i = run m c (t.val - 1) (before t) i + part m c t i := by
  obtain ⟨r, k, rfl⟩ : ∃ r k, i = ix2 r k := ⟨i 0, i 1, by funext a; fin_cases a <;> rfl⟩
  have key : stepB m c t (outsAt0 m c (t.val - 1) (before t)).2.1 (outsAt0 m c (t.val - 1) (before t)).2.2
      (outsAt0 m c (t.val - 1) (before t)).1 (ix2 r k)
      = (outsAt0 m c (t.val - 1) (before t)).1 (ix2 r k) + part m c t (ix2 r k) :=
    stepB_at m c t _ _ _ r k (fun i => by rw [← norm_next m c t h, norm_held])
      (fun e => by rw [← comb_next m c t h, comb_held m c hz])
  have hp : ¬(t.val - 1) % 56 = 55 := by omega
  rw [show run m c (t.val - 1) (before t) = (outsAt0 m c (t.val - 1) (before t)).1 from if_neg hp, ← key]
  by_cases h1 : t.val % 56 = 55
  · rw [run, if_pos h1]
  · rw [run, if_neg h1, out_next m c t h h1]

/-- The MoE layer of token `n` before the final norm. -/
def moe (c : Dev nD) (n : Fin 128) : Fin 1024 → EReal :=
  mixed (fun k => hA m c (ix2 n k)) (fun k => gA m c (ix2 1 k)) (fun k e => rA m c (ix3 0 k e))
    (fun e k f => wgA m c (ix4 0 e k f)) (fun e k f => wuA m c (ix4 0 e k f)) (fun e f k => wdA m c (ix4 0 e f k))

/-- The finished sum of a row block. -/
theorem run_last (c : Dev nD) (hz : ∀ n e, Num (zrow m c n e)) (t : Fin cfg0.N) (hf : t.val % 56 = 55) (r : Fin 128) (k : Fin 1024) :
    run m c t.val t.isLt (ix2 r k) = moe m c (tok t r) k := by
  rw [run_sum (run m c) 56 (fun t i => hA m c (ix2 (tok t (i 0)) (i 1))) (part m c)
    (run_first m c hz) (run_next m c hz) t hf (ix2 r k)]
  have e0 : tok ⟨56 * (t.val / 56), Pipeline.run_start_lt t⟩ r = tok t r := tok_start t r
  have e1 : ∀ s : Fin 56, tok ⟨56 * (t.val / 56) + s.val, Pipeline.run_point_lt_of_flush t hf s⟩ r = tok t r := by
    intro s
    refine Fin.ext ?_
    simp only [tok]
    omega
  have e2 : ∀ s : Fin 56, exq ⟨56 * (t.val / 56) + s.val, Pipeline.run_point_lt_of_flush t hf s⟩ = ⟨s.val / 7, by omega⟩ := by
    intro s
    refine Fin.ext ?_
    simp only [exq]
    omega
  have e3 : ∀ (s : Fin 56) (f : Fin 512), chan ⟨56 * (t.val / 56) + s.val, Pipeline.run_point_lt_of_flush t hf s⟩ f
      = ⟨512 * (s.val % 7) + f.val, by omega⟩ := by
    intro s f
    refine Fin.ext ?_
    simp only [chan]
    omega
  unfold moe mixed
  refine congrArg₂ (· + ·) (congrArg (fun n => hA m c (ix2 n k)) e0) ?_
  refine (Finset.sum_congr rfl fun s _ => ?_).trans (sum_steps
    (fun e f => act (xn m c (tok t r)) (fun k f => wgA m c (ix4 0 e k f)) (fun k f => wuA m c (ix4 0 e k f)) f
      * wdA m c (ix4 0 e f k)) (share (zrow m c (tok t r))) (fun e => share_pos _ (hz _) e)
    (fun s f => act (xn m c (tok t r)) (fun k f => wgA m c (ix4 0 ⟨s.val / 7, by omega⟩ k f))
      (fun k f => wuA m c (ix4 0 ⟨s.val / 7, by omega⟩ k f)) ⟨512 * (s.val % 7) + f.val, by omega⟩
      * wdA m c (ix4 0 ⟨s.val / 7, by omega⟩ ⟨512 * (s.val % 7) + f.val, by omega⟩ k))
    (fun s => share (zrow m c (tok t r)) ⟨s.val / 7, by omega⟩) (fun _ => rfl) (fun _ _ => rfl))
  rw [part_at]
  simp only [e1, e2, e3]

/-- A finished row block holds the norm of its tokens' MoE layer. -/
theorem block_at (c : Dev nD) (hz : ∀ n e, Num (zrow m c n e)) (t : Fin cfg0.N) (hf : t.val % 56 = 55) (r : Fin 128) (k : Fin 1024) :
    (outsAt0 m c t.val t.isLt).1 (ix2 r k) = rms (moe m c (tok t r)) (fun k => fgA m c (ix1 k)) k := by
  have e : ∀ i, stepB m c t (outsAt0 m c (t.val - 1) (before t)).2.1 (outsAt0 m c (t.val - 1) (before t)).2.2
      (outsAt0 m c (t.val - 1) (before t)).1 (ix2 r i) = moe m c (tok t r) i := by
    intro i
    rw [← run_last m c hz t hf r i, run, if_pos hf]
  rw [out_last m c t hf, final_norm_at]
  simp only [e, fgB_at]

/-- The result array after the run. -/
theorem final (c : Dev nD) (hz : ∀ n e, Num (zrow m c n e)) (X : Vec Ideal S128x1024 .f32)
    (hX : ∀ n k, X (ix2 n k) = rms (moe m c n) (fun k => fgA m c (ix1 k)) k) :
    (dats m 0 c).arrAt 7 (cfgs 0).N = X := by
  refine (dats m 0 c).arrAt_eq_of_covers 7 _ (by decide +kernel) fun t hf y => ?_
  rw [after0_7]
  have hy : (y : S128x1024.Idx) = ix2 (y 0) (y 1) := by funext a; fin_cases a <;> rfl
  rw [hy]
  refine (block_at m c hz t ((flush0_7 t).mp hf) (y 0) (y 1)).trans ?_
  refine (hX (tok t (y 0)) (y 1)).symm.trans ?_
  unfold tok
  blk_ext [idx t]

end Cert.Kernel8Ideal.Moe

end
-- ==== Proof.SampleMoeRef.lean ====
/-
  The MoE reference's normalised tokens and routing weights, read at one token.
-/
module

public import proofs.«01_k».proof.Proof.Route
public import proofs.«01_k».proof.Proof.Finite
public import proofs.«01_k».proof.Proof.Gen.Reference8Ideal.Read

@[expose] public section

set_option maxRecDepth 16384

noncomputable section

namespace Cert.Reference8Ideal.Moe

open Idealize.ShloMosaic Idealize.ShloMosaic.TcCoe
open Cert.Reference8Ideal Cert.Reference8Ideal.Gen Cert.Reference8Ideal.Read Cert.Layer

variable (x : FVec Ideal S128x1024 .f32) (g : FVec Ideal S2x1024 .f32) (w : FVec Ideal S1x1024x8 .f32)

/-- The normalised tokens. -/
theorem norm_at (n : Fin 128) (k : Fin 1024) :
    val_main_v14 (F := Ideal) x g (ix2 n k) = rms (fun i => x (ix2 n i)) (fun i => g (ix2 1 i)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  simp only [rms, scale, zero_add]

/-- A token's router logits. -/
def row (n : Fin 128) : Fin 8 → EReal :=
  logits (rms (fun i => x (ix2 n i)) fun i => g (ix2 1 i)) fun k e => w (ix3 0 k e)

theorem logits_at (n : Fin 128) (e : Fin 8) : val_main_v19 (F := Ideal) x g w (ix2 n e) = row x g w n e := by
  pointwise [val_main_v19, val_main_v15]
  simp only [norm_at]
  rfl

theorem along_at (n : Fin 128) (j e : Fin 8) :
    Shape.Idx.along (s := S128x8) (ix2 n j) (1 : Fin 2) e = ix2 n e := by
  funext a
  fin_cases a <;> simp [Shape.Idx.along, Function.update] <;> rfl

theorem before_eq (y : FVec Ideal S128x8 .f32) (n : Fin 128) (j : Fin 8) :
    (fun k k' : Fin 8 => FloatOps.cmpfTotal (F := Ideal) (φ := .f32) .gt
        (y (Shape.Idx.along (s := S128x8) (ix2 n j) (1 : Fin 2) k))
        (y (Shape.Idx.along (s := S128x8) (ix2 n j) (1 : Fin 2) k')) == 1#1)
      = above fun e => y (ix2 n e) := by
  funext a b
  rw [along_at, along_at]
  rw [Ideal.cmpfTotal_def]
  unfold above
  by_cases h : y (ix2 n b) < y (ix2 n a)
  · simp [Ideal.cmp, CmpDirection.ordered, h]
  · simp [Ideal.cmp, CmpDirection.ordered, h]

/-- The values of the selection of the two greatest are the row's at the first two places of its ranking. -/
theorem values_at (y : FVec Ideal S128x8 .f32) (n : Fin 128) (k : Fin 2) :
    (Host.topK S128x2 1 (FloatOps.cmpfTotal (F := Ideal) (φ := .f32) .gt) y sliceFits_S128x8_S128x2).1 (ix2 n k)
      = y (ix2 n (sortedFrom (above fun e => y (ix2 n e)) ⟨k.val, by omega⟩)) := by
  have hj : (fun a => ⟨0 + ((ix2 n k : S128x2.Idx) (Fin.cast rfl a)).val,
      Nat.lt_of_lt_of_le (Nat.add_lt_add_left ((ix2 n k : S128x2.Idx) (Fin.cast rfl a)).isLt _)
        (sliceFits_S128x8_S128x2.2 a)⟩ : S128x8.Idx) = ix2 n ⟨k.val, by omega⟩ := by
    funext a
    fin_cases a <;> exact Fin.ext (Nat.zero_add _)
  unfold Host.topK Host.sort2 extractStridedSlice
  simp only [dif_pos (show 1 < S128x8.rank by decide)]
  refine (congrArg (fun j : S128x8.Idx => y (j.along (1 : Fin 2) (sortedFrom (fun k k' : Fin 8 =>
    FloatOps.cmpfTotal (F := Ideal) (φ := .f32) .gt (y (j.along (1 : Fin 2) k)) (y (j.along (1 : Fin 2) k')) == 1#1)
    (j (1 : Fin 2))))) hj).trans ?_
  show y (Shape.Idx.along (s := S128x8) (ix2 n ⟨k.val, _⟩) (1 : Fin 2) _) = _
  rw [before_eq]
  exact congrArg y (along_at n _ _)

/-- Its positions are the words of those places. -/
theorem indices_at (y : FVec Ideal S128x8 .f32) (n : Fin 128) (k : Fin 2) :
    (Host.topK S128x2 1 (FloatOps.cmpfTotal (F := Ideal) (φ := .f32) .gt) y sliceFits_S128x8_S128x2).2 (ix2 n k)
      = BitVec.ofNat 32 (sortedFrom (above fun e => y (ix2 n e)) ⟨k.val, by omega⟩).val := by
  have hj : (fun a => ⟨0 + ((ix2 n k : S128x2.Idx) (Fin.cast rfl a)).val,
      Nat.lt_of_lt_of_le (Nat.add_lt_add_left ((ix2 n k : S128x2.Idx) (Fin.cast rfl a)).isLt _)
        (sliceFits_S128x8_S128x2.2 a)⟩ : S128x8.Idx) = ix2 n ⟨k.val, by omega⟩ := by
    funext a
    fin_cases a <;> exact Fin.ext (Nat.zero_add _)
  unfold Host.topK Host.sort2 extractStridedSlice
  simp only [dif_pos (show 1 < S128x8.rank by decide)]
  refine (congrArg (fun j : S128x8.Idx => BitVec.ofNat 32 ((j.along (1 : Fin 2) (sortedFrom (fun k k' : Fin 8 =>
    FloatOps.cmpfTotal (F := Ideal) (φ := .f32) .gt (y (j.along (1 : Fin 2) k)) (y (j.along (1 : Fin 2) k')) == 1#1)
    (j (1 : Fin 2)))) (1 : Fin 2)).val) hj).trans ?_
  show BitVec.ofNat 32 ((Shape.Idx.along (s := S128x8) (ix2 n ⟨k.val, _⟩) (1 : Fin 2) _) (1 : Fin 2)).val = _
  rw [before_eq]
  exact congrArg (fun i : S128x8.Idx => BitVec.ofNat 32 (i (1 : Fin 2)).val) (along_at n _ _)

theorem row_fun (n : Fin 128) : (fun e => val_main_v19 (F := Ideal) x g w (ix2 n e)) = row x g w n :=
  funext fun e => logits_at x g w n e

theorem value_at (n : Fin 128) (k : Fin 2) :
    val_main_values (F := Ideal) x g w (ix2 n k) = row x g w n (sortedFrom (above (row x g w n)) ⟨k.val, by omega⟩) := by
  unfold val_main_values
  rw [values_at, row_fun, logits_at]

theorem index_at (n : Fin 128) (k : Fin 2) :
    val_main_indices (F := Ideal) x g w (ix2 n k)
      = BitVec.ofNat 32 (sortedFrom (above (row x g w n)) ⟨k.val, by omega⟩).val := by
  unfold val_main_indices
  rw [indices_at, row_fun]

theorem value_zero (n : Fin 128) : val_main_values (F := Ideal) x g w (ix2 n 0) = row x g w n (top (row x g w n)) :=
  value_at x g w n 0

theorem value_one (n : Fin 128) : val_main_values (F := Ideal) x g w (ix2 n 1) = row x g w n (next (row x g w n)) :=
  value_at x g w n 1

theorem index_zero (n : Fin 128) :
    val_main_indices (F := Ideal) x g w (ix2 n 0) = BitVec.ofNat 32 (top (row x g w n)).val := index_at x g w n 0

theorem index_one (n : Fin 128) :
    val_main_indices (F := Ideal) x g w (ix2 n 1) = BitVec.ofNat 32 (next (row x g w n)).val := index_at x g w n 1

theorem bot_bits : Ideal.ofBits .f32 0xFF800000#32 = ⊥ := by
  simp [Ideal.ofBits, Ideal.ieee]

theorem fold_two (b : EReal) (f : Fin 2 → EReal) : (Finset.univ : Finset (Fin 2)).fold max b f = max (f 0) (max (f 1) b) := by
  rw [show (Finset.univ : Finset (Fin 2)) = {0, 1} from by decide, Finset.fold_insert (by decide), Finset.fold_singleton]

/-- The greater of a token's two selected logits. -/
theorem max_at (n : Fin 128) : val_main_v20 (F := Ideal) x g w (ix1 n) = row x g w n (top (row x g w n)) := by
  have e0 : ∀ k : Fin 2, (show S128x2.Reduces [1] S128 by decide).lift (ix1 n) k = (ix2 n k : S128x2.Idx) := by
    intro k
    funext a
    fin_cases a <;> rfl
  unfold val_main_v20
  refine (Host.reduce_eq_fold_single (α := EReal) max _ _ reducesTo_S128x2_S128_d1
    (show S128x2.Reduces [1] S128 by decide) h_S_ (ix1 n)).trans ?_
  refine (fold_two _ _).trans ?_
  simp only [Function.comp]
  rw [e0 0, e0 1, value_zero, value_one]
  show max _ (max _ (Ideal.ofBits .f32 0xFF800000#32)) = _
  rw [bot_bits, max_bot_right, max_eq_left (top_le _ _)]

theorem exp_self {z : EReal} (h : Num z) : Ideal.exp (z - z) = 1 := by
  obtain ⟨r, rfl⟩ := h
  rw [← EReal.coe_sub, sub_self]
  show ((Real.exp 0 : ℝ) : EReal) = 1
  rw [Real.exp_zero]
  rfl

/-- The first place's softmax weight. -/
theorem gate_zero (n : Fin 128) (hz : ∀ e, Num (row x g w n e)) :
    val_main_v30 (F := Ideal) x g w (ix2 n 0) = Ideal.div 1 (1 + odds (row x g w n)) := by
  pointwise [val_main_v30, val_main_v29, val_main_v28, val_main_v27, val_main_v26, val_main_v25, val_main_v24, val_main_v23,
    val_main_v22, val_main_v21, val_main_cst_3, val_main_cst_4]
  simp only [Fin.sum_univ_two, max_at, value_zero, value_one, bot_bits, max_bot_left, exp_self (hz _), zero_add]
  rfl

/-- The second place's. -/
theorem gate_one (n : Fin 128) (hz : ∀ e, Num (row x g w n e)) :
    val_main_v30 (F := Ideal) x g w (ix2 n 1) = odds (row x g w n) * Ideal.div 1 (1 + odds (row x g w n)) := by
  have h2 : (1 + odds (row x g w n)) ≠ 0 := by
    obtain ⟨r, hr, e⟩ := odds_pos _ hz
    rw [e, ← EReal.coe_one, ← EReal.coe_add]
    exact_mod_cast (by positivity : (1 : ℝ) + r ≠ 0)
  rw [Ideal.mul_one_div h2]
  pointwise [val_main_v30, val_main_v29, val_main_v28, val_main_v27, val_main_v26, val_main_v25, val_main_v24, val_main_v23,
    val_main_v22, val_main_v21, val_main_cst_3, val_main_cst_4]
  simp only [Fin.sum_univ_two, max_at, value_zero, value_one, bot_bits, max_bot_left, exp_self (hz _), zero_add]
  rfl

theorem hot_at (a e : Fin 8) :
    FloatOps.uitofp (F := Ideal) .f32 (IntOp.cmpi .eq (BitVec.ofNat 32 a.val) (BitVec.ofNat 32 e.val))
      = if e = a then 1 else 0 := by
  have h : IntOp.cmpi .eq (BitVec.ofNat 32 a.val) (BitVec.ofNat 32 e.val) = if e = a then 1#1 else 0#1 := by
    revert a e
    decide
  rw [h]
  split
  · show ((_ : ℝ) : EReal) = 1
    simp
  · show ((_ : ℝ) : EReal) = 0
    simp

/-- A token's weight of expert `e`. -/
theorem comb_at (n : Fin 128) (hz : ∀ e, Num (row x g w n e)) (e : Fin 8) :
    val_main_v35 (F := Ideal) x g w (ix2 n e) = share (row x g w n) e := by
  pointwise [val_main_v35, val_main_v34, val_main_v33, val_main_v32, val_main_v31, val_main_call0_v4, val_main_call0_v3,
    val_main_call0_v2, val_main_call0_v1, val_main_call0_v0, val_main_cst_5]
  simp only [Fin.sum_univ_two, index_zero, index_one, gate_zero x g w n hz, gate_one x g w n hz]
  rw [hot_at, hot_at]
  simp only [share, ite_mul, one_mul, zero_mul]

end Cert.Reference8Ideal.Moe

end
-- ==== Proof.SampleMoeExperts.lean ====
/-
  The MoE reference's eight experts and its sum over them, read at one token and channel.
-/
module

public import proofs.«01_k».proof.Proof.Route
public import proofs.«01_k».proof.Proof.Gen.Reference8Ideal.Read

@[expose] public section

set_option maxRecDepth 16384

noncomputable section

namespace Cert.Reference8Ideal.Moe

open Idealize.ShloMosaic Idealize.ShloMosaic.TcCoe
open Cert.Reference8Ideal Cert.Reference8Ideal.Read Cert.Layer

variable (x : FVec Ideal S128x1024 .f32) (g : FVec Ideal S2x1024 .f32) (w : FVec Ideal S1x1024x8 .f32)
  (wg wu : FVec Ideal S1x8x1024x3584 .f32) (wd : FVec Ideal S1x8x3584x1024 .f32)

/-- Expert `e`'s output at token `n` and channel `c`, over the normalised tokens. -/
def out (e : Fin 8) (n : Fin 128) (c : Fin 1024) : EReal :=
  expert (fun k => val_main_v14 (F := Ideal) x g (ix2 n k)) (fun e k f => wg (ix4 0 e k f)) (fun e k f => wu (ix4 0 e k f))
    (fun e f c => wd (ix4 0 e f c)) e c

theorem out0_at (n : Fin 128) (c : Fin 1024) :
    val_main_v47 (F := Ideal) x g wg wu wd (ix2 n c) = out x g wg wu wd 0 n c := by
  pointwise [val_main_v47, val_main_v46, val_main_v45, val_main_v44, val_main_v43, val_main_v42, val_main_v41, val_main_v40, val_main_v39, val_main_v38, val_main_v37,
    val_main_v16, val_main_v17, val_main_v18, val_main_call1_v5, val_main_call1_v4, val_main_call1_v3, val_main_call1_v2, val_main_call1_v1, val_main_call1_v0,
    val_main_call1_cst, val_main_call1_cst_0]
  simp only [out, expert, act, gate, logi]

theorem sum0_at (n : Fin 128) (c : Fin 1024) :
    val_main_v51 (F := Ideal) x g w wg wu wd (ix2 n c)
      = 0 + out x g wg wu wd 0 n c * val_main_v35 (F := Ideal) x g w (ix2 n 0) := by
  rw [← out0_at]
  pointwise [val_main_v51, val_main_v50, val_main_v49, val_main_v48, val_main_v36, val_main_cst_6]

theorem out1_at (n : Fin 128) (c : Fin 1024) :
    val_main_v62 (F := Ideal) x g wg wu wd (ix2 n c) = out x g wg wu wd 1 n c := by
  pointwise [val_main_v62, val_main_v61, val_main_v60, val_main_v59, val_main_v58, val_main_v57, val_main_v56, val_main_v55, val_main_v54, val_main_v53, val_main_v52,
    val_main_v16, val_main_v17, val_main_v18, val_main_call2_v5, val_main_call2_v4, val_main_call2_v3, val_main_call2_v2, val_main_call2_v1, val_main_call2_v0,
    val_main_call2_cst, val_main_call2_cst_0]
  simp only [out, expert, act, gate, logi]

theorem sum1_at (n : Fin 128) (c : Fin 1024) :
    val_main_v66 (F := Ideal) x g w wg wu wd (ix2 n c)
      = val_main_v51 (F := Ideal) x g w wg wu wd (ix2 n c) + out x g wg wu wd 1 n c * val_main_v35 (F := Ideal) x g w (ix2 n 1) := by
  rw [← out1_at]
  pointwise [val_main_v66, val_main_v65, val_main_v64, val_main_v63]

theorem out2_at (n : Fin 128) (c : Fin 1024) :
    val_main_v77 (F := Ideal) x g wg wu wd (ix2 n c) = out x g wg wu wd 2 n c := by
  pointwise [val_main_v77, val_main_v76, val_main_v75, val_main_v74, val_main_v73, val_main_v72, val_main_v71, val_main_v70, val_main_v69, val_main_v68, val_main_v67,
    val_main_v16, val_main_v17, val_main_v18, val_main_call3_v5, val_main_call3_v4, val_main_call3_v3, val_main_call3_v2, val_main_call3_v1, val_main_call3_v0,
    val_main_call3_cst, val_main_call3_cst_0]
  simp only [out, expert, act, gate, logi]

theorem sum2_at (n : Fin 128) (c : Fin 1024) :
    val_main_v81 (F := Ideal) x g w wg wu wd (ix2 n c)
      = val_main_v66 (F := Ideal) x g w wg wu wd (ix2 n c) + out x g wg wu wd 2 n c * val_main_v35 (F := Ideal) x g w (ix2 n 2) := by
  rw [← out2_at]
  pointwise [val_main_v81, val_main_v80, val_main_v79, val_main_v78]

theorem out3_at (n : Fin 128) (c : Fin 1024) :
    val_main_v92 (F := Ideal) x g wg wu wd (ix2 n c) = out x g wg wu wd 3 n c := by
  pointwise [val_main_v92, val_main_v91, val_main_v90, val_main_v89, val_main_v88, val_main_v87, val_main_v86, val_main_v85, val_main_v84, val_main_v83, val_main_v82,
    val_main_v16, val_main_v17, val_main_v18, val_main_call4_v5, val_main_call4_v4, val_main_call4_v3, val_main_call4_v2, val_main_call4_v1, val_main_call4_v0,
    val_main_call4_cst, val_main_call4_cst_0]
  simp only [out, expert, act, gate, logi]

theorem sum3_at (n : Fin 128) (c : Fin 1024) :
    val_main_v96 (F := Ideal) x g w wg wu wd (ix2 n c)
      = val_main_v81 (F := Ideal) x g w wg wu wd (ix2 n c) + out x g wg wu wd 3 n c * val_main_v35 (F := Ideal) x g w (ix2 n 3) := by
  rw [← out3_at]
  pointwise [val_main_v96, val_main_v95, val_main_v94, val_main_v93]

theorem out4_at (n : Fin 128) (c : Fin 1024) :
    val_main_v107 (F := Ideal) x g wg wu wd (ix2 n c) = out x g wg wu wd 4 n c := by
  pointwise [val_main_v107, val_main_v106, val_main_v105, val_main_v104, val_main_v103, val_main_v102, val_main_v101, val_main_v100, val_main_v99, val_main_v98, val_main_v97,
    val_main_v16, val_main_v17, val_main_v18, val_main_call5_v5, val_main_call5_v4, val_main_call5_v3, val_main_call5_v2, val_main_call5_v1, val_main_call5_v0,
    val_main_call5_cst, val_main_call5_cst_0]
  simp only [out, expert, act, gate, logi]

theorem sum4_at (n : Fin 128) (c : Fin 1024) :
    val_main_v111 (F := Ideal) x g w wg wu wd (ix2 n c)
      = val_main_v96 (F := Ideal) x g w wg wu wd (ix2 n c) + out x g wg wu wd 4 n c * val_main_v35 (F := Ideal) x g w (ix2 n 4) := by
  rw [← out4_at]
  pointwise [val_main_v111, val_main_v110, val_main_v109, val_main_v108]

theorem out5_at (n : Fin 128) (c : Fin 1024) :
    val_main_v122 (F := Ideal) x g wg wu wd (ix2 n c) = out x g wg wu wd 5 n c := by
  pointwise [val_main_v122, val_main_v121, val_main_v120, val_main_v119, val_main_v118, val_main_v117, val_main_v116, val_main_v115, val_main_v114, val_main_v113, val_main_v112,
    val_main_v16, val_main_v17, val_main_v18, val_main_call6_v5, val_main_call6_v4, val_main_call6_v3, val_main_call6_v2, val_main_call6_v1, val_main_call6_v0,
    val_main_call6_cst, val_main_call6_cst_0]
  simp only [out, expert, act, gate, logi]

theorem sum5_at (n : Fin 128) (c : Fin 1024) :
    val_main_v126 (F := Ideal) x g w wg wu wd (ix2 n c)
      = val_main_v111 (F := Ideal) x g w wg wu wd (ix2 n c) + out x g wg wu wd 5 n c * val_main_v35 (F := Ideal) x g w (ix2 n 5) := by
  rw [← out5_at]
  pointwise [val_main_v126, val_main_v125, val_main_v124, val_main_v123]

theorem out6_at (n : Fin 128) (c : Fin 1024) :
    val_main_v137 (F := Ideal) x g wg wu wd (ix2 n c) = out x g wg wu wd 6 n c := by
  pointwise [val_main_v137, val_main_v136, val_main_v135, val_main_v134, val_main_v133, val_main_v132, val_main_v131, val_main_v130, val_main_v129, val_main_v128, val_main_v127,
    val_main_v16, val_main_v17, val_main_v18, val_main_call7_v5, val_main_call7_v4, val_main_call7_v3, val_main_call7_v2, val_main_call7_v1, val_main_call7_v0,
    val_main_call7_cst, val_main_call7_cst_0]
  simp only [out, expert, act, gate, logi]

theorem sum6_at (n : Fin 128) (c : Fin 1024) :
    val_main_v141 (F := Ideal) x g w wg wu wd (ix2 n c)
      = val_main_v126 (F := Ideal) x g w wg wu wd (ix2 n c) + out x g wg wu wd 6 n c * val_main_v35 (F := Ideal) x g w (ix2 n 6) := by
  rw [← out6_at]
  pointwise [val_main_v141, val_main_v140, val_main_v139, val_main_v138]

theorem out7_at (n : Fin 128) (c : Fin 1024) :
    val_main_v152 (F := Ideal) x g wg wu wd (ix2 n c) = out x g wg wu wd 7 n c := by
  pointwise [val_main_v152, val_main_v151, val_main_v150, val_main_v149, val_main_v148, val_main_v147, val_main_v146, val_main_v145, val_main_v144, val_main_v143, val_main_v142,
    val_main_v16, val_main_v17, val_main_v18, val_main_call8_v5, val_main_call8_v4, val_main_call8_v3, val_main_call8_v2, val_main_call8_v1, val_main_call8_v0,
    val_main_call8_cst, val_main_call8_cst_0]
  simp only [out, expert, act, gate, logi]

theorem sum7_at (n : Fin 128) (c : Fin 1024) :
    val_main_v156 (F := Ideal) x g w wg wu wd (ix2 n c)
      = val_main_v141 (F := Ideal) x g w wg wu wd (ix2 n c) + out x g wg wu wd 7 n c * val_main_v35 (F := Ideal) x g w (ix2 n 7) := by
  rw [← out7_at]
  pointwise [val_main_v156, val_main_v155, val_main_v154, val_main_v153]

/-- The token plus its experts' outputs by their weights. -/
theorem total_at (n : Fin 128) (c : Fin 1024) :
    val_main_v157 (F := Ideal) x g w wg wu wd (ix2 n c)
      = x (ix2 n c) + ∑ e : Fin 8, out x g wg wu wd e n c * val_main_v35 (F := Ideal) x g w (ix2 n e) := by
  rw [val_main_v157_apply, sum7_at, sum6_at, sum5_at, sum4_at, sum3_at, sum2_at, sum1_at, sum0_at, Fin.sum_univ_eight,
    zero_add]
  rfl

/-- The result is the final norm of that. -/
theorem final_at (fg : FVec Ideal S1024 .f32) (n : Fin 128) (c : Fin 1024) :
    val_main_v170 (F := Ideal) x g w wg wu wd fg (ix2 n c)
      = rms (fun k => val_main_v157 (F := Ideal) x g w wg wu wd (ix2 n k)) (fun k => fg (ix1 k)) c := by
  pointwise [val_main_v170, val_main_v169, val_main_v168, val_main_v167, val_main_v166, val_main_v165, val_main_v164,
    val_main_v163, val_main_v162, val_main_v161, val_main_v160, val_main_v159, val_main_v158, val_main_cst_7, val_main_cst_8,
    val_main_cst_9]
  simp only [rms, scale, zero_add]

end Cert.Reference8Ideal.Moe

end
-- ==== Proof.SampleMoeTie.lean ====
/-
  The MoE kernel against its reference: for finite tokens, norm weights and router weights both results are the final norm
  of each token plus its two experts' outputs by their weights.
-/
module

public import proofs.«01_k».proof.Defs
public import proofs.«01_k».proof.Proof.SampleMoeValue
public import proofs.«01_k».proof.Proof.SampleMoeRef
public import proofs.«01_k».proof.Proof.SampleMoeExperts
public import proofs.«01_k».proof.Proof.Gen.Pre_finite_sample

@[expose] public section

set_option maxRecDepth 16384

noncomputable section

namespace Cert.Reference8Ideal.Moe

open Idealize.ShloMosaic Idealize.ShloMosaic.TcCoe
open Cert.Reference8Ideal Cert.Reference8Ideal.Read Cert.Layer

/-- The reference's result at a token and channel. -/
theorem result_eq (x : FVec Ideal S128x1024 .f32) (g : FVec Ideal S2x1024 .f32) (w : FVec Ideal S1x1024x8 .f32)
    (wg wu : FVec Ideal S1x8x1024x3584 .f32) (wd : FVec Ideal S1x8x3584x1024 .f32) (fg : FVec Ideal S1024 .f32)
    (n : Fin 128) (hz : ∀ e, Num (row x g w n e)) (c : Fin 1024) :
    val_main_v170 (F := Ideal) x g w wg wu wd fg (ix2 n c)
      = rms (mixed (fun k => x (ix2 n k)) (fun k => g (ix2 1 k)) (fun k e => w (ix3 0 k e)) (fun e k f => wg (ix4 0 e k f))
          (fun e k f => wu (ix4 0 e k f)) fun e f c => wd (ix4 0 e f c)) (fun k => fg (ix1 k)) c := by
  rw [final_at]
  refine congrArg (fun y => rms y (fun k => fg (ix1 k)) c) (funext fun k => ?_)
  rw [total_at]
  simp only [comb_at x g w n hz, out, norm_at]
  rfl

end Cert.Reference8Ideal.Moe

namespace Cert.SampleMoeTie

open Idealize.ShloMosaic Idealize.ShloMosaic.TcCoe Cert.Layer
open Cert.Kernel8Ideal.Moe

variable (m : (ℓ : Loc Cert.Kernel8Ideal.nD Cert.Kernel8Ideal.τ Cert.Kernel8Ideal.sig) → Buf (Elt Ideal) ℓ)

theorem top_bits : Ideal.ofBits .f32 0x7F800000#32 = ⊤ := by
  simp [Ideal.ofBits, Ideal.ieee]

theorem num_of_flag {a : EReal} (h : Ideal.cmp .olt (max a (-a)) (Ideal.ofBits .f32 0x7F800000#32) = 1#1) : Num a := by
  rw [top_bits] at h
  refine num_of_abs ?_
  by_contra hn
  simp [Ideal.cmp, hn] at h

/-- Finite arguments have finite router logits. -/
theorem finite (hm : Cert.Pre_Kernel8Ideal_finite_sample m) (c : Dev Cert.Kernel8Ideal.nD) (n : Fin 128) (e : Fin 8) :
    Num (zrow m c n e) := by
  obtain ⟨h0, h1, h2⟩ := hm c
  refine logits_num _ _ _ (fun k => ?_) (fun k => ?_) (fun k e => ?_) e
  · exact num_of_flag (congrFun h0 (ix2 n k))
  · exact num_of_flag (congrFun h1 (ix2 1 k))
  · exact num_of_flag (congrFun h2 (ix3 0 k e))

/-- What the kernel's run leaves in its result is the reference's function of the kernel's arguments. -/
theorem value (hm : Cert.Pre_Kernel8Ideal_finite_sample m) (c : Dev Cert.Kernel8Ideal.nD) :
    Cert.Kernel8Ideal.Value.G7 (F := Ideal) m c
      = Cert.Reference8Ideal.Read.val_main_v170 (F := Ideal) (hA m c) (gA m c) (rA m c) (wgA m c) (wuA m c) (wdA m c)
          (fgA m c) := by
  refine (Cert.Kernel8Ideal.Value.final7 m c).symm.trans ?_
  exact Cert.Kernel8Ideal.Moe.final m c (finite m hm c) _ fun n k =>
    Cert.Reference8Ideal.Moe.result_eq _ _ _ _ _ _ _ n (finite m hm c n) k

end Cert.SampleMoeTie

end
-- ==== Proof.lean ====
/-
  The certificate. A frame claim is the program's generated frame run, or, for a reference, its run weakened (it declares
  no semaphore, so the counters are zero). A value claim puts the kernel's run beside the reference's and closes the
  equation of the two results by the module of that call.
-/
module

public import proofs.«01_k».proof.Defs
public import proofs.«01_k».proof.Proof.DenseTie
public import proofs.«01_k».proof.Proof.MoeTie
public import proofs.«01_k».proof.Proof.MemkvTie
public import proofs.«01_k».proof.Proof.EvenFrame
public import proofs.«01_k».proof.Proof.EvenTie
public import proofs.«01_k».proof.Proof.OddTie
public import proofs.«01_k».proof.Proof.SampleEvenFrame
public import proofs.«01_k».proof.Proof.SampleEvenTie
public import proofs.«01_k».proof.Proof.SampleOddTie
public import proofs.«01_k».proof.Proof.SampleMoeTie
public import proofs.«01_k».proof.Proof.Gen.Pre_finite_tokens
public import proofs.«01_k».proof.Proof.Gen.Kernel.Frame
public import proofs.«01_k».proof.Proof.Gen.Kernel2.Frame
public import proofs.«01_k».proof.Proof.Gen.Kernel2Ideal.Value
public import proofs.«01_k».proof.Proof.Gen.KernelIdeal.Value
public import proofs.«01_k».proof.Proof.Gen.Reference2Ideal.Run
public import proofs.«01_k».proof.Proof.Gen.ReferenceIdeal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Pre_finite_sample
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Reference2Ideal.Read.val_main_v23_eq (F := Ideal) _ _ _ _ _).trans (Cert.DenseTie.value m c).symm

theorem algebraic_KernelIdeal_ReferenceIdeal_pre_finite_tokens : algebraic_KernelIdeal_ReferenceIdeal_pre_finite_tokens := by
  intro m ρ m' ρ' hm hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6⟩ := hagree c
  refine (h c).1.trans ((Cert.ReferenceIdeal.Read.val_main_v170_eq (F := Ideal) _).trans
    (Eq.trans ?_ (Cert.MoeTie.value m hm c).symm))
  exact congr (congr (congr (congr (congr (congr (congrArg Cert.ReferenceIdeal.Read.val_main_v170 a0) a1) a2) a3) a4) a5) a6

theorem quiescent_ReferenceIdeal_pre_finite_tokens : quiescent_ReferenceIdeal_pre_finite_tokens := fun m ρ _ =>
  quiescent_ReferenceIdeal m ρ trivial

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    fun c => (Cert.Kernel4Ideal.Gen.dats m 0 c).arrAt 12 Cert.Kernel4Ideal.cfg0.N, fun c => (Cert.Kernel4Ideal.Gen.dats m 0 c).arrAt 13 Cert.Kernel4Ideal.cfg0.N,
    fun c => (Cert.Kernel4Ideal.Gen.dats m 0 c).arrAt 14 Cert.Kernel4Ideal.cfg0.N, ?_, ?_⟩
  · exact (θ_run Cert.Kernel4Ideal.defs _ _).mono (fun _ h c => ⟨Cert.Kernel4Ideal.Gen.final_7 m h c, Cert.Kernel4Ideal.Gen.final_8 m h c,
      Cert.Kernel4Ideal.Gen.final_12 m h c, Cert.Kernel4Ideal.Gen.final_13 m h c, Cert.Kernel4Ideal.Gen.final_14 m h c,
      Cert.Kernel4Ideal.Gen.args_kept m h c⟩) (Cert.Kernel4Ideal.Gen.run_main (F := Ideal) m ρ)
  refine (θ_run Cert.Reference4Ideal.defs _ _).mono (fun _ h c => ⟨?_, ?_, ?_, ?_, ?_, (h c).2.2.2.2.2⟩) (Cert.Reference4Ideal.Value.run (F := Ideal) m' ρ')
  · obtain ⟨a0, a1, a2, a3, a4, a5⟩ := hagree c
    exact (h c).1.trans ((Cert.Reference4Ideal.Read.val_main_v43_eq (F := Ideal) _ _ _).trans
      (Eq.trans (congr (congr (congrArg Cert.Reference4Ideal.Read.val_main_v43 a0) a1) a2) (Cert.EvenTie.fk m c).symm))
  · obtain ⟨a0, a1, a2, a3, a4, a5⟩ := hagree c
    exact (h c).2.1.trans ((Cert.Reference4Ideal.Read.val_main_v44_eq (F := Ideal) _ _ _).trans
      (Eq.trans (congr (congr (congrArg Cert.Reference4Ideal.Read.val_main_v44 a0) a1) a2) (Cert.EvenTie.fv m c).symm))
  · obtain ⟨a0, a1, a2, a3, a4, a5⟩ := hagree c
    exact (h c).2.2.1.trans ((Cert.Reference4Ideal.Read.val_main_v46_eq (F := Ideal) _ _ _).trans
      (Eq.trans (congr (congr (congrArg Cert.Reference4Ideal.Read.val_main_v46 a0) a1) a2) (Cert.EvenTie.mv m c).symm))
  · obtain ⟨a0, a1, a2, a3, a4, a5⟩ := hagree c
    exact (h c).2.2.2.1.trans ((Cert.Reference4Ideal.Read.val_main_v48_eq (F := Ideal) _ _ _).trans
      (Eq.trans (congr (congr (congrArg Cert.Reference4Ideal.Read.val_main_v48 a0) a1) a2) (Cert.EvenTie.mo m c).symm))
  · obtain ⟨a0, a1, a2, a3, a4, a5⟩ := hagree c
    exact (h c).2.2.2.2.1.trans ((Cert.Reference4Ideal.Read.val_main_v49_eq (F := Ideal) _ c).trans
      (Eq.trans (congr (congr (congr (congr (congr (congrArg Cert.Reference4Ideal.Read.val_main_v49 a0) a1) a2) a3) a4) a5) (Cert.EvenTie.gates m c).symm))

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    fun c => (Cert.Kernel6Ideal.Gen.dats m 0 c).arrAt 12 Cert.Kernel6Ideal.cfg0.N, fun c => (Cert.Kernel6Ideal.Gen.dats m 0 c).arrAt 13 Cert.Kernel6Ideal.cfg0.N,
    fun c => (Cert.Kernel6Ideal.Gen.dats m 0 c).arrAt 14 Cert.Kernel6Ideal.cfg0.N, ?_, ?_⟩
  · exact (θ_run Cert.Kernel6Ideal.defs _ _).mono (fun _ h c => ⟨Cert.Kernel6Ideal.Gen.final_7 m h c, Cert.Kernel6Ideal.Gen.final_8 m h c,
      Cert.Kernel6Ideal.Gen.final_12 m h c, Cert.Kernel6Ideal.Gen.final_13 m h c, Cert.Kernel6Ideal.Gen.final_14 m h c,
      Cert.Kernel6Ideal.Gen.args_kept m h c⟩) (Cert.Kernel6Ideal.Gen.run_main (F := Ideal) m ρ)
  refine (θ_run Cert.Reference6Ideal.defs _ _).mono (fun _ h c => ⟨?_, ?_, ?_, ?_, ?_, (h c).2.2.2.2.2⟩) (Cert.Reference6Ideal.Value.run (F := Ideal) m' ρ')
  · obtain ⟨a0, a1, a2, a3, a4, a5, a6⟩ := hagree c
    exact (h c).1.trans ((Cert.Reference6Ideal.Read.val_main_v43_eq (F := Ideal) _ _ _).trans
      (Eq.trans (congr (congr (congrArg Cert.Reference6Ideal.Read.val_main_v43 a0) a1) a2) (Cert.SampleEvenTie.fk m c).symm))
  · obtain ⟨a0, a1, a2, a3, a4, a5, a6⟩ := hagree c
    exact (h c).2.1.trans ((Cert.Reference6Ideal.Read.val_main_v44_eq (F := Ideal) _ _ _).trans
      (Eq.trans (congr (congr (congrArg Cert.Reference6Ideal.Read.val_main_v44 a0) a1) a2) (Cert.SampleEvenTie.fv m c).symm))
  · obtain ⟨a0, a1, a2, a3, a4, a5, a6⟩ := hagree c
    exact (h c).2.2.1.trans ((Cert.Reference6Ideal.Read.val_main_v46_eq (F := Ideal) _ _ _).trans
      (Eq.trans (congr (congr (congrArg Cert.Reference6Ideal.Read.val_main_v46 a0) a1) a2) (Cert.SampleEvenTie.mv m c).symm))
  · obtain ⟨a0, a1, a2, a3, a4, a5, a6⟩ := hagree c
    exact (h c).2.2.2.1.trans ((Cert.Reference6Ideal.Read.val_main_v48_eq (F := Ideal) _ _ _).trans
      (Eq.trans (congr (congr (congrArg Cert.Reference6Ideal.Read.val_main_v48 a0) a1) a2) (Cert.SampleEvenTie.mo m c).symm))
  · obtain ⟨a0, a1, a2, a3, a4, a5, a6⟩ := hagree c
    exact (h c).2.2.2.2.1.trans ((Cert.Reference6Ideal.Read.val_main_v49_eq (F := Ideal) _ c).trans
      (Eq.trans (congr (congr (congr (congr (congr (congrArg Cert.Reference6Ideal.Read.val_main_v49 a0) a1) a2) a3) a4) a5) (Cert.SampleEvenTie.gates m c).symm))

theorem quiescent_Reference7Ideal : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem quiescent_Reference8Ideal_pre_finite_sample : quiescent_Reference8Ideal_pre_finite_sample := fun m ρ _ =>
  quiescent_Reference8Ideal m ρ trivial

theorem algebraic_Kernel8Ideal_Reference8Ideal_pre_finite_sample : algebraic_Kernel8Ideal_Reference8Ideal_pre_finite_sample := by
  intro m ρ m' ρ' hm hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  obtain ⟨a0, a1, a2, a3, a4, a5, a6⟩ := hagree c
  refine (h c).1.trans ((Cert.Reference8Ideal.Read.val_main_v170_eq (F := Ideal) _).trans
    (Eq.trans ?_ (Cert.SampleMoeTie.value m hm c).symm))
  exact congr (congr (congr (congr (congr (congr (congrArg Cert.Reference8Ideal.Read.val_main_v170 a0) a1) a2) a3) a4) a5) a6

theorem algebraic_Kernel3Ideal_Reference3Ideal : algebraic_Kernel3Ideal_Reference3Ideal := by
  intro m ρ m' ρ' _ hagree
  refine ⟨_, _, (θ_run Cert.Kernel3Ideal.defs _ _).mono
    (fun _ h c => ⟨(h c).1, (h c).2.1, (h c).2.2.2.2⟩) (Cert.Kernel3Ideal.Value.run_blocks (F := Ideal) m ρ), ?_⟩
  refine (θ_run Cert.Reference3Ideal.defs _ _).mono (fun _ h c => ⟨?_, ?_, (h c).2.2⟩) (Cert.Reference3Ideal.Value.run (F := Ideal) m' ρ')
  · obtain ⟨a0, a1, a2, a3⟩ := hagree c
    exact (h c).1.trans ((Cert.Reference3Ideal.Read.val_main_v48_eq (F := Ideal) _ _ _).trans
      (Eq.trans (congr (congr (congrArg Cert.Reference3Ideal.Read.val_main_v48 a0) a1) a2) (Cert.MemkvTie.keys m c).symm))
  · obtain ⟨a0, a1, a2, a3⟩ := hagree c
    exact (h c).2.1.trans ((Cert.Reference3Ideal.Read.val_main_v51_eq (F := Ideal) _ _ _).trans
      (Eq.trans (congr (congr (congrArg Cert.Reference3Ideal.Read.val_main_v51 a0) a1) a3) (Cert.MemkvTie.values m c).symm))

theorem algebraic_Kernel5Ideal_Reference5Ideal : algebraic_Kernel5Ideal_Reference5Ideal := by
  intro m ρ m' ρ' _ hagree
  refine ⟨_, _, Cert.Kernel5Ideal.Value.run (F := Ideal) m ρ, ?_⟩
  refine (θ_run Cert.Reference5Ideal.defs _ _).mono (fun _ h c => ⟨?_, ?_, (h c).2.2⟩) (Cert.Reference5Ideal.Value.run (F := Ideal) m' ρ')
  · obtain ⟨a0, a1, a2, a3, a4⟩ := hagree c
    exact (h c).1.trans ((Cert.Reference5Ideal.Read.val_main_v48_eq (F := Ideal) _ _).trans
      (Eq.trans (congr (congr (congr (congr (congrArg Cert.Reference5Ideal.Read.val_main_v48 a0) a1) a2) a3) a4) (Cert.OddTie.out m c).symm))
  · obtain ⟨a0, a1, a2, a3, a4⟩ := hagree c
    exact (h c).2.1.trans ((Cert.Reference5Ideal.Read.val_main_v47_eq (F := Ideal) _ _ _).trans
      (Eq.trans (congr (congr (congrArg Cert.Reference5Ideal.Read.val_main_v47 a0) a1) a2) (Cert.OddTie.state m c).symm))

theorem algebraic_Kernel7Ideal_Reference7Ideal : algebraic_Kernel7Ideal_Reference7Ideal := by
  intro m ρ m' ρ' _ hagree
  refine ⟨_, _, Cert.Kernel7Ideal.Value.run_blocks (F := Ideal) m ρ, ?_⟩
  refine (θ_run Cert.Reference7Ideal.defs _ _).mono (fun _ h c => ⟨?_, ?_, (h c).2.2⟩) (Cert.Reference7Ideal.Value.run (F := Ideal) m' ρ')
  · obtain ⟨a0, a1, a2, a3, a4, a5⟩ := hagree c
    exact (h c).1.trans ((Cert.Reference7Ideal.Read.val_main_v48_eq (F := Ideal) _ _).trans
      (Eq.trans (congr (congr (congr (congr (congr (congrArg Cert.Reference7Ideal.Read.val_main_v48 a0) a1) a2) a3) a4) a5) (Cert.SampleOddTie.out m c).symm))
  · obtain ⟨a0, a1, a2, a3, a4, a5⟩ := hagree c
    exact (h c).2.1.trans ((Cert.Reference7Ideal.Read.val_main_v47_eq (F := Ideal) _ _ _ _).trans
      (Eq.trans (congr (congr (congr (congrArg Cert.Reference7Ideal.Read.val_main_v47 a0) a1) a2) a5) (Cert.SampleOddTie.state m c).symm))

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_tokens.Gen.facts, Cert.Pre_finite_sample.Gen.facts,
  fun m ρ _ => Cert.Kernel.Gen.frame m ρ, fun m ρ _ => Cert.KernelIdeal.Gen.frame m ρ,
  fun m ρ _ => Cert.KernelIdeal.Gen.frame m ρ, quiescent_ReferenceIdeal,
  quiescent_ReferenceIdeal_pre_finite_tokens, fun m ρ _ => Cert.Kernel2.Gen.frame m ρ,
  fun m ρ _ => Cert.Kernel2Ideal.Gen.frame m ρ, quiescent_Reference2Ideal,
  fun m ρ _ => Cert.Kernel3.Gen.frame m ρ, fun m ρ _ => Cert.Kernel3Ideal.Gen.frame m ρ,
  quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ,
  fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ,
  quiescent_Reference7Ideal, fun m ρ _ => Cert.Kernel8.Gen.frame m ρ,
  fun m ρ _ => Cert.Kernel8Ideal.Gen.frame m ρ, fun m ρ _ => Cert.Kernel8Ideal.Gen.frame m ρ,
  quiescent_Reference8Ideal, quiescent_Reference8Ideal_pre_finite_sample,
  (trivial : preserves_Kernel_KernelIdeal), algebraic_KernelIdeal_ReferenceIdeal_pre_finite_tokens,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal_pre_finite_sample⟩

end Cert.Proof

end
